-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_MmU (m : (ℓ : Loc Cert.MmU.nD Cert.MmU.τ Cert.MmU.sig) → Buf (Elt Bits) ℓ) : Prop :=
  True

def Pre_MmUIdeal (m : (ℓ : Loc Cert.MmUIdeal.nD Cert.MmUIdeal.τ Cert.MmUIdeal.sig) → Buf (Elt Ideal) ℓ) : Prop :=
  True

def Pre_MmURefIdeal (m : (ℓ : Loc Cert.MmURefIdeal.nD Cert.MmURefIdeal.τ Cert.MmURefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_DyFirst (m : (ℓ : Loc Cert.DyFirst.nD Cert.DyFirst.τ Cert.DyFirst.sig) → Buf (Elt Bits) ℓ) : Prop :=
  True

def Pre_DyFirstIdeal (m : (ℓ : Loc Cert.DyFirstIdeal.nD Cert.DyFirstIdeal.τ Cert.DyFirstIdeal.sig) → Buf (Elt Ideal) ℓ) : Prop :=
  True

def Pre_DyFirstRefIdeal (m : (ℓ : Loc Cert.DyFirstRefIdeal.nD Cert.DyFirstRefIdeal.τ Cert.DyFirstRefIdeal.sig) → Buf (Elt Ideal) ℓ) : Prop :=
  True

def Pre_DwInTop (m : (ℓ : Loc Cert.DwInTop.nD Cert.DwInTop.τ Cert.DwInTop.sig) → Buf (Elt Bits) ℓ) : Prop :=
  True

def Pre_DwInTopIdeal (m : (ℓ : Loc Cert.DwInTopIdeal.nD Cert.DwInTopIdeal.τ Cert.DwInTopIdeal.sig) → Buf (Elt Ideal) ℓ) : Prop :=
  True

def Pre_DwInTopRefIdeal (m : (ℓ : Loc Cert.DwInTopRefIdeal.nD Cert.DwInTopRefIdeal.τ Cert.DwInTopRefIdeal.sig) → Buf (Elt Ideal) ℓ) : Prop :=
  True

def Pre_DwInLow (m : (ℓ : Loc Cert.DwInLow.nD Cert.DwInLow.τ Cert.DwInLow.sig) → Buf (Elt Bits) ℓ) : Prop :=
  True

def Pre_DwInLowIdeal (m : (ℓ : Loc Cert.DwInLowIdeal.nD Cert.DwInLowIdeal.τ Cert.DwInLowIdeal.sig) → Buf (Elt Ideal) ℓ) : Prop :=
  True

def Pre_DwInLowRefIdeal (m : (ℓ : Loc Cert.DwInLowRefIdeal.nD Cert.DwInLowRefIdeal.τ Cert.DwInLowRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_SumLate (m : (ℓ : Loc Cert.SumLate.nD Cert.SumLate.τ Cert.SumLate.sig) → Buf (Elt Bits) ℓ) : Prop :=
  True

def Pre_SumLateIdeal (m : (ℓ : Loc Cert.SumLateIdeal.nD Cert.SumLateIdeal.τ Cert.SumLateIdeal.sig) → Buf (Elt Ideal) ℓ) : Prop :=
  True

def Pre_SumLateRefIdeal (m : (ℓ : Loc Cert.SumLateRefIdeal.nD Cert.SumLateRefIdeal.τ Cert.SumLateRefIdeal.sig) → Buf (Elt Ideal) ℓ) : Prop :=
  True

def Pre_SumVec (m : (ℓ : Loc Cert.SumVec.nD Cert.SumVec.τ Cert.SumVec.sig) → Buf (Elt Bits) ℓ) : Prop :=
  True

def Pre_SumVecIdeal (m : (ℓ : Loc Cert.SumVecIdeal.nD Cert.SumVecIdeal.τ Cert.SumVecIdeal.sig) → Buf (Elt Ideal) ℓ) : Prop :=
  True

def Pre_SumVecRefIdeal (m : (ℓ : Loc Cert.SumVecRefIdeal.nD Cert.SumVecRefIdeal.τ Cert.SumVecRefIdeal.sig) → Buf (Elt Ideal) ℓ) : Prop :=
  True

def Pre_SumMaps (m : (ℓ : Loc Cert.SumMaps.nD Cert.SumMaps.τ Cert.SumMaps.sig) → Buf (Elt Bits) ℓ) : Prop :=
  True

def Pre_SumMapsIdeal (m : (ℓ : Loc Cert.SumMapsIdeal.nD Cert.SumMapsIdeal.τ Cert.SumMapsIdeal.sig) → Buf (Elt Ideal) ℓ) : Prop :=
  True

def Pre_SumMapsRefIdeal (m : (ℓ : Loc Cert.SumMapsRefIdeal.nD Cert.SumMapsRefIdeal.τ Cert.SumMapsRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_AdamOutLate (m : (ℓ : Loc Cert.AdamOutLate.nD Cert.AdamOutLate.τ Cert.AdamOutLate.sig) → Buf (Elt Bits) ℓ) : Prop :=
  True

def Pre_AdamOutLateIdeal (m : (ℓ : Loc Cert.AdamOutLateIdeal.nD Cert.AdamOutLateIdeal.τ Cert.AdamOutLateIdeal.sig) → Buf (Elt Ideal) ℓ) : Prop :=
  True

def Pre_AdamOutLateRefIdeal (m : (ℓ : Loc Cert.AdamOutLateRefIdeal.nD Cert.AdamOutLateRefIdeal.τ Cert.AdamOutLateRefIdeal.sig) → Buf (Elt Ideal) ℓ) : Prop :=
  True

def Pre_AdamOutEarly (m : (ℓ : Loc Cert.AdamOutEarly.nD Cert.AdamOutEarly.τ Cert.AdamOutEarly.sig) → Buf (Elt Bits) ℓ) : Prop :=
  True

def Pre_AdamOutEarlyIdeal (m : (ℓ : Loc Cert.AdamOutEarlyIdeal.nD Cert.AdamOutEarlyIdeal.τ Cert.AdamOutEarlyIdeal.sig) → Buf (Elt Ideal) ℓ) : Prop :=
  True

def Pre_AdamOutEarlyRefIdeal (m : (ℓ : Loc Cert.AdamOutEarlyRefIdeal.nD Cert.AdamOutEarlyRefIdeal.τ Cert.AdamOutEarlyRefIdeal.sig) → Buf (Elt Ideal) ℓ) : Prop :=
  True

def Pre_AdamInLate (m : (ℓ : Loc Cert.AdamInLate.nD Cert.AdamInLate.τ Cert.AdamInLate.sig) → Buf (Elt Bits) ℓ) : Prop :=
  True

def Pre_AdamInLateIdeal (m : (ℓ : Loc Cert.AdamInLateIdeal.nD Cert.AdamInLateIdeal.τ Cert.AdamInLateIdeal.sig) → Buf (Elt Ideal) ℓ) : Prop :=
  True

def Pre_AdamInLateRefIdeal (m : (ℓ : Loc Cert.AdamInLateRefIdeal.nD Cert.AdamInLateRefIdeal.τ Cert.AdamInLateRefIdeal.sig) → Buf (Elt Ideal) ℓ) : Prop :=
  True

def Pre_AdamInTop (m : (ℓ : Loc Cert.AdamInTop.nD Cert.AdamInTop.τ Cert.AdamInTop.sig) → Buf (Elt Bits) ℓ) : Prop :=
  True

def Pre_AdamInTopIdeal (m : (ℓ : Loc Cert.AdamInTopIdeal.nD Cert.AdamInTopIdeal.τ Cert.AdamInTopIdeal.sig) → Buf (Elt Ideal) ℓ) : Prop :=
  True

def Pre_AdamInTopRefIdeal (m : (ℓ : Loc Cert.AdamInTopRefIdeal.nD Cert.AdamInTopRefIdeal.τ Cert.AdamInTopRefIdeal.sig) → Buf (Elt Ideal) ℓ) : Prop :=
  True

def Pre_AdamInLow (m : (ℓ : Loc Cert.AdamInLow.nD Cert.AdamInLow.τ Cert.AdamInLow.sig) → Buf (Elt Bits) ℓ) : Prop :=
  True

def Pre_AdamInLowIdeal (m : (ℓ : Loc Cert.AdamInLowIdeal.nD Cert.AdamInLowIdeal.τ Cert.AdamInLowIdeal.sig) → Buf (Elt Ideal) ℓ) : Prop :=
  True

def Pre_AdamInLowRefIdeal (m : (ℓ : Loc Cert.AdamInLowRefIdeal.nD Cert.AdamInLowRefIdeal.τ Cert.AdamInLowRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1)
      ∧ r.2.mem ((c.tc : Thread Cert.Dhn.nD Cert.Dhn.τ).loc Cert.Dhn.main_arg2) = m ((c.tc : Thread Cert.Dhn.nD Cert.Dhn.τ).loc Cert.Dhn.main_arg2))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
      ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1)
      ∧ r.2.mem ((c.tc : Thread Cert.DhnRefIdeal.nD Cert.DhnRefIdeal.τ).loc Cert.DhnRefIdeal.main_arg2) = m ((c.tc : Thread Cert.DhnRefIdeal.nD Cert.DhnRefIdeal.τ).loc Cert.DhnRefIdeal.main_arg2))
      ∧ r.2.sem = fun _ => 0)

def quiescent_MmU [hMmU : Cert.MmU.Facts] : Prop :=
  ∀ (m : (ℓ : Loc Cert.MmU.nD Cert.MmU.τ Cert.MmU.sig) → Buf (Elt Bits) ℓ) (g : Dev Cert.MmU.nD → PrngReg), Pre_MmU m →
    θ_run (Cert.MmU.defs (F := Bits)) (onTc (τ := Cert.MmU.τ) (Cert.MmU.main (F := Bits))) ⟨m, fun _ => 0, g⟩ (fun r => (∀ c : Dev Cert.MmU.nD,
      r.2.mem ((c.tc : Thread Cert.MmU.nD Cert.MmU.τ).loc Cert.MmU.main_arg0) = m ((c.tc : Thread Cert.MmU.nD Cert.MmU.τ).loc Cert.MmU.main_arg0)
      ∧ r.2.mem ((c.tc : Thread Cert.MmU.nD Cert.MmU.τ).loc Cert.MmU.main_arg1) = m ((c.tc : Thread Cert.MmU.nD Cert.MmU.τ).loc Cert.MmU.main_arg1))
      ∧ r.2.sem = fun _ => 0)

def quiescent_MmUIdeal [hMmUIdeal : Cert.MmUIdeal.Facts] : Prop :=
  ∀ (m : (ℓ : Loc Cert.MmUIdeal.nD Cert.MmUIdeal.τ Cert.MmUIdeal.sig) → Buf (Elt Ideal) ℓ) (g : Dev Cert.MmUIdeal.nD → PrngReg), Pre_MmUIdeal m →
    θ_run (Cert.MmUIdeal.defs (F := Ideal)) (onTc (τ := Cert.MmUIdeal.τ) (Cert.MmUIdeal.main (F := Ideal))) ⟨m, fun _ => 0, g⟩ (fun r => (∀ c : Dev Cert.MmUIdeal.nD,
      r.2.mem ((c.tc : Thread Cert.MmUIdeal.nD Cert.MmUIdeal.τ).loc Cert.MmUIdeal.main_arg0) = m ((c.tc : Thread Cert.MmUIdeal.nD Cert.MmUIdeal.τ).loc Cert.MmUIdeal.main_arg0)
      ∧ r.2.mem ((c.tc : Thread Cert.MmUIdeal.nD Cert.MmUIdeal.τ).loc Cert.MmUIdeal.main_arg1) = m ((c.tc : Thread Cert.MmUIdeal.nD Cert.MmUIdeal.τ).loc Cert.MmUIdeal.main_arg1))
      ∧ r.2.sem = fun _ => 0)

def quiescent_MmURefIdeal [hMmURefIdeal : Cert.MmURefIdeal.Facts] : Prop :=
  ∀ (m : (ℓ : Loc Cert.MmURefIdeal.nD Cert.MmURefIdeal.τ Cert.MmURefIdeal.sig) → Buf (Elt Ideal) ℓ) (g : Dev Cert.MmURefIdeal.nD → PrngReg), Pre_MmURefIdeal m →
    θ_run (Cert.MmURefIdeal.defs (F := Ideal)) (onTc (τ := Cert.MmURefIdeal.τ) (Cert.MmURefIdeal.main (F := Ideal))) ⟨m, fun _ => 0, g⟩ (fun r => (∀ c : Dev Cert.MmURefIdeal.nD,
      r.2.mem ((c.tc : Thread Cert.MmURefIdeal.nD Cert.MmURefIdeal.τ).loc Cert.MmURefIdeal.main_arg0) = m ((c.tc : Thread Cert.MmURefIdeal.nD Cert.MmURefIdeal.τ).loc Cert.MmURefIdeal.main_arg0)
      ∧ r.2.mem ((c.tc : Thread Cert.MmURefIdeal.nD Cert.MmURefIdeal.τ).loc Cert.MmURefIdeal.main_arg1) = m ((c.tc : Thread Cert.MmURefIdeal.nD Cert.MmURefIdeal.τ).loc Cert.MmURefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2))
      ∧ r.2.sem = fun _ => 0)

def quiescent_DyFirst [hDyFirst : Cert.DyFirst.Facts] : Prop :=
  ∀ (m : (ℓ : Loc Cert.DyFirst.nD Cert.DyFirst.τ Cert.DyFirst.sig) → Buf (Elt Bits) ℓ) (g : Dev Cert.DyFirst.nD → PrngReg), Pre_DyFirst m →
    θ_run (Cert.DyFirst.defs (F := Bits)) (onTc (τ := Cert.DyFirst.τ) (Cert.DyFirst.main (F := Bits))) ⟨m, fun _ => 0, g⟩ (fun r => (∀ c : Dev Cert.DyFirst.nD,
      r.2.mem ((c.tc : Thread Cert.DyFirst.nD Cert.DyFirst.τ).loc Cert.DyFirst.main_arg0) = m ((c.tc : Thread Cert.DyFirst.nD Cert.DyFirst.τ).loc Cert.DyFirst.main_arg0)
      ∧ r.2.mem ((c.tc : Thread Cert.DyFirst.nD Cert.DyFirst.τ).loc Cert.DyFirst.main_arg1) = m ((c.tc : Thread Cert.DyFirst.nD Cert.DyFirst.τ).loc Cert.DyFirst.main_arg1)
      ∧ r.2.mem ((c.tc : Thread Cert.DyFirst.nD Cert.DyFirst.τ).loc Cert.DyFirst.main_arg2) = m ((c.tc : Thread Cert.DyFirst.nD Cert.DyFirst.τ).loc Cert.DyFirst.main_arg2))
      ∧ r.2.sem = fun _ => 0)

def quiescent_DyFirstIdeal [hDyFirstIdeal : Cert.DyFirstIdeal.Facts] : Prop :=
  ∀ (m : (ℓ : Loc Cert.DyFirstIdeal.nD Cert.DyFirstIdeal.τ Cert.DyFirstIdeal.sig) → Buf (Elt Ideal) ℓ) (g : Dev Cert.DyFirstIdeal.nD → PrngReg), Pre_DyFirstIdeal m →
    θ_run (Cert.DyFirstIdeal.defs (F := Ideal)) (onTc (τ := Cert.DyFirstIdeal.τ) (Cert.DyFirstIdeal.main (F := Ideal))) ⟨m, fun _ => 0, g⟩ (fun r => (∀ c : Dev Cert.DyFirstIdeal.nD,
      r.2.mem ((c.tc : Thread Cert.DyFirstIdeal.nD Cert.DyFirstIdeal.τ).loc Cert.DyFirstIdeal.main_arg0) = m ((c.tc : Thread Cert.DyFirstIdeal.nD Cert.DyFirstIdeal.τ).loc Cert.DyFirstIdeal.main_arg0)
      ∧ r.2.mem ((c.tc : Thread Cert.DyFirstIdeal.nD Cert.DyFirstIdeal.τ).loc Cert.DyFirstIdeal.main_arg1) = m ((c.tc : Thread Cert.DyFirstIdeal.nD Cert.DyFirstIdeal.τ).loc Cert.DyFirstIdeal.main_arg1)
      ∧ r.2.mem ((c.tc : Thread Cert.DyFirstIdeal.nD Cert.DyFirstIdeal.τ).loc Cert.DyFirstIdeal.main_arg2) = m ((c.tc : Thread Cert.DyFirstIdeal.nD Cert.DyFirstIdeal.τ).loc Cert.DyFirstIdeal.main_arg2))
      ∧ r.2.sem = fun _ => 0)

def quiescent_DyFirstRefIdeal [hDyFirstRefIdeal : Cert.DyFirstRefIdeal.Facts] : Prop :=
  ∀ (m : (ℓ : Loc Cert.DyFirstRefIdeal.nD Cert.DyFirstRefIdeal.τ Cert.DyFirstRefIdeal.sig) → Buf (Elt Ideal) ℓ) (g : Dev Cert.DyFirstRefIdeal.nD → PrngReg), Pre_DyFirstRefIdeal m →
    θ_run (Cert.DyFirstRefIdeal.defs (F := Ideal)) (onTc (τ := Cert.DyFirstRefIdeal.τ) (Cert.DyFirstRefIdeal.main (F := Ideal))) ⟨m, fun _ => 0, g⟩ (fun r => (∀ c : Dev Cert.DyFirstRefIdeal.nD,
      r.2.mem ((c.tc : Thread Cert.DyFirstRefIdeal.nD Cert.DyFirstRefIdeal.τ).loc Cert.DyFirstRefIdeal.main_arg0) = m ((c.tc : Thread Cert.DyFirstRefIdeal.nD Cert.DyFirstRefIdeal.τ).loc Cert.DyFirstRefIdeal.main_arg0)
      ∧ r.2.mem ((c.tc : Thread Cert.DyFirstRefIdeal.nD Cert.DyFirstRefIdeal.τ).loc Cert.DyFirstRefIdeal.main_arg1) = m ((c.tc : Thread Cert.DyFirstRefIdeal.nD Cert.DyFirstRefIdeal.τ).loc Cert.DyFirstRefIdeal.main_arg1)
      ∧ r.2.mem ((c.tc : Thread Cert.DyFirstRefIdeal.nD Cert.DyFirstRefIdeal.τ).loc Cert.DyFirstRefIdeal.main_arg2) = m ((c.tc : Thread Cert.DyFirstRefIdeal.nD Cert.DyFirstRefIdeal.τ).loc Cert.DyFirstRefIdeal.main_arg2))
      ∧ r.2.sem = fun _ => 0)

def quiescent_DwInTop [hDwInTop : Cert.DwInTop.Facts] : Prop :=
  ∀ (m : (ℓ : Loc Cert.DwInTop.nD Cert.DwInTop.τ Cert.DwInTop.sig) → Buf (Elt Bits) ℓ) (g : Dev Cert.DwInTop.nD → PrngReg), Pre_DwInTop m →
    θ_run (Cert.DwInTop.defs (F := Bits)) (onTc (τ := Cert.DwInTop.τ) (Cert.DwInTop.main (F := Bits))) ⟨m, fun _ => 0, g⟩ (fun r => (∀ c : Dev Cert.DwInTop.nD,
      r.2.mem ((c.tc : Thread Cert.DwInTop.nD Cert.DwInTop.τ).loc Cert.DwInTop.main_arg0) = m ((c.tc : Thread Cert.DwInTop.nD Cert.DwInTop.τ).loc Cert.DwInTop.main_arg0)
      ∧ r.2.mem ((c.tc : Thread Cert.DwInTop.nD Cert.DwInTop.τ).loc Cert.DwInTop.main_arg1) = m ((c.tc : Thread Cert.DwInTop.nD Cert.DwInTop.τ).loc Cert.DwInTop.main_arg1)
      ∧ r.2.mem ((c.tc : Thread Cert.DwInTop.nD Cert.DwInTop.τ).loc Cert.DwInTop.main_arg2) = m ((c.tc : Thread Cert.DwInTop.nD Cert.DwInTop.τ).loc Cert.DwInTop.main_arg2))
      ∧ r.2.sem = fun _ => 0)

def quiescent_DwInTopIdeal [hDwInTopIdeal : Cert.DwInTopIdeal.Facts] : Prop :=
  ∀ (m : (ℓ : Loc Cert.DwInTopIdeal.nD Cert.DwInTopIdeal.τ Cert.DwInTopIdeal.sig) → Buf (Elt Ideal) ℓ) (g : Dev Cert.DwInTopIdeal.nD → PrngReg), Pre_DwInTopIdeal m →
    θ_run (Cert.DwInTopIdeal.defs (F := Ideal)) (onTc (τ := Cert.DwInTopIdeal.τ) (Cert.DwInTopIdeal.main (F := Ideal))) ⟨m, fun _ => 0, g⟩ (fun r => (∀ c : Dev Cert.DwInTopIdeal.nD,
      r.2.mem ((c.tc : Thread Cert.DwInTopIdeal.nD Cert.DwInTopIdeal.τ).loc Cert.DwInTopIdeal.main_arg0) = m ((c.tc : Thread Cert.DwInTopIdeal.nD Cert.DwInTopIdeal.τ).loc Cert.DwInTopIdeal.main_arg0)
      ∧ r.2.mem ((c.tc : Thread Cert.DwInTopIdeal.nD Cert.DwInTopIdeal.τ).loc Cert.DwInTopIdeal.main_arg1) = m ((c.tc : Thread Cert.DwInTopIdeal.nD Cert.DwInTopIdeal.τ).loc Cert.DwInTopIdeal.main_arg1)
      ∧ r.2.mem ((c.tc : Thread Cert.DwInTopIdeal.nD Cert.DwInTopIdeal.τ).loc Cert.DwInTopIdeal.main_arg2) = m ((c.tc : Thread Cert.DwInTopIdeal.nD Cert.DwInTopIdeal.τ).loc Cert.DwInTopIdeal.main_arg2))
      ∧ r.2.sem = fun _ => 0)

def quiescent_DwInTopRefIdeal [hDwInTopRefIdeal : Cert.DwInTopRefIdeal.Facts] : Prop :=
  ∀ (m : (ℓ : Loc Cert.DwInTopRefIdeal.nD Cert.DwInTopRefIdeal.τ Cert.DwInTopRefIdeal.sig) → Buf (Elt Ideal) ℓ) (g : Dev Cert.DwInTopRefIdeal.nD → PrngReg), Pre_DwInTopRefIdeal m →
    θ_run (Cert.DwInTopRefIdeal.defs (F := Ideal)) (onTc (τ := Cert.DwInTopRefIdeal.τ) (Cert.DwInTopRefIdeal.main (F := Ideal))) ⟨m, fun _ => 0, g⟩ (fun r => (∀ c : Dev Cert.DwInTopRefIdeal.nD,
      r.2.mem ((c.tc : Thread Cert.DwInTopRefIdeal.nD Cert.DwInTopRefIdeal.τ).loc Cert.DwInTopRefIdeal.main_arg0) = m ((c.tc : Thread Cert.DwInTopRefIdeal.nD Cert.DwInTopRefIdeal.τ).loc Cert.DwInTopRefIdeal.main_arg0)
      ∧ r.2.mem ((c.tc : Thread Cert.DwInTopRefIdeal.nD Cert.DwInTopRefIdeal.τ).loc Cert.DwInTopRefIdeal.main_arg1) = m ((c.tc : Thread Cert.DwInTopRefIdeal.nD Cert.DwInTopRefIdeal.τ).loc Cert.DwInTopRefIdeal.main_arg1)
      ∧ r.2.mem ((c.tc : Thread Cert.DwInTopRefIdeal.nD Cert.DwInTopRefIdeal.τ).loc Cert.DwInTopRefIdeal.main_arg2) = m ((c.tc : Thread Cert.DwInTopRefIdeal.nD Cert.DwInTopRefIdeal.τ).loc Cert.DwInTopRefIdeal.main_arg2))
      ∧ r.2.sem = fun _ => 0)

def quiescent_DwInLow [hDwInLow : Cert.DwInLow.Facts] : Prop :=
  ∀ (m : (ℓ : Loc Cert.DwInLow.nD Cert.DwInLow.τ Cert.DwInLow.sig) → Buf (Elt Bits) ℓ) (g : Dev Cert.DwInLow.nD → PrngReg), Pre_DwInLow m →
    θ_run (Cert.DwInLow.defs (F := Bits)) (onTc (τ := Cert.DwInLow.τ) (Cert.DwInLow.main (F := Bits))) ⟨m, fun _ => 0, g⟩ (fun r => (∀ c : Dev Cert.DwInLow.nD,
      r.2.mem ((c.tc : Thread Cert.DwInLow.nD Cert.DwInLow.τ).loc Cert.DwInLow.main_arg0) = m ((c.tc : Thread Cert.DwInLow.nD Cert.DwInLow.τ).loc Cert.DwInLow.main_arg0)
      ∧ r.2.mem ((c.tc : Thread Cert.DwInLow.nD Cert.DwInLow.τ).loc Cert.DwInLow.main_arg1) = m ((c.tc : Thread Cert.DwInLow.nD Cert.DwInLow.τ).loc Cert.DwInLow.main_arg1)
      ∧ r.2.mem ((c.tc : Thread Cert.DwInLow.nD Cert.DwInLow.τ).loc Cert.DwInLow.main_arg2) = m ((c.tc : Thread Cert.DwInLow.nD Cert.DwInLow.τ).loc Cert.DwInLow.main_arg2))
      ∧ r.2.sem = fun _ => 0)

def quiescent_DwInLowIdeal [hDwInLowIdeal : Cert.DwInLowIdeal.Facts] : Prop :=
  ∀ (m : (ℓ : Loc Cert.DwInLowIdeal.nD Cert.DwInLowIdeal.τ Cert.DwInLowIdeal.sig) → Buf (Elt Ideal) ℓ) (g : Dev Cert.DwInLowIdeal.nD → PrngReg), Pre_DwInLowIdeal m →
    θ_run (Cert.DwInLowIdeal.defs (F := Ideal)) (onTc (τ := Cert.DwInLowIdeal.τ) (Cert.DwInLowIdeal.main (F := Ideal))) ⟨m, fun _ => 0, g⟩ (fun r => (∀ c : Dev Cert.DwInLowIdeal.nD,
      r.2.mem ((c.tc : Thread Cert.DwInLowIdeal.nD Cert.DwInLowIdeal.τ).loc Cert.DwInLowIdeal.main_arg0) = m ((c.tc : Thread Cert.DwInLowIdeal.nD Cert.DwInLowIdeal.τ).loc Cert.DwInLowIdeal.main_arg0)
      ∧ r.2.mem ((c.tc : Thread Cert.DwInLowIdeal.nD Cert.DwInLowIdeal.τ).loc Cert.DwInLowIdeal.main_arg1) = m ((c.tc : Thread Cert.DwInLowIdeal.nD Cert.DwInLowIdeal.τ).loc Cert.DwInLowIdeal.main_arg1)
      ∧ r.2.mem ((c.tc : Thread Cert.DwInLowIdeal.nD Cert.DwInLowIdeal.τ).loc Cert.DwInLowIdeal.main_arg2) = m ((c.tc : Thread Cert.DwInLowIdeal.nD Cert.DwInLowIdeal.τ).loc Cert.DwInLowIdeal.main_arg2))
      ∧ r.2.sem = fun _ => 0)

def quiescent_DwInLowRefIdeal [hDwInLowRefIdeal : Cert.DwInLowRefIdeal.Facts] : Prop :=
  ∀ (m : (ℓ : Loc Cert.DwInLowRefIdeal.nD Cert.DwInLowRefIdeal.τ Cert.DwInLowRefIdeal.sig) → Buf (Elt Ideal) ℓ) (g : Dev Cert.DwInLowRefIdeal.nD → PrngReg), Pre_DwInLowRefIdeal m →
    θ_run (Cert.DwInLowRefIdeal.defs (F := Ideal)) (onTc (τ := Cert.DwInLowRefIdeal.τ) (Cert.DwInLowRefIdeal.main (F := Ideal))) ⟨m, fun _ => 0, g⟩ (fun r => (∀ c : Dev Cert.DwInLowRefIdeal.nD,
      r.2.mem ((c.tc : Thread Cert.DwInLowRefIdeal.nD Cert.DwInLowRefIdeal.τ).loc Cert.DwInLowRefIdeal.main_arg0) = m ((c.tc : Thread Cert.DwInLowRefIdeal.nD Cert.DwInLowRefIdeal.τ).loc Cert.DwInLowRefIdeal.main_arg0)
      ∧ r.2.mem ((c.tc : Thread Cert.DwInLowRefIdeal.nD Cert.DwInLowRefIdeal.τ).loc Cert.DwInLowRefIdeal.main_arg1) = m ((c.tc : Thread Cert.DwInLowRefIdeal.nD Cert.DwInLowRefIdeal.τ).loc Cert.DwInLowRefIdeal.main_arg1)
      ∧ r.2.mem ((c.tc : Thread Cert.DwInLowRefIdeal.nD Cert.DwInLowRefIdeal.τ).loc Cert.DwInLowRefIdeal.main_arg2) = m ((c.tc : Thread Cert.DwInLowRefIdeal.nD Cert.DwInLowRefIdeal.τ).loc Cert.DwInLowRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_SumLate [hSumLate : Cert.SumLate.Facts] : Prop :=
  ∀ (m : (ℓ : Loc Cert.SumLate.nD Cert.SumLate.τ Cert.SumLate.sig) → Buf (Elt Bits) ℓ) (g : Dev Cert.SumLate.nD → PrngReg), Pre_SumLate m →
    θ_run (Cert.SumLate.defs (F := Bits)) (onTc (τ := Cert.SumLate.τ) (Cert.SumLate.main (F := Bits))) ⟨m, fun _ => 0, g⟩ (fun r => (∀ c : Dev Cert.SumLate.nD,
      r.2.mem ((c.tc : Thread Cert.SumLate.nD Cert.SumLate.τ).loc Cert.SumLate.main_arg0) = m ((c.tc : Thread Cert.SumLate.nD Cert.SumLate.τ).loc Cert.SumLate.main_arg0))
      ∧ r.2.sem = fun _ => 0)

def quiescent_SumLateIdeal [hSumLateIdeal : Cert.SumLateIdeal.Facts] : Prop :=
  ∀ (m : (ℓ : Loc Cert.SumLateIdeal.nD Cert.SumLateIdeal.τ Cert.SumLateIdeal.sig) → Buf (Elt Ideal) ℓ) (g : Dev Cert.SumLateIdeal.nD → PrngReg), Pre_SumLateIdeal m →
    θ_run (Cert.SumLateIdeal.defs (F := Ideal)) (onTc (τ := Cert.SumLateIdeal.τ) (Cert.SumLateIdeal.main (F := Ideal))) ⟨m, fun _ => 0, g⟩ (fun r => (∀ c : Dev Cert.SumLateIdeal.nD,
      r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ r.2.sem = fun _ => 0)

def quiescent_SumLateRefIdeal [hSumLateRefIdeal : Cert.SumLateRefIdeal.Facts] : Prop :=
  ∀ (m : (ℓ : Loc Cert.SumLateRefIdeal.nD Cert.SumLateRefIdeal.τ Cert.SumLateRefIdeal.sig) → Buf (Elt Ideal) ℓ) (g : Dev Cert.SumLateRefIdeal.nD → PrngReg), Pre_SumLateRefIdeal m →
    θ_run (Cert.SumLateRefIdeal.defs (F := Ideal)) (onTc (τ := Cert.SumLateRefIdeal.τ) (Cert.SumLateRefIdeal.main (F := Ideal))) ⟨m, fun _ => 0, g⟩ (fun r => (∀ c : Dev Cert.SumLateRefIdeal.nD,
      r.2.mem ((c.tc : Thread Cert.SumLateRefIdeal.nD Cert.SumLateRefIdeal.τ).loc Cert.SumLateRefIdeal.main_arg0) = m ((c.tc : Thread Cert.SumLateRefIdeal.nD Cert.SumLateRefIdeal.τ).loc Cert.SumLateRefIdeal.main_arg0))
      ∧ r.2.sem = fun _ => 0)

def quiescent_SumVec [hSumVec : Cert.SumVec.Facts] : Prop :=
  ∀ (m : (ℓ : Loc Cert.SumVec.nD Cert.SumVec.τ Cert.SumVec.sig) → Buf (Elt Bits) ℓ) (g : Dev Cert.SumVec.nD → PrngReg), Pre_SumVec m →
    θ_run (Cert.SumVec.defs (F := Bits)) (onTc (τ := Cert.SumVec.τ) (Cert.SumVec.main (F := Bits))) ⟨m, fun _ => 0, g⟩ (fun r => (∀ c : Dev Cert.SumVec.nD,
      r.2.mem ((c.tc : Thread Cert.SumVec.nD Cert.SumVec.τ).loc Cert.SumVec.main_arg0) = m ((c.tc : Thread Cert.SumVec.nD Cert.SumVec.τ).loc Cert.SumVec.main_arg0))
      ∧ r.2.sem = fun _ => 0)

def quiescent_SumVecIdeal [hSumVecIdeal : Cert.SumVecIdeal.Facts] : Prop :=
  ∀ (m : (ℓ : Loc Cert.SumVecIdeal.nD Cert.SumVecIdeal.τ Cert.SumVecIdeal.sig) → Buf (Elt Ideal) ℓ) (g : Dev Cert.SumVecIdeal.nD → PrngReg), Pre_SumVecIdeal m →
    θ_run (Cert.SumVecIdeal.defs (F := Ideal)) (onTc (τ := Cert.SumVecIdeal.τ) (Cert.SumVecIdeal.main (F := Ideal))) ⟨m, fun _ => 0, g⟩ (fun r => (∀ c : Dev Cert.SumVecIdeal.nD,
      r.2.mem ((c.tc : Thread Cert.SumVecIdeal.nD Cert.SumVecIdeal.τ).loc Cert.SumVecIdeal.main_arg0) = m ((c.tc : Thread Cert.SumVecIdeal.nD Cert.SumVecIdeal.τ).loc Cert.SumVecIdeal.main_arg0))
      ∧ r.2.sem = fun _ => 0)

def quiescent_SumVecRefIdeal [hSumVecRefIdeal : Cert.SumVecRefIdeal.Facts] : Prop :=
  ∀ (m : (ℓ : Loc Cert.SumVecRefIdeal.nD Cert.SumVecRefIdeal.τ Cert.SumVecRefIdeal.sig) → Buf (Elt Ideal) ℓ) (g : Dev Cert.SumVecRefIdeal.nD → PrngReg), Pre_SumVecRefIdeal m →
    θ_run (Cert.SumVecRefIdeal.defs (F := Ideal)) (onTc (τ := Cert.SumVecRefIdeal.τ) (Cert.SumVecRefIdeal.main (F := Ideal))) ⟨m, fun _ => 0, g⟩ (fun r => (∀ c : Dev Cert.SumVecRefIdeal.nD,
      r.2.mem ((c.tc : Thread Cert.SumVecRefIdeal.nD Cert.SumVecRefIdeal.τ).loc Cert.SumVecRefIdeal.main_arg0) = m ((c.tc : Thread Cert.SumVecRefIdeal.nD Cert.SumVecRefIdeal.τ).loc Cert.SumVecRefIdeal.main_arg0))
      ∧ r.2.sem = fun _ => 0)

def quiescent_SumMaps [hSumMaps : Cert.SumMaps.Facts] : Prop :=
  ∀ (m : (ℓ : Loc Cert.SumMaps.nD Cert.SumMaps.τ Cert.SumMaps.sig) → Buf (Elt Bits) ℓ) (g : Dev Cert.SumMaps.nD → PrngReg), Pre_SumMaps m →
    θ_run (Cert.SumMaps.defs (F := Bits)) (onTc (τ := Cert.SumMaps.τ) (Cert.SumMaps.main (F := Bits))) ⟨m, fun _ => 0, g⟩ (fun r => (∀ c : Dev Cert.SumMaps.nD,
      r.2.mem ((c.tc : Thread Cert.SumMaps.nD Cert.SumMaps.τ).loc Cert.SumMaps.main_arg0) = m ((c.tc : Thread Cert.SumMaps.nD Cert.SumMaps.τ).loc Cert.SumMaps.main_arg0))
      ∧ r.2.sem = fun _ => 0)

def quiescent_SumMapsIdeal [hSumMapsIdeal : Cert.SumMapsIdeal.Facts] : Prop :=
  ∀ (m : (ℓ : Loc Cert.SumMapsIdeal.nD Cert.SumMapsIdeal.τ Cert.SumMapsIdeal.sig) → Buf (Elt Ideal) ℓ) (g : Dev Cert.SumMapsIdeal.nD → PrngReg), Pre_SumMapsIdeal m →
    θ_run (Cert.SumMapsIdeal.defs (F := Ideal)) (onTc (τ := Cert.SumMapsIdeal.τ) (Cert.SumMapsIdeal.main (F := Ideal))) ⟨m, fun _ => 0, g⟩ (fun r => (∀ c : Dev Cert.SumMapsIdeal.nD,
      r.2.mem ((c.tc : Thread Cert.SumMapsIdeal.nD Cert.SumMapsIdeal.τ).loc Cert.SumMapsIdeal.main_arg0) = m ((c.tc : Thread Cert.SumMapsIdeal.nD Cert.SumMapsIdeal.τ).loc Cert.SumMapsIdeal.main_arg0))
      ∧ r.2.sem = fun _ => 0)

def quiescent_SumMapsRefIdeal [hSumMapsRefIdeal : Cert.SumMapsRefIdeal.Facts] : Prop :=
  ∀ (m : (ℓ : Loc Cert.SumMapsRefIdeal.nD Cert.SumMapsRefIdeal.τ Cert.SumMapsRefIdeal.sig) → Buf (Elt Ideal) ℓ) (g : Dev Cert.SumMapsRefIdeal.nD → PrngReg), Pre_SumMapsRefIdeal m →
    θ_run (Cert.SumMapsRefIdeal.defs (F := Ideal)) (onTc (τ := Cert.SumMapsRefIdeal.τ) (Cert.SumMapsRefIdeal.main (F := Ideal))) ⟨m, fun _ => 0, g⟩ (fun r => (∀ c : Dev Cert.SumMapsRefIdeal.nD,
      r.2.mem ((c.tc : Thread Cert.SumMapsRefIdeal.nD Cert.SumMapsRefIdeal.τ).loc Cert.SumMapsRefIdeal.main_arg0) = m ((c.tc : Thread Cert.SumMapsRefIdeal.nD Cert.SumMapsRefIdeal.τ).loc Cert.SumMapsRefIdeal.main_arg0))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_AdamOutLate [hAdamOutLate : Cert.AdamOutLate.Facts] : Prop :=
  ∀ (m : (ℓ : Loc Cert.AdamOutLate.nD Cert.AdamOutLate.τ Cert.AdamOutLate.sig) → Buf (Elt Bits) ℓ) (g : Dev Cert.AdamOutLate.nD → PrngReg), Pre_AdamOutLate m →
    θ_run (Cert.AdamOutLate.defs (F := Bits)) (onTc (τ := Cert.AdamOutLate.τ) (Cert.AdamOutLate.main (F := Bits))) ⟨m, fun _ => 0, g⟩ (fun r => (∀ c : Dev Cert.AdamOutLate.nD,
      r.2.mem ((c.tc : Thread Cert.AdamOutLate.nD Cert.AdamOutLate.τ).loc Cert.AdamOutLate.main_arg0) = m ((c.tc : Thread Cert.AdamOutLate.nD Cert.AdamOutLate.τ).loc Cert.AdamOutLate.main_arg0)
      ∧ r.2.mem ((c.tc : Thread Cert.AdamOutLate.nD Cert.AdamOutLate.τ).loc Cert.AdamOutLate.main_arg1) = m ((c.tc : Thread Cert.AdamOutLate.nD Cert.AdamOutLate.τ).loc Cert.AdamOutLate.main_arg1)
      ∧ r.2.mem ((c.tc : Thread Cert.AdamOutLate.nD Cert.AdamOutLate.τ).loc Cert.AdamOutLate.main_arg2) = m ((c.tc : Thread Cert.AdamOutLate.nD Cert.AdamOutLate.τ).loc Cert.AdamOutLate.main_arg2)
      ∧ r.2.mem ((c.tc : Thread Cert.AdamOutLate.nD Cert.AdamOutLate.τ).loc Cert.AdamOutLate.main_arg3) = m ((c.tc : Thread Cert.AdamOutLate.nD Cert.AdamOutLate.τ).loc Cert.AdamOutLate.main_arg3)
      ∧ r.2.mem ((c.tc : Thread Cert.AdamOutLate.nD Cert.AdamOutLate.τ).loc Cert.AdamOutLate.main_arg4) = m ((c.tc : Thread Cert.AdamOutLate.nD Cert.AdamOutLate.τ).loc Cert.AdamOutLate.main_arg4)
      ∧ r.2.mem ((c.tc : Thread Cert.AdamOutLate.nD Cert.AdamOutLate.τ).loc Cert.AdamOutLate.main_arg5) = m ((c.tc : Thread Cert.AdamOutLate.nD Cert.AdamOutLate.τ).loc Cert.AdamOutLate.main_arg5)
      ∧ r.2.mem ((c.tc : Thread Cert.AdamOutLate.nD Cert.AdamOutLate.τ).loc Cert.AdamOutLate.main_arg6) = m ((c.tc : Thread Cert.AdamOutLate.nD Cert.AdamOutLate.τ).loc Cert.AdamOutLate.main_arg6)
      ∧ r.2.mem ((c.tc : Thread Cert.AdamOutLate.nD Cert.AdamOutLate.τ).loc Cert.AdamOutLate.main_arg7) = m ((c.tc : Thread Cert.AdamOutLate.nD Cert.AdamOutLate.τ).loc Cert.AdamOutLate.main_arg7)
      ∧ r.2.mem ((c.tc : Thread Cert.AdamOutLate.nD Cert.AdamOutLate.τ).loc Cert.AdamOutLate.main_arg8) = m ((c.tc : Thread Cert.AdamOutLate.nD Cert.AdamOutLate.τ).loc Cert.AdamOutLate.main_arg8))
      ∧ r.2.sem = fun _ => 0)

def quiescent_AdamOutLateIdeal [hAdamOutLateIdeal : Cert.AdamOutLateIdeal.Facts] : Prop :=
  ∀ (m : (ℓ : Loc Cert.AdamOutLateIdeal.nD Cert.AdamOutLateIdeal.τ Cert.AdamOutLateIdeal.sig) → Buf (Elt Ideal) ℓ) (g : Dev Cert.AdamOutLateIdeal.nD → PrngReg), Pre_AdamOutLateIdeal m →
    θ_run (Cert.AdamOutLateIdeal.defs (F := Ideal)) (onTc (τ := Cert.AdamOutLateIdeal.τ) (Cert.AdamOutLateIdeal.main (F := Ideal))) ⟨m, fun _ => 0, g⟩ (fun r => (∀ c : Dev Cert.AdamOutLateIdeal.nD,
      r.2.mem ((c.tc : Thread Cert.AdamOutLateIdeal.nD Cert.AdamOutLateIdeal.τ).loc Cert.AdamOutLateIdeal.main_arg0) = m ((c.tc : Thread Cert.AdamOutLateIdeal.nD Cert.AdamOutLateIdeal.τ).loc Cert.AdamOutLateIdeal.main_arg0)
      ∧ r.2.mem ((c.tc : Thread Cert.AdamOutLateIdeal.nD Cert.AdamOutLateIdeal.τ).loc Cert.AdamOutLateIdeal.main_arg1) = m ((c.tc : Thread Cert.AdamOutLateIdeal.nD Cert.AdamOutLateIdeal.τ).loc Cert.AdamOutLateIdeal.main_arg1)
      ∧ r.2.mem ((c.tc : Thread Cert.AdamOutLateIdeal.nD Cert.AdamOutLateIdeal.τ).loc Cert.AdamOutLateIdeal.main_arg2) = m ((c.tc : Thread Cert.AdamOutLateIdeal.nD Cert.AdamOutLateIdeal.τ).loc Cert.AdamOutLateIdeal.main_arg2)
      ∧ r.2.mem ((c.tc : Thread Cert.AdamOutLateIdeal.nD Cert.AdamOutLateIdeal.τ).loc Cert.AdamOutLateIdeal.main_arg3) = m ((c.tc : Thread Cert.AdamOutLateIdeal.nD Cert.AdamOutLateIdeal.τ).loc Cert.AdamOutLateIdeal.main_arg3)
      ∧ r.2.mem ((c.tc : Thread Cert.AdamOutLateIdeal.nD Cert.AdamOutLateIdeal.τ).loc Cert.AdamOutLateIdeal.main_arg4) = m ((c.tc : Thread Cert.AdamOutLateIdeal.nD Cert.AdamOutLateIdeal.τ).loc Cert.AdamOutLateIdeal.main_arg4)
      ∧ r.2.mem ((c.tc : Thread Cert.AdamOutLateIdeal.nD Cert.AdamOutLateIdeal.τ).loc Cert.AdamOutLateIdeal.main_arg5) = m ((c.tc : Thread Cert.AdamOutLateIdeal.nD Cert.AdamOutLateIdeal.τ).loc Cert.AdamOutLateIdeal.main_arg5)
      ∧ r.2.mem ((c.tc : Thread Cert.AdamOutLateIdeal.nD Cert.AdamOutLateIdeal.τ).loc Cert.AdamOutLateIdeal.main_arg6) = m ((c.tc : Thread Cert.AdamOutLateIdeal.nD Cert.AdamOutLateIdeal.τ).loc Cert.AdamOutLateIdeal.main_arg6)
      ∧ r.2.mem ((c.tc : Thread Cert.AdamOutLateIdeal.nD Cert.AdamOutLateIdeal.τ).loc Cert.AdamOutLateIdeal.main_arg7) = m ((c.tc : Thread Cert.AdamOutLateIdeal.nD Cert.AdamOutLateIdeal.τ).loc Cert.AdamOutLateIdeal.main_arg7)
      ∧ r.2.mem ((c.tc : Thread Cert.AdamOutLateIdeal.nD Cert.AdamOutLateIdeal.τ).loc Cert.AdamOutLateIdeal.main_arg8) = m ((c.tc : Thread Cert.AdamOutLateIdeal.nD Cert.AdamOutLateIdeal.τ).loc Cert.AdamOutLateIdeal.main_arg8))
      ∧ r.2.sem = fun _ => 0)

def quiescent_AdamOutLateRefIdeal [hAdamOutLateRefIdeal : Cert.AdamOutLateRefIdeal.Facts] : Prop :=
  ∀ (m : (ℓ : Loc Cert.AdamOutLateRefIdeal.nD Cert.AdamOutLateRefIdeal.τ Cert.AdamOutLateRefIdeal.sig) → Buf (Elt Ideal) ℓ) (g : Dev Cert.AdamOutLateRefIdeal.nD → PrngReg), Pre_AdamOutLateRefIdeal m →
    θ_run (Cert.AdamOutLateRefIdeal.defs (F := Ideal)) (onTc (τ := Cert.AdamOutLateRefIdeal.τ) (Cert.AdamOutLateRefIdeal.main (F := Ideal))) ⟨m, fun _ => 0, g⟩ (fun r => (∀ c : Dev Cert.AdamOutLateRefIdeal.nD,
      r.2.mem ((c.tc : Thread Cert.AdamOutLateRefIdeal.nD Cert.AdamOutLateRefIdeal.τ).loc Cert.AdamOutLateRefIdeal.main_arg0) = m ((c.tc : Thread Cert.AdamOutLateRefIdeal.nD Cert.AdamOutLateRefIdeal.τ).loc Cert.AdamOutLateRefIdeal.main_arg0)
      ∧ r.2.mem ((c.tc : Thread Cert.AdamOutLateRefIdeal.nD Cert.AdamOutLateRefIdeal.τ).loc Cert.AdamOutLateRefIdeal.main_arg1) = m ((c.tc : Thread Cert.AdamOutLateRefIdeal.nD Cert.AdamOutLateRefIdeal.τ).loc Cert.AdamOutLateRefIdeal.main_arg1)
      ∧ r.2.mem ((c.tc : Thread Cert.AdamOutLateRefIdeal.nD Cert.AdamOutLateRefIdeal.τ).loc Cert.AdamOutLateRefIdeal.main_arg2) = m ((c.tc : Thread Cert.AdamOutLateRefIdeal.nD Cert.AdamOutLateRefIdeal.τ).loc Cert.AdamOutLateRefIdeal.main_arg2)
      ∧ r.2.mem ((c.tc : Thread Cert.AdamOutLateRefIdeal.nD Cert.AdamOutLateRefIdeal.τ).loc Cert.AdamOutLateRefIdeal.main_arg3) = m ((c.tc : Thread Cert.AdamOutLateRefIdeal.nD Cert.AdamOutLateRefIdeal.τ).loc Cert.AdamOutLateRefIdeal.main_arg3)
      ∧ r.2.mem ((c.tc : Thread Cert.AdamOutLateRefIdeal.nD Cert.AdamOutLateRefIdeal.τ).loc Cert.AdamOutLateRefIdeal.main_arg4) = m ((c.tc : Thread Cert.AdamOutLateRefIdeal.nD Cert.AdamOutLateRefIdeal.τ).loc Cert.AdamOutLateRefIdeal.main_arg4)
      ∧ r.2.mem ((c.tc : Thread Cert.AdamOutLateRefIdeal.nD Cert.AdamOutLateRefIdeal.τ).loc Cert.AdamOutLateRefIdeal.main_arg5) = m ((c.tc : Thread Cert.AdamOutLateRefIdeal.nD Cert.AdamOutLateRefIdeal.τ).loc Cert.AdamOutLateRefIdeal.main_arg5)
      ∧ r.2.mem ((c.tc : Thread Cert.AdamOutLateRefIdeal.nD Cert.AdamOutLateRefIdeal.τ).loc Cert.AdamOutLateRefIdeal.main_arg6) = m ((c.tc : Thread Cert.AdamOutLateRefIdeal.nD Cert.AdamOutLateRefIdeal.τ).loc Cert.AdamOutLateRefIdeal.main_arg6)
      ∧ r.2.mem ((c.tc : Thread Cert.AdamOutLateRefIdeal.nD Cert.AdamOutLateRefIdeal.τ).loc Cert.AdamOutLateRefIdeal.main_arg7) = m ((c.tc : Thread Cert.AdamOutLateRefIdeal.nD Cert.AdamOutLateRefIdeal.τ).loc Cert.AdamOutLateRefIdeal.main_arg7)
      ∧ r.2.mem ((c.tc : Thread Cert.AdamOutLateRefIdeal.nD Cert.AdamOutLateRefIdeal.τ).loc Cert.AdamOutLateRefIdeal.main_arg8) = m ((c.tc : Thread Cert.AdamOutLateRefIdeal.nD Cert.AdamOutLateRefIdeal.τ).loc Cert.AdamOutLateRefIdeal.main_arg8))
      ∧ r.2.sem = fun _ => 0)

def quiescent_AdamOutEarly [hAdamOutEarly : Cert.AdamOutEarly.Facts] : Prop :=
  ∀ (m : (ℓ : Loc Cert.AdamOutEarly.nD Cert.AdamOutEarly.τ Cert.AdamOutEarly.sig) → Buf (Elt Bits) ℓ) (g : Dev Cert.AdamOutEarly.nD → PrngReg), Pre_AdamOutEarly m →
    θ_run (Cert.AdamOutEarly.defs (F := Bits)) (onTc (τ := Cert.AdamOutEarly.τ) (Cert.AdamOutEarly.main (F := Bits))) ⟨m, fun _ => 0, g⟩ (fun r => (∀ c : Dev Cert.AdamOutEarly.nD,
      r.2.mem ((c.tc : Thread Cert.AdamOutEarly.nD Cert.AdamOutEarly.τ).loc Cert.AdamOutEarly.main_arg0) = m ((c.tc : Thread Cert.AdamOutEarly.nD Cert.AdamOutEarly.τ).loc Cert.AdamOutEarly.main_arg0)
      ∧ r.2.mem ((c.tc : Thread Cert.AdamOutEarly.nD Cert.AdamOutEarly.τ).loc Cert.AdamOutEarly.main_arg1) = m ((c.tc : Thread Cert.AdamOutEarly.nD Cert.AdamOutEarly.τ).loc Cert.AdamOutEarly.main_arg1)
      ∧ r.2.mem ((c.tc : Thread Cert.AdamOutEarly.nD Cert.AdamOutEarly.τ).loc Cert.AdamOutEarly.main_arg2) = m ((c.tc : Thread Cert.AdamOutEarly.nD Cert.AdamOutEarly.τ).loc Cert.AdamOutEarly.main_arg2)
      ∧ r.2.mem ((c.tc : Thread Cert.AdamOutEarly.nD Cert.AdamOutEarly.τ).loc Cert.AdamOutEarly.main_arg3) = m ((c.tc : Thread Cert.AdamOutEarly.nD Cert.AdamOutEarly.τ).loc Cert.AdamOutEarly.main_arg3)
      ∧ r.2.mem ((c.tc : Thread Cert.AdamOutEarly.nD Cert.AdamOutEarly.τ).loc Cert.AdamOutEarly.main_arg4) = m ((c.tc : Thread Cert.AdamOutEarly.nD Cert.AdamOutEarly.τ).loc Cert.AdamOutEarly.main_arg4)
      ∧ r.2.mem ((c.tc : Thread Cert.AdamOutEarly.nD Cert.AdamOutEarly.τ).loc Cert.AdamOutEarly.main_arg5) = m ((c.tc : Thread Cert.AdamOutEarly.nD Cert.AdamOutEarly.τ).loc Cert.AdamOutEarly.main_arg5)
      ∧ r.2.mem ((c.tc : Thread Cert.AdamOutEarly.nD Cert.AdamOutEarly.τ).loc Cert.AdamOutEarly.main_arg6) = m ((c.tc : Thread Cert.AdamOutEarly.nD Cert.AdamOutEarly.τ).loc Cert.AdamOutEarly.main_arg6)
      ∧ r.2.mem ((c.tc : Thread Cert.AdamOutEarly.nD Cert.AdamOutEarly.τ).loc Cert.AdamOutEarly.main_arg7) = m ((c.tc : Thread Cert.AdamOutEarly.nD Cert.AdamOutEarly.τ).loc Cert.AdamOutEarly.main_arg7)
      ∧ r.2.mem ((c.tc : Thread Cert.AdamOutEarly.nD Cert.AdamOutEarly.τ).loc Cert.AdamOutEarly.main_arg8) = m ((c.tc : Thread Cert.AdamOutEarly.nD Cert.AdamOutEarly.τ).loc Cert.AdamOutEarly.main_arg8))
      ∧ r.2.sem = fun _ => 0)

def quiescent_AdamOutEarlyIdeal [hAdamOutEarlyIdeal : Cert.AdamOutEarlyIdeal.Facts] : Prop :=
  ∀ (m : (ℓ : Loc Cert.AdamOutEarlyIdeal.nD Cert.AdamOutEarlyIdeal.τ Cert.AdamOutEarlyIdeal.sig) → Buf (Elt Ideal) ℓ) (g : Dev Cert.AdamOutEarlyIdeal.nD → PrngReg), Pre_AdamOutEarlyIdeal m →
    θ_run (Cert.AdamOutEarlyIdeal.defs (F := Ideal)) (onTc (τ := Cert.AdamOutEarlyIdeal.τ) (Cert.AdamOutEarlyIdeal.main (F := Ideal))) ⟨m, fun _ => 0, g⟩ (fun r => (∀ c : Dev Cert.AdamOutEarlyIdeal.nD,
      r.2.mem ((c.tc : Thread Cert.AdamOutEarlyIdeal.nD Cert.AdamOutEarlyIdeal.τ).loc Cert.AdamOutEarlyIdeal.main_arg0) = m ((c.tc : Thread Cert.AdamOutEarlyIdeal.nD Cert.AdamOutEarlyIdeal.τ).loc Cert.AdamOutEarlyIdeal.main_arg0)
      ∧ r.2.mem ((c.tc : Thread Cert.AdamOutEarlyIdeal.nD Cert.AdamOutEarlyIdeal.τ).loc Cert.AdamOutEarlyIdeal.main_arg1) = m ((c.tc : Thread Cert.AdamOutEarlyIdeal.nD Cert.AdamOutEarlyIdeal.τ).loc Cert.AdamOutEarlyIdeal.main_arg1)
      ∧ r.2.mem ((c.tc : Thread Cert.AdamOutEarlyIdeal.nD Cert.AdamOutEarlyIdeal.τ).loc Cert.AdamOutEarlyIdeal.main_arg2) = m ((c.tc : Thread Cert.AdamOutEarlyIdeal.nD Cert.AdamOutEarlyIdeal.τ).loc Cert.AdamOutEarlyIdeal.main_arg2)
      ∧ r.2.mem ((c.tc : Thread Cert.AdamOutEarlyIdeal.nD Cert.AdamOutEarlyIdeal.τ).loc Cert.AdamOutEarlyIdeal.main_arg3) = m ((c.tc : Thread Cert.AdamOutEarlyIdeal.nD Cert.AdamOutEarlyIdeal.τ).loc Cert.AdamOutEarlyIdeal.main_arg3)
      ∧ r.2.mem ((c.tc : Thread Cert.AdamOutEarlyIdeal.nD Cert.AdamOutEarlyIdeal.τ).loc Cert.AdamOutEarlyIdeal.main_arg4) = m ((c.tc : Thread Cert.AdamOutEarlyIdeal.nD Cert.AdamOutEarlyIdeal.τ).loc Cert.AdamOutEarlyIdeal.main_arg4)
      ∧ r.2.mem ((c.tc : Thread Cert.AdamOutEarlyIdeal.nD Cert.AdamOutEarlyIdeal.τ).loc Cert.AdamOutEarlyIdeal.main_arg5) = m ((c.tc : Thread Cert.AdamOutEarlyIdeal.nD Cert.AdamOutEarlyIdeal.τ).loc Cert.AdamOutEarlyIdeal.main_arg5)
      ∧ r.2.mem ((c.tc : Thread Cert.AdamOutEarlyIdeal.nD Cert.AdamOutEarlyIdeal.τ).loc Cert.AdamOutEarlyIdeal.main_arg6) = m ((c.tc : Thread Cert.AdamOutEarlyIdeal.nD Cert.AdamOutEarlyIdeal.τ).loc Cert.AdamOutEarlyIdeal.main_arg6)
      ∧ r.2.mem ((c.tc : Thread Cert.AdamOutEarlyIdeal.nD Cert.AdamOutEarlyIdeal.τ).loc Cert.AdamOutEarlyIdeal.main_arg7) = m ((c.tc : Thread Cert.AdamOutEarlyIdeal.nD Cert.AdamOutEarlyIdeal.τ).loc Cert.AdamOutEarlyIdeal.main_arg7)
      ∧ r.2.mem ((c.tc : Thread Cert.AdamOutEarlyIdeal.nD Cert.AdamOutEarlyIdeal.τ).loc Cert.AdamOutEarlyIdeal.main_arg8) = m ((c.tc : Thread Cert.AdamOutEarlyIdeal.nD Cert.AdamOutEarlyIdeal.τ).loc Cert.AdamOutEarlyIdeal.main_arg8))
      ∧ r.2.sem = fun _ => 0)

def quiescent_AdamOutEarlyRefIdeal [hAdamOutEarlyRefIdeal : Cert.AdamOutEarlyRefIdeal.Facts] : Prop :=
  ∀ (m : (ℓ : Loc Cert.AdamOutEarlyRefIdeal.nD Cert.AdamOutEarlyRefIdeal.τ Cert.AdamOutEarlyRefIdeal.sig) → Buf (Elt Ideal) ℓ) (g : Dev Cert.AdamOutEarlyRefIdeal.nD → PrngReg), Pre_AdamOutEarlyRefIdeal m →
    θ_run (Cert.AdamOutEarlyRefIdeal.defs (F := Ideal)) (onTc (τ := Cert.AdamOutEarlyRefIdeal.τ) (Cert.AdamOutEarlyRefIdeal.main (F := Ideal))) ⟨m, fun _ => 0, g⟩ (fun r => (∀ c : Dev Cert.AdamOutEarlyRefIdeal.nD,
      r.2.mem ((c.tc : Thread Cert.AdamOutEarlyRefIdeal.nD Cert.AdamOutEarlyRefIdeal.τ).loc Cert.AdamOutEarlyRefIdeal.main_arg0) = m ((c.tc : Thread Cert.AdamOutEarlyRefIdeal.nD Cert.AdamOutEarlyRefIdeal.τ).loc Cert.AdamOutEarlyRefIdeal.main_arg0)
      ∧ r.2.mem ((c.tc : Thread Cert.AdamOutEarlyRefIdeal.nD Cert.AdamOutEarlyRefIdeal.τ).loc Cert.AdamOutEarlyRefIdeal.main_arg1) = m ((c.tc : Thread Cert.AdamOutEarlyRefIdeal.nD Cert.AdamOutEarlyRefIdeal.τ).loc Cert.AdamOutEarlyRefIdeal.main_arg1)
      ∧ r.2.mem ((c.tc : Thread Cert.AdamOutEarlyRefIdeal.nD Cert.AdamOutEarlyRefIdeal.τ).loc Cert.AdamOutEarlyRefIdeal.main_arg2) = m ((c.tc : Thread Cert.AdamOutEarlyRefIdeal.nD Cert.AdamOutEarlyRefIdeal.τ).loc Cert.AdamOutEarlyRefIdeal.main_arg2)
      ∧ r.2.mem ((c.tc : Thread Cert.AdamOutEarlyRefIdeal.nD Cert.AdamOutEarlyRefIdeal.τ).loc Cert.AdamOutEarlyRefIdeal.main_arg3) = m ((c.tc : Thread Cert.AdamOutEarlyRefIdeal.nD Cert.AdamOutEarlyRefIdeal.τ).loc Cert.AdamOutEarlyRefIdeal.main_arg3)
      ∧ r.2.mem ((c.tc : Thread Cert.AdamOutEarlyRefIdeal.nD Cert.AdamOutEarlyRefIdeal.τ).loc Cert.AdamOutEarlyRefIdeal.main_arg4) = m ((c.tc : Thread Cert.AdamOutEarlyRefIdeal.nD Cert.AdamOutEarlyRefIdeal.τ).loc Cert.AdamOutEarlyRefIdeal.main_arg4)
      ∧ r.2.mem ((c.tc : Thread Cert.AdamOutEarlyRefIdeal.nD Cert.AdamOutEarlyRefIdeal.τ).loc Cert.AdamOutEarlyRefIdeal.main_arg5) = m ((c.tc : Thread Cert.AdamOutEarlyRefIdeal.nD Cert.AdamOutEarlyRefIdeal.τ).loc Cert.AdamOutEarlyRefIdeal.main_arg5)
      ∧ r.2.mem ((c.tc : Thread Cert.AdamOutEarlyRefIdeal.nD Cert.AdamOutEarlyRefIdeal.τ).loc Cert.AdamOutEarlyRefIdeal.main_arg6) = m ((c.tc : Thread Cert.AdamOutEarlyRefIdeal.nD Cert.AdamOutEarlyRefIdeal.τ).loc Cert.AdamOutEarlyRefIdeal.main_arg6)
      ∧ r.2.mem ((c.tc : Thread Cert.AdamOutEarlyRefIdeal.nD Cert.AdamOutEarlyRefIdeal.τ).loc Cert.AdamOutEarlyRefIdeal.main_arg7) = m ((c.tc : Thread Cert.AdamOutEarlyRefIdeal.nD Cert.AdamOutEarlyRefIdeal.τ).loc Cert.AdamOutEarlyRefIdeal.main_arg7)
      ∧ r.2.mem ((c.tc : Thread Cert.AdamOutEarlyRefIdeal.nD Cert.AdamOutEarlyRefIdeal.τ).loc Cert.AdamOutEarlyRefIdeal.main_arg8) = m ((c.tc : Thread Cert.AdamOutEarlyRefIdeal.nD Cert.AdamOutEarlyRefIdeal.τ).loc Cert.AdamOutEarlyRefIdeal.main_arg8))
      ∧ r.2.sem = fun _ => 0)

def quiescent_AdamInLate [hAdamInLate : Cert.AdamInLate.Facts] : Prop :=
  ∀ (m : (ℓ : Loc Cert.AdamInLate.nD Cert.AdamInLate.τ Cert.AdamInLate.sig) → Buf (Elt Bits) ℓ) (g : Dev Cert.AdamInLate.nD → PrngReg), Pre_AdamInLate m →
    θ_run (Cert.AdamInLate.defs (F := Bits)) (onTc (τ := Cert.AdamInLate.τ) (Cert.AdamInLate.main (F := Bits))) ⟨m, fun _ => 0, g⟩ (fun r => (∀ c : Dev Cert.AdamInLate.nD,
      r.2.mem ((c.tc : Thread Cert.AdamInLate.nD Cert.AdamInLate.τ).loc Cert.AdamInLate.main_arg0) = m ((c.tc : Thread Cert.AdamInLate.nD Cert.AdamInLate.τ).loc Cert.AdamInLate.main_arg0)
      ∧ r.2.mem ((c.tc : Thread Cert.AdamInLate.nD Cert.AdamInLate.τ).loc Cert.AdamInLate.main_arg1) = m ((c.tc : Thread Cert.AdamInLate.nD Cert.AdamInLate.τ).loc Cert.AdamInLate.main_arg1)
      ∧ r.2.mem ((c.tc : Thread Cert.AdamInLate.nD Cert.AdamInLate.τ).loc Cert.AdamInLate.main_arg2) = m ((c.tc : Thread Cert.AdamInLate.nD Cert.AdamInLate.τ).loc Cert.AdamInLate.main_arg2)
      ∧ r.2.mem ((c.tc : Thread Cert.AdamInLate.nD Cert.AdamInLate.τ).loc Cert.AdamInLate.main_arg3) = m ((c.tc : Thread Cert.AdamInLate.nD Cert.AdamInLate.τ).loc Cert.AdamInLate.main_arg3)
      ∧ r.2.mem ((c.tc : Thread Cert.AdamInLate.nD Cert.AdamInLate.τ).loc Cert.AdamInLate.main_arg4) = m ((c.tc : Thread Cert.AdamInLate.nD Cert.AdamInLate.τ).loc Cert.AdamInLate.main_arg4)
      ∧ r.2.mem ((c.tc : Thread Cert.AdamInLate.nD Cert.AdamInLate.τ).loc Cert.AdamInLate.main_arg5) = m ((c.tc : Thread Cert.AdamInLate.nD Cert.AdamInLate.τ).loc Cert.AdamInLate.main_arg5)
      ∧ r.2.mem ((c.tc : Thread Cert.AdamInLate.nD Cert.AdamInLate.τ).loc Cert.AdamInLate.main_arg6) = m ((c.tc : Thread Cert.AdamInLate.nD Cert.AdamInLate.τ).loc Cert.AdamInLate.main_arg6)
      ∧ r.2.mem ((c.tc : Thread Cert.AdamInLate.nD Cert.AdamInLate.τ).loc Cert.AdamInLate.main_arg7) = m ((c.tc : Thread Cert.AdamInLate.nD Cert.AdamInLate.τ).loc Cert.AdamInLate.main_arg7)
      ∧ r.2.mem ((c.tc : Thread Cert.AdamInLate.nD Cert.AdamInLate.τ).loc Cert.AdamInLate.main_arg8) = m ((c.tc : Thread Cert.AdamInLate.nD Cert.AdamInLate.τ).loc Cert.AdamInLate.main_arg8))
      ∧ r.2.sem = fun _ => 0)

def quiescent_AdamInLateIdeal [hAdamInLateIdeal : Cert.AdamInLateIdeal.Facts] : Prop :=
  ∀ (m : (ℓ : Loc Cert.AdamInLateIdeal.nD Cert.AdamInLateIdeal.τ Cert.AdamInLateIdeal.sig) → Buf (Elt Ideal) ℓ) (g : Dev Cert.AdamInLateIdeal.nD → PrngReg), Pre_AdamInLateIdeal m →
    θ_run (Cert.AdamInLateIdeal.defs (F := Ideal)) (onTc (τ := Cert.AdamInLateIdeal.τ) (Cert.AdamInLateIdeal.main (F := Ideal))) ⟨m, fun _ => 0, g⟩ (fun r => (∀ c : Dev Cert.AdamInLateIdeal.nD,
      r.2.mem ((c.tc : Thread Cert.AdamInLateIdeal.nD Cert.AdamInLateIdeal.τ).loc Cert.AdamInLateIdeal.main_arg0) = m ((c.tc : Thread Cert.AdamInLateIdeal.nD Cert.AdamInLateIdeal.τ).loc Cert.AdamInLateIdeal.main_arg0)
      ∧ r.2.mem ((c.tc : Thread Cert.AdamInLateIdeal.nD Cert.AdamInLateIdeal.τ).loc Cert.AdamInLateIdeal.main_arg1) = m ((c.tc : Thread Cert.AdamInLateIdeal.nD Cert.AdamInLateIdeal.τ).loc Cert.AdamInLateIdeal.main_arg1)
      ∧ r.2.mem ((c.tc : Thread Cert.AdamInLateIdeal.nD Cert.AdamInLateIdeal.τ).loc Cert.AdamInLateIdeal.main_arg2) = m ((c.tc : Thread Cert.AdamInLateIdeal.nD Cert.AdamInLateIdeal.τ).loc Cert.AdamInLateIdeal.main_arg2)
      ∧ r.2.mem ((c.tc : Thread Cert.AdamInLateIdeal.nD Cert.AdamInLateIdeal.τ).loc Cert.AdamInLateIdeal.main_arg3) = m ((c.tc : Thread Cert.AdamInLateIdeal.nD Cert.AdamInLateIdeal.τ).loc Cert.AdamInLateIdeal.main_arg3)
      ∧ r.2.mem ((c.tc : Thread Cert.AdamInLateIdeal.nD Cert.AdamInLateIdeal.τ).loc Cert.AdamInLateIdeal.main_arg4) = m ((c.tc : Thread Cert.AdamInLateIdeal.nD Cert.AdamInLateIdeal.τ).loc Cert.AdamInLateIdeal.main_arg4)
      ∧ r.2.mem ((c.tc : Thread Cert.AdamInLateIdeal.nD Cert.AdamInLateIdeal.τ).loc Cert.AdamInLateIdeal.main_arg5) = m ((c.tc : Thread Cert.AdamInLateIdeal.nD Cert.AdamInLateIdeal.τ).loc Cert.AdamInLateIdeal.main_arg5)
      ∧ r.2.mem ((c.tc : Thread Cert.AdamInLateIdeal.nD Cert.AdamInLateIdeal.τ).loc Cert.AdamInLateIdeal.main_arg6) = m ((c.tc : Thread Cert.AdamInLateIdeal.nD Cert.AdamInLateIdeal.τ).loc Cert.AdamInLateIdeal.main_arg6)
      ∧ r.2.mem ((c.tc : Thread Cert.AdamInLateIdeal.nD Cert.AdamInLateIdeal.τ).loc Cert.AdamInLateIdeal.main_arg7) = m ((c.tc : Thread Cert.AdamInLateIdeal.nD Cert.AdamInLateIdeal.τ).loc Cert.AdamInLateIdeal.main_arg7)
      ∧ r.2.mem ((c.tc : Thread Cert.AdamInLateIdeal.nD Cert.AdamInLateIdeal.τ).loc Cert.AdamInLateIdeal.main_arg8) = m ((c.tc : Thread Cert.AdamInLateIdeal.nD Cert.AdamInLateIdeal.τ).loc Cert.AdamInLateIdeal.main_arg8))
      ∧ r.2.sem = fun _ => 0)

def quiescent_AdamInLateRefIdeal [hAdamInLateRefIdeal : Cert.AdamInLateRefIdeal.Facts] : Prop :=
  ∀ (m : (ℓ : Loc Cert.AdamInLateRefIdeal.nD Cert.AdamInLateRefIdeal.τ Cert.AdamInLateRefIdeal.sig) → Buf (Elt Ideal) ℓ) (g : Dev Cert.AdamInLateRefIdeal.nD → PrngReg), Pre_AdamInLateRefIdeal m →
    θ_run (Cert.AdamInLateRefIdeal.defs (F := Ideal)) (onTc (τ := Cert.AdamInLateRefIdeal.τ) (Cert.AdamInLateRefIdeal.main (F := Ideal))) ⟨m, fun _ => 0, g⟩ (fun r => (∀ c : Dev Cert.AdamInLateRefIdeal.nD,
      r.2.mem ((c.tc : Thread Cert.AdamInLateRefIdeal.nD Cert.AdamInLateRefIdeal.τ).loc Cert.AdamInLateRefIdeal.main_arg0) = m ((c.tc : Thread Cert.AdamInLateRefIdeal.nD Cert.AdamInLateRefIdeal.τ).loc Cert.AdamInLateRefIdeal.main_arg0)
      ∧ r.2.mem ((c.tc : Thread Cert.AdamInLateRefIdeal.nD Cert.AdamInLateRefIdeal.τ).loc Cert.AdamInLateRefIdeal.main_arg1) = m ((c.tc : Thread Cert.AdamInLateRefIdeal.nD Cert.AdamInLateRefIdeal.τ).loc Cert.AdamInLateRefIdeal.main_arg1)
      ∧ r.2.mem ((c.tc : Thread Cert.AdamInLateRefIdeal.nD Cert.AdamInLateRefIdeal.τ).loc Cert.AdamInLateRefIdeal.main_arg2) = m ((c.tc : Thread Cert.AdamInLateRefIdeal.nD Cert.AdamInLateRefIdeal.τ).loc Cert.AdamInLateRefIdeal.main_arg2)
      ∧ r.2.mem ((c.tc : Thread Cert.AdamInLateRefIdeal.nD Cert.AdamInLateRefIdeal.τ).loc Cert.AdamInLateRefIdeal.main_arg3) = m ((c.tc : Thread Cert.AdamInLateRefIdeal.nD Cert.AdamInLateRefIdeal.τ).loc Cert.AdamInLateRefIdeal.main_arg3)
      ∧ r.2.mem ((c.tc : Thread Cert.AdamInLateRefIdeal.nD Cert.AdamInLateRefIdeal.τ).loc Cert.AdamInLateRefIdeal.main_arg4) = m ((c.tc : Thread Cert.AdamInLateRefIdeal.nD Cert.AdamInLateRefIdeal.τ).loc Cert.AdamInLateRefIdeal.main_arg4)
      ∧ r.2.mem ((c.tc : Thread Cert.AdamInLateRefIdeal.nD Cert.AdamInLateRefIdeal.τ).loc Cert.AdamInLateRefIdeal.main_arg5) = m ((c.tc : Thread Cert.AdamInLateRefIdeal.nD Cert.AdamInLateRefIdeal.τ).loc Cert.AdamInLateRefIdeal.main_arg5)
      ∧ r.2.mem ((c.tc : Thread Cert.AdamInLateRefIdeal.nD Cert.AdamInLateRefIdeal.τ).loc Cert.AdamInLateRefIdeal.main_arg6) = m ((c.tc : Thread Cert.AdamInLateRefIdeal.nD Cert.AdamInLateRefIdeal.τ).loc Cert.AdamInLateRefIdeal.main_arg6)
      ∧ r.2.mem ((c.tc : Thread Cert.AdamInLateRefIdeal.nD Cert.AdamInLateRefIdeal.τ).loc Cert.AdamInLateRefIdeal.main_arg7) = m ((c.tc : Thread Cert.AdamInLateRefIdeal.nD Cert.AdamInLateRefIdeal.τ).loc Cert.AdamInLateRefIdeal.main_arg7)
      ∧ r.2.mem ((c.tc : Thread Cert.AdamInLateRefIdeal.nD Cert.AdamInLateRefIdeal.τ).loc Cert.AdamInLateRefIdeal.main_arg8) = m ((c.tc : Thread Cert.AdamInLateRefIdeal.nD Cert.AdamInLateRefIdeal.τ).loc Cert.AdamInLateRefIdeal.main_arg8))
      ∧ r.2.sem = fun _ => 0)

def quiescent_AdamInTop [hAdamInTop : Cert.AdamInTop.Facts] : Prop :=
  ∀ (m : (ℓ : Loc Cert.AdamInTop.nD Cert.AdamInTop.τ Cert.AdamInTop.sig) → Buf (Elt Bits) ℓ) (g : Dev Cert.AdamInTop.nD → PrngReg), Pre_AdamInTop m →
    θ_run (Cert.AdamInTop.defs (F := Bits)) (onTc (τ := Cert.AdamInTop.τ) (Cert.AdamInTop.main (F := Bits))) ⟨m, fun _ => 0, g⟩ (fun r => (∀ c : Dev Cert.AdamInTop.nD,
      r.2.mem ((c.tc : Thread Cert.AdamInTop.nD Cert.AdamInTop.τ).loc Cert.AdamInTop.main_arg0) = m ((c.tc : Thread Cert.AdamInTop.nD Cert.AdamInTop.τ).loc Cert.AdamInTop.main_arg0)
      ∧ r.2.mem ((c.tc : Thread Cert.AdamInTop.nD Cert.AdamInTop.τ).loc Cert.AdamInTop.main_arg1) = m ((c.tc : Thread Cert.AdamInTop.nD Cert.AdamInTop.τ).loc Cert.AdamInTop.main_arg1)
      ∧ r.2.mem ((c.tc : Thread Cert.AdamInTop.nD Cert.AdamInTop.τ).loc Cert.AdamInTop.main_arg2) = m ((c.tc : Thread Cert.AdamInTop.nD Cert.AdamInTop.τ).loc Cert.AdamInTop.main_arg2)
      ∧ r.2.mem ((c.tc : Thread Cert.AdamInTop.nD Cert.AdamInTop.τ).loc Cert.AdamInTop.main_arg3) = m ((c.tc : Thread Cert.AdamInTop.nD Cert.AdamInTop.τ).loc Cert.AdamInTop.main_arg3)
      ∧ r.2.mem ((c.tc : Thread Cert.AdamInTop.nD Cert.AdamInTop.τ).loc Cert.AdamInTop.main_arg4) = m ((c.tc : Thread Cert.AdamInTop.nD Cert.AdamInTop.τ).loc Cert.AdamInTop.main_arg4)
      ∧ r.2.mem ((c.tc : Thread Cert.AdamInTop.nD Cert.AdamInTop.τ).loc Cert.AdamInTop.main_arg5) = m ((c.tc : Thread Cert.AdamInTop.nD Cert.AdamInTop.τ).loc Cert.AdamInTop.main_arg5)
      ∧ r.2.mem ((c.tc : Thread Cert.AdamInTop.nD Cert.AdamInTop.τ).loc Cert.AdamInTop.main_arg6) = m ((c.tc : Thread Cert.AdamInTop.nD Cert.AdamInTop.τ).loc Cert.AdamInTop.main_arg6)
      ∧ r.2.mem ((c.tc : Thread Cert.AdamInTop.nD Cert.AdamInTop.τ).loc Cert.AdamInTop.main_arg7) = m ((c.tc : Thread Cert.AdamInTop.nD Cert.AdamInTop.τ).loc Cert.AdamInTop.main_arg7)
      ∧ r.2.mem ((c.tc : Thread Cert.AdamInTop.nD Cert.AdamInTop.τ).loc Cert.AdamInTop.main_arg8) = m ((c.tc : Thread Cert.AdamInTop.nD Cert.AdamInTop.τ).loc Cert.AdamInTop.main_arg8))
      ∧ r.2.sem = fun _ => 0)

def quiescent_AdamInTopIdeal [hAdamInTopIdeal : Cert.AdamInTopIdeal.Facts] : Prop :=
  ∀ (m : (ℓ : Loc Cert.AdamInTopIdeal.nD Cert.AdamInTopIdeal.τ Cert.AdamInTopIdeal.sig) → Buf (Elt Ideal) ℓ) (g : Dev Cert.AdamInTopIdeal.nD → PrngReg), Pre_AdamInTopIdeal m →
    θ_run (Cert.AdamInTopIdeal.defs (F := Ideal)) (onTc (τ := Cert.AdamInTopIdeal.τ) (Cert.AdamInTopIdeal.main (F := Ideal))) ⟨m, fun _ => 0, g⟩ (fun r => (∀ c : Dev Cert.AdamInTopIdeal.nD,
      r.2.mem ((c.tc : Thread Cert.AdamInTopIdeal.nD Cert.AdamInTopIdeal.τ).loc Cert.AdamInTopIdeal.main_arg0) = m ((c.tc : Thread Cert.AdamInTopIdeal.nD Cert.AdamInTopIdeal.τ).loc Cert.AdamInTopIdeal.main_arg0)
      ∧ r.2.mem ((c.tc : Thread Cert.AdamInTopIdeal.nD Cert.AdamInTopIdeal.τ).loc Cert.AdamInTopIdeal.main_arg1) = m ((c.tc : Thread Cert.AdamInTopIdeal.nD Cert.AdamInTopIdeal.τ).loc Cert.AdamInTopIdeal.main_arg1)
      ∧ r.2.mem ((c.tc : Thread Cert.AdamInTopIdeal.nD Cert.AdamInTopIdeal.τ).loc Cert.AdamInTopIdeal.main_arg2) = m ((c.tc : Thread Cert.AdamInTopIdeal.nD Cert.AdamInTopIdeal.τ).loc Cert.AdamInTopIdeal.main_arg2)
      ∧ r.2.mem ((c.tc : Thread Cert.AdamInTopIdeal.nD Cert.AdamInTopIdeal.τ).loc Cert.AdamInTopIdeal.main_arg3) = m ((c.tc : Thread Cert.AdamInTopIdeal.nD Cert.AdamInTopIdeal.τ).loc Cert.AdamInTopIdeal.main_arg3)
      ∧ r.2.mem ((c.tc : Thread Cert.AdamInTopIdeal.nD Cert.AdamInTopIdeal.τ).loc Cert.AdamInTopIdeal.main_arg4) = m ((c.tc : Thread Cert.AdamInTopIdeal.nD Cert.AdamInTopIdeal.τ).loc Cert.AdamInTopIdeal.main_arg4)
      ∧ r.2.mem ((c.tc : Thread Cert.AdamInTopIdeal.nD Cert.AdamInTopIdeal.τ).loc Cert.AdamInTopIdeal.main_arg5) = m ((c.tc : Thread Cert.AdamInTopIdeal.nD Cert.AdamInTopIdeal.τ).loc Cert.AdamInTopIdeal.main_arg5)
      ∧ r.2.mem ((c.tc : Thread Cert.AdamInTopIdeal.nD Cert.AdamInTopIdeal.τ).loc Cert.AdamInTopIdeal.main_arg6) = m ((c.tc : Thread Cert.AdamInTopIdeal.nD Cert.AdamInTopIdeal.τ).loc Cert.AdamInTopIdeal.main_arg6)
      ∧ r.2.mem ((c.tc : Thread Cert.AdamInTopIdeal.nD Cert.AdamInTopIdeal.τ).loc Cert.AdamInTopIdeal.main_arg7) = m ((c.tc : Thread Cert.AdamInTopIdeal.nD Cert.AdamInTopIdeal.τ).loc Cert.AdamInTopIdeal.main_arg7)
      ∧ r.2.mem ((c.tc : Thread Cert.AdamInTopIdeal.nD Cert.AdamInTopIdeal.τ).loc Cert.AdamInTopIdeal.main_arg8) = m ((c.tc : Thread Cert.AdamInTopIdeal.nD Cert.AdamInTopIdeal.τ).loc Cert.AdamInTopIdeal.main_arg8))
      ∧ r.2.sem = fun _ => 0)

def quiescent_AdamInTopRefIdeal [hAdamInTopRefIdeal : Cert.AdamInTopRefIdeal.Facts] : Prop :=
  ∀ (m : (ℓ : Loc Cert.AdamInTopRefIdeal.nD Cert.AdamInTopRefIdeal.τ Cert.AdamInTopRefIdeal.sig) → Buf (Elt Ideal) ℓ) (g : Dev Cert.AdamInTopRefIdeal.nD → PrngReg), Pre_AdamInTopRefIdeal m →
    θ_run (Cert.AdamInTopRefIdeal.defs (F := Ideal)) (onTc (τ := Cert.AdamInTopRefIdeal.τ) (Cert.AdamInTopRefIdeal.main (F := Ideal))) ⟨m, fun _ => 0, g⟩ (fun r => (∀ c : Dev Cert.AdamInTopRefIdeal.nD,
      r.2.mem ((c.tc : Thread Cert.AdamInTopRefIdeal.nD Cert.AdamInTopRefIdeal.τ).loc Cert.AdamInTopRefIdeal.main_arg0) = m ((c.tc : Thread Cert.AdamInTopRefIdeal.nD Cert.AdamInTopRefIdeal.τ).loc Cert.AdamInTopRefIdeal.main_arg0)
      ∧ r.2.mem ((c.tc : Thread Cert.AdamInTopRefIdeal.nD Cert.AdamInTopRefIdeal.τ).loc Cert.AdamInTopRefIdeal.main_arg1) = m ((c.tc : Thread Cert.AdamInTopRefIdeal.nD Cert.AdamInTopRefIdeal.τ).loc Cert.AdamInTopRefIdeal.main_arg1)
      ∧ r.2.mem ((c.tc : Thread Cert.AdamInTopRefIdeal.nD Cert.AdamInTopRefIdeal.τ).loc Cert.AdamInTopRefIdeal.main_arg2) = m ((c.tc : Thread Cert.AdamInTopRefIdeal.nD Cert.AdamInTopRefIdeal.τ).loc Cert.AdamInTopRefIdeal.main_arg2)
      ∧ r.2.mem ((c.tc : Thread Cert.AdamInTopRefIdeal.nD Cert.AdamInTopRefIdeal.τ).loc Cert.AdamInTopRefIdeal.main_arg3) = m ((c.tc : Thread Cert.AdamInTopRefIdeal.nD Cert.AdamInTopRefIdeal.τ).loc Cert.AdamInTopRefIdeal.main_arg3)
      ∧ r.2.mem ((c.tc : Thread Cert.AdamInTopRefIdeal.nD Cert.AdamInTopRefIdeal.τ).loc Cert.AdamInTopRefIdeal.main_arg4) = m ((c.tc : Thread Cert.AdamInTopRefIdeal.nD Cert.AdamInTopRefIdeal.τ).loc Cert.AdamInTopRefIdeal.main_arg4)
      ∧ r.2.mem ((c.tc : Thread Cert.AdamInTopRefIdeal.nD Cert.AdamInTopRefIdeal.τ).loc Cert.AdamInTopRefIdeal.main_arg5) = m ((c.tc : Thread Cert.AdamInTopRefIdeal.nD Cert.AdamInTopRefIdeal.τ).loc Cert.AdamInTopRefIdeal.main_arg5)
      ∧ r.2.mem ((c.tc : Thread Cert.AdamInTopRefIdeal.nD Cert.AdamInTopRefIdeal.τ).loc Cert.AdamInTopRefIdeal.main_arg6) = m ((c.tc : Thread Cert.AdamInTopRefIdeal.nD Cert.AdamInTopRefIdeal.τ).loc Cert.AdamInTopRefIdeal.main_arg6)
      ∧ r.2.mem ((c.tc : Thread Cert.AdamInTopRefIdeal.nD Cert.AdamInTopRefIdeal.τ).loc Cert.AdamInTopRefIdeal.main_arg7) = m ((c.tc : Thread Cert.AdamInTopRefIdeal.nD Cert.AdamInTopRefIdeal.τ).loc Cert.AdamInTopRefIdeal.main_arg7)
      ∧ r.2.mem ((c.tc : Thread Cert.AdamInTopRefIdeal.nD Cert.AdamInTopRefIdeal.τ).loc Cert.AdamInTopRefIdeal.main_arg8) = m ((c.tc : Thread Cert.AdamInTopRefIdeal.nD Cert.AdamInTopRefIdeal.τ).loc Cert.AdamInTopRefIdeal.main_arg8))
      ∧ r.2.sem = fun _ => 0)

def quiescent_AdamInLow [hAdamInLow : Cert.AdamInLow.Facts] : Prop :=
  ∀ (m : (ℓ : Loc Cert.AdamInLow.nD Cert.AdamInLow.τ Cert.AdamInLow.sig) → Buf (Elt Bits) ℓ) (g : Dev Cert.AdamInLow.nD → PrngReg), Pre_AdamInLow m →
    θ_run (Cert.AdamInLow.defs (F := Bits)) (onTc (τ := Cert.AdamInLow.τ) (Cert.AdamInLow.main (F := Bits))) ⟨m, fun _ => 0, g⟩ (fun r => (∀ c : Dev Cert.AdamInLow.nD,
      r.2.mem ((c.tc : Thread Cert.AdamInLow.nD Cert.AdamInLow.τ).loc Cert.AdamInLow.main_arg0) = m ((c.tc : Thread Cert.AdamInLow.nD Cert.AdamInLow.τ).loc Cert.AdamInLow.main_arg0)
      ∧ r.2.mem ((c.tc : Thread Cert.AdamInLow.nD Cert.AdamInLow.τ).loc Cert.AdamInLow.main_arg1) = m ((c.tc : Thread Cert.AdamInLow.nD Cert.AdamInLow.τ).loc Cert.AdamInLow.main_arg1)
      ∧ r.2.mem ((c.tc : Thread Cert.AdamInLow.nD Cert.AdamInLow.τ).loc Cert.AdamInLow.main_arg2) = m ((c.tc : Thread Cert.AdamInLow.nD Cert.AdamInLow.τ).loc Cert.AdamInLow.main_arg2)
      ∧ r.2.mem ((c.tc : Thread Cert.AdamInLow.nD Cert.AdamInLow.τ).loc Cert.AdamInLow.main_arg3) = m ((c.tc : Thread Cert.AdamInLow.nD Cert.AdamInLow.τ).loc Cert.AdamInLow.main_arg3)
      ∧ r.2.mem ((c.tc : Thread Cert.AdamInLow.nD Cert.AdamInLow.τ).loc Cert.AdamInLow.main_arg4) = m ((c.tc : Thread Cert.AdamInLow.nD Cert.AdamInLow.τ).loc Cert.AdamInLow.main_arg4)
      ∧ r.2.mem ((c.tc : Thread Cert.AdamInLow.nD Cert.AdamInLow.τ).loc Cert.AdamInLow.main_arg5) = m ((c.tc : Thread Cert.AdamInLow.nD Cert.AdamInLow.τ).loc Cert.AdamInLow.main_arg5)
      ∧ r.2.mem ((c.tc : Thread Cert.AdamInLow.nD Cert.AdamInLow.τ).loc Cert.AdamInLow.main_arg6) = m ((c.tc : Thread Cert.AdamInLow.nD Cert.AdamInLow.τ).loc Cert.AdamInLow.main_arg6)
      ∧ r.2.mem ((c.tc : Thread Cert.AdamInLow.nD Cert.AdamInLow.τ).loc Cert.AdamInLow.main_arg7) = m ((c.tc : Thread Cert.AdamInLow.nD Cert.AdamInLow.τ).loc Cert.AdamInLow.main_arg7)
      ∧ r.2.mem ((c.tc : Thread Cert.AdamInLow.nD Cert.AdamInLow.τ).loc Cert.AdamInLow.main_arg8) = m ((c.tc : Thread Cert.AdamInLow.nD Cert.AdamInLow.τ).loc Cert.AdamInLow.main_arg8))
      ∧ r.2.sem = fun _ => 0)

def quiescent_AdamInLowIdeal [hAdamInLowIdeal : Cert.AdamInLowIdeal.Facts] : Prop :=
  ∀ (m : (ℓ : Loc Cert.AdamInLowIdeal.nD Cert.AdamInLowIdeal.τ Cert.AdamInLowIdeal.sig) → Buf (Elt Ideal) ℓ) (g : Dev Cert.AdamInLowIdeal.nD → PrngReg), Pre_AdamInLowIdeal m →
    θ_run (Cert.AdamInLowIdeal.defs (F := Ideal)) (onTc (τ := Cert.AdamInLowIdeal.τ) (Cert.AdamInLowIdeal.main (F := Ideal))) ⟨m, fun _ => 0, g⟩ (fun r => (∀ c : Dev Cert.AdamInLowIdeal.nD,
      r.2.mem ((c.tc : Thread Cert.AdamInLowIdeal.nD Cert.AdamInLowIdeal.τ).loc Cert.AdamInLowIdeal.main_arg0) = m ((c.tc : Thread Cert.AdamInLowIdeal.nD Cert.AdamInLowIdeal.τ).loc Cert.AdamInLowIdeal.main_arg0)
      ∧ r.2.mem ((c.tc : Thread Cert.AdamInLowIdeal.nD Cert.AdamInLowIdeal.τ).loc Cert.AdamInLowIdeal.main_arg1) = m ((c.tc : Thread Cert.AdamInLowIdeal.nD Cert.AdamInLowIdeal.τ).loc Cert.AdamInLowIdeal.main_arg1)
      ∧ r.2.mem ((c.tc : Thread Cert.AdamInLowIdeal.nD Cert.AdamInLowIdeal.τ).loc Cert.AdamInLowIdeal.main_arg2) = m ((c.tc : Thread Cert.AdamInLowIdeal.nD Cert.AdamInLowIdeal.τ).loc Cert.AdamInLowIdeal.main_arg2)
      ∧ r.2.mem ((c.tc : Thread Cert.AdamInLowIdeal.nD Cert.AdamInLowIdeal.τ).loc Cert.AdamInLowIdeal.main_arg3) = m ((c.tc : Thread Cert.AdamInLowIdeal.nD Cert.AdamInLowIdeal.τ).loc Cert.AdamInLowIdeal.main_arg3)
      ∧ r.2.mem ((c.tc : Thread Cert.AdamInLowIdeal.nD Cert.AdamInLowIdeal.τ).loc Cert.AdamInLowIdeal.main_arg4) = m ((c.tc : Thread Cert.AdamInLowIdeal.nD Cert.AdamInLowIdeal.τ).loc Cert.AdamInLowIdeal.main_arg4)
      ∧ r.2.mem ((c.tc : Thread Cert.AdamInLowIdeal.nD Cert.AdamInLowIdeal.τ).loc Cert.AdamInLowIdeal.main_arg5) = m ((c.tc : Thread Cert.AdamInLowIdeal.nD Cert.AdamInLowIdeal.τ).loc Cert.AdamInLowIdeal.main_arg5)
      ∧ r.2.mem ((c.tc : Thread Cert.AdamInLowIdeal.nD Cert.AdamInLowIdeal.τ).loc Cert.AdamInLowIdeal.main_arg6) = m ((c.tc : Thread Cert.AdamInLowIdeal.nD Cert.AdamInLowIdeal.τ).loc Cert.AdamInLowIdeal.main_arg6)
      ∧ r.2.mem ((c.tc : Thread Cert.AdamInLowIdeal.nD Cert.AdamInLowIdeal.τ).loc Cert.AdamInLowIdeal.main_arg7) = m ((c.tc : Thread Cert.AdamInLowIdeal.nD Cert.AdamInLowIdeal.τ).loc Cert.AdamInLowIdeal.main_arg7)
      ∧ r.2.mem ((c.tc : Thread Cert.AdamInLowIdeal.nD Cert.AdamInLowIdeal.τ).loc Cert.AdamInLowIdeal.main_arg8) = m ((c.tc : Thread Cert.AdamInLowIdeal.nD Cert.AdamInLowIdeal.τ).loc Cert.AdamInLowIdeal.main_arg8))
      ∧ r.2.sem = fun _ => 0)

def quiescent_AdamInLowRefIdeal [hAdamInLowRefIdeal : Cert.AdamInLowRefIdeal.Facts] : Prop :=
  ∀ (m : (ℓ : Loc Cert.AdamInLowRefIdeal.nD Cert.AdamInLowRefIdeal.τ Cert.AdamInLowRefIdeal.sig) → Buf (Elt Ideal) ℓ) (g : Dev Cert.AdamInLowRefIdeal.nD → PrngReg), Pre_AdamInLowRefIdeal m →
    θ_run (Cert.AdamInLowRefIdeal.defs (F := Ideal)) (onTc (τ := Cert.AdamInLowRefIdeal.τ) (Cert.AdamInLowRefIdeal.main (F := Ideal))) ⟨m, fun _ => 0, g⟩ (fun r => (∀ c : Dev Cert.AdamInLowRefIdeal.nD,
      r.2.mem ((c.tc : Thread Cert.AdamInLowRefIdeal.nD Cert.AdamInLowRefIdeal.τ).loc Cert.AdamInLowRefIdeal.main_arg0) = m ((c.tc : Thread Cert.AdamInLowRefIdeal.nD Cert.AdamInLowRefIdeal.τ).loc Cert.AdamInLowRefIdeal.main_arg0)
      ∧ r.2.mem ((c.tc : Thread Cert.AdamInLowRefIdeal.nD Cert.AdamInLowRefIdeal.τ).loc Cert.AdamInLowRefIdeal.main_arg1) = m ((c.tc : Thread Cert.AdamInLowRefIdeal.nD Cert.AdamInLowRefIdeal.τ).loc Cert.AdamInLowRefIdeal.main_arg1)
      ∧ r.2.mem ((c.tc : Thread Cert.AdamInLowRefIdeal.nD Cert.AdamInLowRefIdeal.τ).loc Cert.AdamInLowRefIdeal.main_arg2) = m ((c.tc : Thread Cert.AdamInLowRefIdeal.nD Cert.AdamInLowRefIdeal.τ).loc Cert.AdamInLowRefIdeal.main_arg2)
      ∧ r.2.mem ((c.tc : Thread Cert.AdamInLowRefIdeal.nD Cert.AdamInLowRefIdeal.τ).loc Cert.AdamInLowRefIdeal.main_arg3) = m ((c.tc : Thread Cert.AdamInLowRefIdeal.nD Cert.AdamInLowRefIdeal.τ).loc Cert.AdamInLowRefIdeal.main_arg3)
      ∧ r.2.mem ((c.tc : Thread Cert.AdamInLowRefIdeal.nD Cert.AdamInLowRefIdeal.τ).loc Cert.AdamInLowRefIdeal.main_arg4) = m ((c.tc : Thread Cert.AdamInLowRefIdeal.nD Cert.AdamInLowRefIdeal.τ).loc Cert.AdamInLowRefIdeal.main_arg4)
      ∧ r.2.mem ((c.tc : Thread Cert.AdamInLowRefIdeal.nD Cert.AdamInLowRefIdeal.τ).loc Cert.AdamInLowRefIdeal.main_arg5) = m ((c.tc : Thread Cert.AdamInLowRefIdeal.nD Cert.AdamInLowRefIdeal.τ).loc Cert.AdamInLowRefIdeal.main_arg5)
      ∧ r.2.mem ((c.tc : Thread Cert.AdamInLowRefIdeal.nD Cert.AdamInLowRefIdeal.τ).loc Cert.AdamInLowRefIdeal.main_arg6) = m ((c.tc : Thread Cert.AdamInLowRefIdeal.nD Cert.AdamInLowRefIdeal.τ).loc Cert.AdamInLowRefIdeal.main_arg6)
      ∧ r.2.mem ((c.tc : Thread Cert.AdamInLowRefIdeal.nD Cert.AdamInLowRefIdeal.τ).loc Cert.AdamInLowRefIdeal.main_arg7) = m ((c.tc : Thread Cert.AdamInLowRefIdeal.nD Cert.AdamInLowRefIdeal.τ).loc Cert.AdamInLowRefIdeal.main_arg7)
      ∧ r.2.mem ((c.tc : Thread Cert.AdamInLowRefIdeal.nD Cert.AdamInLowRefIdeal.τ).loc Cert.AdamInLowRefIdeal.main_arg8) = m ((c.tc : Thread Cert.AdamInLowRefIdeal.nD Cert.AdamInLowRefIdeal.τ).loc Cert.AdamInLowRefIdeal.main_arg8))
      ∧ r.2.sem = fun _ => 0)

def preserves_Kernel_KernelIdeal : Prop :=
  True

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v4) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)
      ∧ m' ((c.tc : Thread Cert.DhnRefIdeal.nD Cert.DhnRefIdeal.τ).loc Cert.DhnRefIdeal.main_arg2) = m ((c.tc : Thread Cert.DhnIdeal.nD Cert.DhnIdeal.τ).loc Cert.DhnIdeal.main_arg2)) →
    ∃ (v0 : (c : Dev Cert.DhnIdeal.nD) → Buf (Elt Ideal) ((c.tc : Thread Cert.DhnIdeal.nD Cert.DhnIdeal.τ).loc Cert.DhnIdeal.main_v0)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
          ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v4) = v0 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1)
          ∧ r.2.mem ((c.tc : Thread Cert.DhnRefIdeal.nD Cert.DhnRefIdeal.τ).loc Cert.DhnRefIdeal.main_arg2) = m' ((c.tc : Thread Cert.DhnRefIdeal.nD Cert.DhnRefIdeal.τ).loc Cert.DhnRefIdeal.main_arg2))

def preserves_MmU_MmUIdeal : Prop :=
  True

def algebraic_MmUIdeal_MmURefIdeal [hMmUIdeal : Cert.MmUIdeal.Facts] [hMmURefIdeal : Cert.MmURefIdeal.Facts] : Prop :=
  ∀ (m : (ℓ : Loc Cert.MmUIdeal.nD Cert.MmUIdeal.τ Cert.MmUIdeal.sig) → Buf (Elt Ideal) ℓ) (g : Dev Cert.MmUIdeal.nD → PrngReg)
    (m' : (ℓ : Loc Cert.MmURefIdeal.nD Cert.MmURefIdeal.τ Cert.MmURefIdeal.sig) → Buf (Elt Ideal) ℓ) (g' : Dev Cert.MmURefIdeal.nD → PrngReg), Pre_MmUIdeal m →
    (∀ c : Dev Cert.MmUIdeal.nD,
      m' ((c.tc : Thread Cert.MmURefIdeal.nD Cert.MmURefIdeal.τ).loc Cert.MmURefIdeal.main_arg0) = m ((c.tc : Thread Cert.MmUIdeal.nD Cert.MmUIdeal.τ).loc Cert.MmUIdeal.main_arg0)
      ∧ m' ((c.tc : Thread Cert.MmURefIdeal.nD Cert.MmURefIdeal.τ).loc Cert.MmURefIdeal.main_arg1) = m ((c.tc : Thread Cert.MmUIdeal.nD Cert.MmUIdeal.τ).loc Cert.MmUIdeal.main_arg1)) →
    ∃ (v0 : (c : Dev Cert.MmUIdeal.nD) → Buf (Elt Ideal) ((c.tc : Thread Cert.MmUIdeal.nD Cert.MmUIdeal.τ).loc Cert.MmUIdeal.main_v0)),
      θ_run (Cert.MmUIdeal.defs (F := Ideal)) (onTc (τ := Cert.MmUIdeal.τ) (Cert.MmUIdeal.main (F := Ideal))) ⟨m, fun _ => 0, g⟩ (fun r => ∀ c : Dev Cert.MmUIdeal.nD,
          r.2.mem ((c.tc : Thread Cert.MmUIdeal.nD Cert.MmUIdeal.τ).loc Cert.MmUIdeal.main_v0) = v0 c
          ∧ r.2.mem ((c.tc : Thread Cert.MmUIdeal.nD Cert.MmUIdeal.τ).loc Cert.MmUIdeal.main_arg0) = m ((c.tc : Thread Cert.MmUIdeal.nD Cert.MmUIdeal.τ).loc Cert.MmUIdeal.main_arg0)
          ∧ r.2.mem ((c.tc : Thread Cert.MmUIdeal.nD Cert.MmUIdeal.τ).loc Cert.MmUIdeal.main_arg1) = m ((c.tc : Thread Cert.MmUIdeal.nD Cert.MmUIdeal.τ).loc Cert.MmUIdeal.main_arg1))
      ∧ θ_run (Cert.MmURefIdeal.defs (F := Ideal)) (onTc (τ := Cert.MmURefIdeal.τ) (Cert.MmURefIdeal.main (F := Ideal))) ⟨m', fun _ => 0, g'⟩ (fun r => ∀ c : Dev Cert.MmURefIdeal.nD,
          r.2.mem ((c.tc : Thread Cert.MmURefIdeal.nD Cert.MmURefIdeal.τ).loc Cert.MmURefIdeal.main_v2) = v0 c
          ∧ r.2.mem ((c.tc : Thread Cert.MmURefIdeal.nD Cert.MmURefIdeal.τ).loc Cert.MmURefIdeal.main_arg0) = m' ((c.tc : Thread Cert.MmURefIdeal.nD Cert.MmURefIdeal.τ).loc Cert.MmURefIdeal.main_arg0)
          ∧ r.2.mem ((c.tc : Thread Cert.MmURefIdeal.nD Cert.MmURefIdeal.τ).loc Cert.MmURefIdeal.main_arg1) = m' ((c.tc : Thread Cert.MmURefIdeal.nD Cert.MmURefIdeal.τ).loc Cert.MmURefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v3) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2))

def preserves_DyFirst_DyFirstIdeal : Prop :=
  True

def algebraic_DyFirstIdeal_DyFirstRefIdeal [hDyFirstIdeal : Cert.DyFirstIdeal.Facts] [hDyFirstRefIdeal : Cert.DyFirstRefIdeal.Facts] : Prop :=
  ∀ (m : (ℓ : Loc Cert.DyFirstIdeal.nD Cert.DyFirstIdeal.τ Cert.DyFirstIdeal.sig) → Buf (Elt Ideal) ℓ) (g : Dev Cert.DyFirstIdeal.nD → PrngReg)
    (m' : (ℓ : Loc Cert.DyFirstRefIdeal.nD Cert.DyFirstRefIdeal.τ Cert.DyFirstRefIdeal.sig) → Buf (Elt Ideal) ℓ) (g' : Dev Cert.DyFirstRefIdeal.nD → PrngReg), Pre_DyFirstIdeal m →
    (∀ c : Dev Cert.DyFirstIdeal.nD,
      m' ((c.tc : Thread Cert.DyFirstRefIdeal.nD Cert.DyFirstRefIdeal.τ).loc Cert.DyFirstRefIdeal.main_arg0) = m ((c.tc : Thread Cert.DyFirstIdeal.nD Cert.DyFirstIdeal.τ).loc Cert.DyFirstIdeal.main_arg0)
      ∧ m' ((c.tc : Thread Cert.DyFirstRefIdeal.nD Cert.DyFirstRefIdeal.τ).loc Cert.DyFirstRefIdeal.main_arg1) = m ((c.tc : Thread Cert.DyFirstIdeal.nD Cert.DyFirstIdeal.τ).loc Cert.DyFirstIdeal.main_arg1)
      ∧ m' ((c.tc : Thread Cert.DyFirstRefIdeal.nD Cert.DyFirstRefIdeal.τ).loc Cert.DyFirstRefIdeal.main_arg2) = m ((c.tc : Thread Cert.DyFirstIdeal.nD Cert.DyFirstIdeal.τ).loc Cert.DyFirstIdeal.main_arg2)) →
    ∃ (v0 : (c : Dev Cert.DyFirstIdeal.nD) → Buf (Elt Ideal) ((c.tc : Thread Cert.DyFirstIdeal.nD Cert.DyFirstIdeal.τ).loc Cert.DyFirstIdeal.main_v0)),
      θ_run (Cert.DyFirstIdeal.defs (F := Ideal)) (onTc (τ := Cert.DyFirstIdeal.τ) (Cert.DyFirstIdeal.main (F := Ideal))) ⟨m, fun _ => 0, g⟩ (fun r => ∀ c : Dev Cert.DyFirstIdeal.nD,
          r.2.mem ((c.tc : Thread Cert.DyFirstIdeal.nD Cert.DyFirstIdeal.τ).loc Cert.DyFirstIdeal.main_v0) = v0 c
          ∧ r.2.mem ((c.tc : Thread Cert.DyFirstIdeal.nD Cert.DyFirstIdeal.τ).loc Cert.DyFirstIdeal.main_arg0) = m ((c.tc : Thread Cert.DyFirstIdeal.nD Cert.DyFirstIdeal.τ).loc Cert.DyFirstIdeal.main_arg0)
          ∧ r.2.mem ((c.tc : Thread Cert.DyFirstIdeal.nD Cert.DyFirstIdeal.τ).loc Cert.DyFirstIdeal.main_arg1) = m ((c.tc : Thread Cert.DyFirstIdeal.nD Cert.DyFirstIdeal.τ).loc Cert.DyFirstIdeal.main_arg1)
          ∧ r.2.mem ((c.tc : Thread Cert.DyFirstIdeal.nD Cert.DyFirstIdeal.τ).loc Cert.DyFirstIdeal.main_arg2) = m ((c.tc : Thread Cert.DyFirstIdeal.nD Cert.DyFirstIdeal.τ).loc Cert.DyFirstIdeal.main_arg2))
      ∧ θ_run (Cert.DyFirstRefIdeal.defs (F := Ideal)) (onTc (τ := Cert.DyFirstRefIdeal.τ) (Cert.DyFirstRefIdeal.main (F := Ideal))) ⟨m', fun _ => 0, g'⟩ (fun r => ∀ c : Dev Cert.DyFirstRefIdeal.nD,
          r.2.mem ((c.tc : Thread Cert.DyFirstRefIdeal.nD Cert.DyFirstRefIdeal.τ).loc Cert.DyFirstRefIdeal.main_v4) = v0 c
          ∧ r.2.mem ((c.tc : Thread Cert.DyFirstRefIdeal.nD Cert.DyFirstRefIdeal.τ).loc Cert.DyFirstRefIdeal.main_arg0) = m' ((c.tc : Thread Cert.DyFirstRefIdeal.nD Cert.DyFirstRefIdeal.τ).loc Cert.DyFirstRefIdeal.main_arg0)
          ∧ r.2.mem ((c.tc : Thread Cert.DyFirstRefIdeal.nD Cert.DyFirstRefIdeal.τ).loc Cert.DyFirstRefIdeal.main_arg1) = m' ((c.tc : Thread Cert.DyFirstRefIdeal.nD Cert.DyFirstRefIdeal.τ).loc Cert.DyFirstRefIdeal.main_arg1)
          ∧ r.2.mem ((c.tc : Thread Cert.DyFirstRefIdeal.nD Cert.DyFirstRefIdeal.τ).loc Cert.DyFirstRefIdeal.main_arg2) = m' ((c.tc : Thread Cert.DyFirstRefIdeal.nD Cert.DyFirstRefIdeal.τ).loc Cert.DyFirstRefIdeal.main_arg2))

def preserves_DwInTop_DwInTopIdeal : Prop :=
  True

def algebraic_DwInTopIdeal_DwInTopRefIdeal [hDwInTopIdeal : Cert.DwInTopIdeal.Facts] [hDwInTopRefIdeal : Cert.DwInTopRefIdeal.Facts] : Prop :=
  ∀ (m : (ℓ : Loc Cert.DwInTopIdeal.nD Cert.DwInTopIdeal.τ Cert.DwInTopIdeal.sig) → Buf (Elt Ideal) ℓ) (g : Dev Cert.DwInTopIdeal.nD → PrngReg)
    (m' : (ℓ : Loc Cert.DwInTopRefIdeal.nD Cert.DwInTopRefIdeal.τ Cert.DwInTopRefIdeal.sig) → Buf (Elt Ideal) ℓ) (g' : Dev Cert.DwInTopRefIdeal.nD → PrngReg), Pre_DwInTopIdeal m →
    (∀ c : Dev Cert.DwInTopIdeal.nD,
      m' ((c.tc : Thread Cert.DwInTopRefIdeal.nD Cert.DwInTopRefIdeal.τ).loc Cert.DwInTopRefIdeal.main_arg0) = m ((c.tc : Thread Cert.DwInTopIdeal.nD Cert.DwInTopIdeal.τ).loc Cert.DwInTopIdeal.main_arg0)
      ∧ m' ((c.tc : Thread Cert.DwInTopRefIdeal.nD Cert.DwInTopRefIdeal.τ).loc Cert.DwInTopRefIdeal.main_arg1) = m ((c.tc : Thread Cert.DwInTopIdeal.nD Cert.DwInTopIdeal.τ).loc Cert.DwInTopIdeal.main_arg1)
      ∧ m' ((c.tc : Thread Cert.DwInTopRefIdeal.nD Cert.DwInTopRefIdeal.τ).loc Cert.DwInTopRefIdeal.main_arg2) = m ((c.tc : Thread Cert.DwInTopIdeal.nD Cert.DwInTopIdeal.τ).loc Cert.DwInTopIdeal.main_arg2)) →
    ∃ (v0 : (c : Dev Cert.DwInTopIdeal.nD) → Buf (Elt Ideal) ((c.tc : Thread Cert.DwInTopIdeal.nD Cert.DwInTopIdeal.τ).loc Cert.DwInTopIdeal.main_v0)),
      θ_run (Cert.DwInTopIdeal.defs (F := Ideal)) (onTc (τ := Cert.DwInTopIdeal.τ) (Cert.DwInTopIdeal.main (F := Ideal))) ⟨m, fun _ => 0, g⟩ (fun r => ∀ c : Dev Cert.DwInTopIdeal.nD,
          r.2.mem ((c.tc : Thread Cert.DwInTopIdeal.nD Cert.DwInTopIdeal.τ).loc Cert.DwInTopIdeal.main_v0) = v0 c
          ∧ r.2.mem ((c.tc : Thread Cert.DwInTopIdeal.nD Cert.DwInTopIdeal.τ).loc Cert.DwInTopIdeal.main_arg0) = m ((c.tc : Thread Cert.DwInTopIdeal.nD Cert.DwInTopIdeal.τ).loc Cert.DwInTopIdeal.main_arg0)
          ∧ r.2.mem ((c.tc : Thread Cert.DwInTopIdeal.nD Cert.DwInTopIdeal.τ).loc Cert.DwInTopIdeal.main_arg1) = m ((c.tc : Thread Cert.DwInTopIdeal.nD Cert.DwInTopIdeal.τ).loc Cert.DwInTopIdeal.main_arg1)
          ∧ r.2.mem ((c.tc : Thread Cert.DwInTopIdeal.nD Cert.DwInTopIdeal.τ).loc Cert.DwInTopIdeal.main_arg2) = m ((c.tc : Thread Cert.DwInTopIdeal.nD Cert.DwInTopIdeal.τ).loc Cert.DwInTopIdeal.main_arg2))
      ∧ θ_run (Cert.DwInTopRefIdeal.defs (F := Ideal)) (onTc (τ := Cert.DwInTopRefIdeal.τ) (Cert.DwInTopRefIdeal.main (F := Ideal))) ⟨m', fun _ => 0, g'⟩ (fun r => ∀ c : Dev Cert.DwInTopRefIdeal.nD,
          r.2.mem ((c.tc : Thread Cert.DwInTopRefIdeal.nD Cert.DwInTopRefIdeal.τ).loc Cert.DwInTopRefIdeal.main_v7) = v0 c
          ∧ r.2.mem ((c.tc : Thread Cert.DwInTopRefIdeal.nD Cert.DwInTopRefIdeal.τ).loc Cert.DwInTopRefIdeal.main_arg0) = m' ((c.tc : Thread Cert.DwInTopRefIdeal.nD Cert.DwInTopRefIdeal.τ).loc Cert.DwInTopRefIdeal.main_arg0)
          ∧ r.2.mem ((c.tc : Thread Cert.DwInTopRefIdeal.nD Cert.DwInTopRefIdeal.τ).loc Cert.DwInTopRefIdeal.main_arg1) = m' ((c.tc : Thread Cert.DwInTopRefIdeal.nD Cert.DwInTopRefIdeal.τ).loc Cert.DwInTopRefIdeal.main_arg1)
          ∧ r.2.mem ((c.tc : Thread Cert.DwInTopRefIdeal.nD Cert.DwInTopRefIdeal.τ).loc Cert.DwInTopRefIdeal.main_arg2) = m' ((c.tc : Thread Cert.DwInTopRefIdeal.nD Cert.DwInTopRefIdeal.τ).loc Cert.DwInTopRefIdeal.main_arg2))

def preserves_DwInLow_DwInLowIdeal : Prop :=
  True

def algebraic_DwInLowIdeal_DwInLowRefIdeal [hDwInLowIdeal : Cert.DwInLowIdeal.Facts] [hDwInLowRefIdeal : Cert.DwInLowRefIdeal.Facts] : Prop :=
  ∀ (m : (ℓ : Loc Cert.DwInLowIdeal.nD Cert.DwInLowIdeal.τ Cert.DwInLowIdeal.sig) → Buf (Elt Ideal) ℓ) (g : Dev Cert.DwInLowIdeal.nD → PrngReg)
    (m' : (ℓ : Loc Cert.DwInLowRefIdeal.nD Cert.DwInLowRefIdeal.τ Cert.DwInLowRefIdeal.sig) → Buf (Elt Ideal) ℓ) (g' : Dev Cert.DwInLowRefIdeal.nD → PrngReg), Pre_DwInLowIdeal m →
    (∀ c : Dev Cert.DwInLowIdeal.nD,
      m' ((c.tc : Thread Cert.DwInLowRefIdeal.nD Cert.DwInLowRefIdeal.τ).loc Cert.DwInLowRefIdeal.main_arg0) = m ((c.tc : Thread Cert.DwInLowIdeal.nD Cert.DwInLowIdeal.τ).loc Cert.DwInLowIdeal.main_arg0)
      ∧ m' ((c.tc : Thread Cert.DwInLowRefIdeal.nD Cert.DwInLowRefIdeal.τ).loc Cert.DwInLowRefIdeal.main_arg1) = m ((c.tc : Thread Cert.DwInLowIdeal.nD Cert.DwInLowIdeal.τ).loc Cert.DwInLowIdeal.main_arg1)
      ∧ m' ((c.tc : Thread Cert.DwInLowRefIdeal.nD Cert.DwInLowRefIdeal.τ).loc Cert.DwInLowRefIdeal.main_arg2) = m ((c.tc : Thread Cert.DwInLowIdeal.nD Cert.DwInLowIdeal.τ).loc Cert.DwInLowIdeal.main_arg2)) →
    ∃ (v0 : (c : Dev Cert.DwInLowIdeal.nD) → Buf (Elt Ideal) ((c.tc : Thread Cert.DwInLowIdeal.nD Cert.DwInLowIdeal.τ).loc Cert.DwInLowIdeal.main_v0)),
      θ_run (Cert.DwInLowIdeal.defs (F := Ideal)) (onTc (τ := Cert.DwInLowIdeal.τ) (Cert.DwInLowIdeal.main (F := Ideal))) ⟨m, fun _ => 0, g⟩ (fun r => ∀ c : Dev Cert.DwInLowIdeal.nD,
          r.2.mem ((c.tc : Thread Cert.DwInLowIdeal.nD Cert.DwInLowIdeal.τ).loc Cert.DwInLowIdeal.main_v0) = v0 c
          ∧ r.2.mem ((c.tc : Thread Cert.DwInLowIdeal.nD Cert.DwInLowIdeal.τ).loc Cert.DwInLowIdeal.main_arg0) = m ((c.tc : Thread Cert.DwInLowIdeal.nD Cert.DwInLowIdeal.τ).loc Cert.DwInLowIdeal.main_arg0)
          ∧ r.2.mem ((c.tc : Thread Cert.DwInLowIdeal.nD Cert.DwInLowIdeal.τ).loc Cert.DwInLowIdeal.main_arg1) = m ((c.tc : Thread Cert.DwInLowIdeal.nD Cert.DwInLowIdeal.τ).loc Cert.DwInLowIdeal.main_arg1)
          ∧ r.2.mem ((c.tc : Thread Cert.DwInLowIdeal.nD Cert.DwInLowIdeal.τ).loc Cert.DwInLowIdeal.main_arg2) = m ((c.tc : Thread Cert.DwInLowIdeal.nD Cert.DwInLowIdeal.τ).loc Cert.DwInLowIdeal.main_arg2))
      ∧ θ_run (Cert.DwInLowRefIdeal.defs (F := Ideal)) (onTc (τ := Cert.DwInLowRefIdeal.τ) (Cert.DwInLowRefIdeal.main (F := Ideal))) ⟨m', fun _ => 0, g'⟩ (fun r => ∀ c : Dev Cert.DwInLowRefIdeal.nD,
          r.2.mem ((c.tc : Thread Cert.DwInLowRefIdeal.nD Cert.DwInLowRefIdeal.τ).loc Cert.DwInLowRefIdeal.main_v7) = v0 c
          ∧ r.2.mem ((c.tc : Thread Cert.DwInLowRefIdeal.nD Cert.DwInLowRefIdeal.τ).loc Cert.DwInLowRefIdeal.main_arg0) = m' ((c.tc : Thread Cert.DwInLowRefIdeal.nD Cert.DwInLowRefIdeal.τ).loc Cert.DwInLowRefIdeal.main_arg0)
          ∧ r.2.mem ((c.tc : Thread Cert.DwInLowRefIdeal.nD Cert.DwInLowRefIdeal.τ).loc Cert.DwInLowRefIdeal.main_arg1) = m' ((c.tc : Thread Cert.DwInLowRefIdeal.nD Cert.DwInLowRefIdeal.τ).loc Cert.DwInLowRefIdeal.main_arg1)
          ∧ r.2.mem ((c.tc : Thread Cert.DwInLowRefIdeal.nD Cert.DwInLowRefIdeal.τ).loc Cert.DwInLowRefIdeal.main_arg2) = m' ((c.tc : Thread Cert.DwInLowRefIdeal.nD Cert.DwInLowRefIdeal.τ).loc Cert.DwInLowRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)) →
    ∃ (v0 : (c : Dev Cert.AdamSmallIdeal.nD) → Buf (Elt Ideal) ((c.tc : Thread Cert.AdamSmallIdeal.nD Cert.AdamSmallIdeal.τ).loc Cert.AdamSmallIdeal.main_v52_0)) (v1 : (c : Dev Cert.AdamSmallIdeal.nD) → Buf (Elt Ideal) ((c.tc : Thread Cert.AdamSmallIdeal.nD Cert.AdamSmallIdeal.τ).loc Cert.AdamSmallIdeal.main_v52_1)) (v2 : (c : Dev Cert.AdamSmallIdeal.nD) → Buf (Elt Ideal) ((c.tc : Thread Cert.AdamSmallIdeal.nD Cert.AdamSmallIdeal.τ).loc Cert.AdamSmallIdeal.main_v52_2)) (v3 : (c : Dev Cert.AdamSmallIdeal.nD) → Buf (Elt Ideal) ((c.tc : Thread Cert.AdamSmallIdeal.nD Cert.AdamSmallIdeal.τ).loc Cert.AdamSmallIdeal.main_v52_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v52_0) = v0 c
          ∧ r.2.mem ((c.tc : Thread Cert.AdamSmallIdeal.nD Cert.AdamSmallIdeal.τ).loc Cert.AdamSmallIdeal.main_v52_1) = v1 c
          ∧ r.2.mem ((c.tc : Thread Cert.AdamSmallIdeal.nD Cert.AdamSmallIdeal.τ).loc Cert.AdamSmallIdeal.main_v52_2) = v2 c
          ∧ r.2.mem ((c.tc : Thread Cert.AdamSmallIdeal.nD Cert.AdamSmallIdeal.τ).loc Cert.AdamSmallIdeal.main_v52_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v300) = v0 c
          ∧ r.2.mem ((c.tc : Thread Cert.AdamSmallRefIdeal.nD Cert.AdamSmallRefIdeal.τ).loc Cert.AdamSmallRefIdeal.main_v312) = v1 c
          ∧ r.2.mem ((c.tc : Thread Cert.AdamSmallRefIdeal.nD Cert.AdamSmallRefIdeal.τ).loc Cert.AdamSmallRefIdeal.main_v324) = v2 c
          ∧ r.2.mem ((c.tc : Thread Cert.AdamSmallRefIdeal.nD Cert.AdamSmallRefIdeal.τ).loc Cert.AdamSmallRefIdeal.main_v336) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_SumLate_SumLateIdeal : Prop :=
  True

def algebraic_SumLateIdeal_SumLateRefIdeal [hSumLateIdeal : Cert.SumLateIdeal.Facts] [hSumLateRefIdeal : Cert.SumLateRefIdeal.Facts] : Prop :=
  ∀ (m : (ℓ : Loc Cert.SumLateIdeal.nD Cert.SumLateIdeal.τ Cert.SumLateIdeal.sig) → Buf (Elt Ideal) ℓ) (g : Dev Cert.SumLateIdeal.nD → PrngReg)
    (m' : (ℓ : Loc Cert.SumLateRefIdeal.nD Cert.SumLateRefIdeal.τ Cert.SumLateRefIdeal.sig) → Buf (Elt Ideal) ℓ) (g' : Dev Cert.SumLateRefIdeal.nD → PrngReg), Pre_SumLateIdeal m →
    (∀ c : Dev Cert.SumLateIdeal.nD,
      m' ((c.tc : Thread Cert.SumLateRefIdeal.nD Cert.SumLateRefIdeal.τ).loc Cert.SumLateRefIdeal.main_arg0) = m ((c.tc : Thread Cert.SumLateIdeal.nD Cert.SumLateIdeal.τ).loc Cert.SumLateIdeal.main_arg0)) →
    ∃ (v0 : (c : Dev Cert.SumLateIdeal.nD) → Buf (Elt Ideal) ((c.tc : Thread Cert.SumLateIdeal.nD Cert.SumLateIdeal.τ).loc Cert.SumLateIdeal.main_v0)),
      θ_run (Cert.SumLateIdeal.defs (F := Ideal)) (onTc (τ := Cert.SumLateIdeal.τ) (Cert.SumLateIdeal.main (F := Ideal))) ⟨m, fun _ => 0, g⟩ (fun r => ∀ c : Dev Cert.SumLateIdeal.nD,
          r.2.mem ((c.tc : Thread Cert.SumLateIdeal.nD Cert.SumLateIdeal.τ).loc Cert.SumLateIdeal.main_v0) = v0 c
          ∧ r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ θ_run (Cert.SumLateRefIdeal.defs (F := Ideal)) (onTc (τ := Cert.SumLateRefIdeal.τ) (Cert.SumLateRefIdeal.main (F := Ideal))) ⟨m', fun _ => 0, g'⟩ (fun r => ∀ c : Dev Cert.SumLateRefIdeal.nD,
          r.2.mem ((c.tc : Thread Cert.SumLateRefIdeal.nD Cert.SumLateRefIdeal.τ).loc Cert.SumLateRefIdeal.main_v0) = v0 c
          ∧ r.2.mem ((c.tc : Thread Cert.SumLateRefIdeal.nD Cert.SumLateRefIdeal.τ).loc Cert.SumLateRefIdeal.main_arg0) = m' ((c.tc : Thread Cert.SumLateRefIdeal.nD Cert.SumLateRefIdeal.τ).loc Cert.SumLateRefIdeal.main_arg0))

def preserves_SumVec_SumVecIdeal : Prop :=
  True

def algebraic_SumVecIdeal_SumVecRefIdeal [hSumVecIdeal : Cert.SumVecIdeal.Facts] [hSumVecRefIdeal : Cert.SumVecRefIdeal.Facts] : Prop :=
  ∀ (m : (ℓ : Loc Cert.SumVecIdeal.nD Cert.SumVecIdeal.τ Cert.SumVecIdeal.sig) → Buf (Elt Ideal) ℓ) (g : Dev Cert.SumVecIdeal.nD → PrngReg)
    (m' : (ℓ : Loc Cert.SumVecRefIdeal.nD Cert.SumVecRefIdeal.τ Cert.SumVecRefIdeal.sig) → Buf (Elt Ideal) ℓ) (g' : Dev Cert.SumVecRefIdeal.nD → PrngReg), Pre_SumVecIdeal m →
    (∀ c : Dev Cert.SumVecIdeal.nD,
      m' ((c.tc : Thread Cert.SumVecRefIdeal.nD Cert.SumVecRefIdeal.τ).loc Cert.SumVecRefIdeal.main_arg0) = m ((c.tc : Thread Cert.SumVecIdeal.nD Cert.SumVecIdeal.τ).loc Cert.SumVecIdeal.main_arg0)) →
    ∃ (v0 : (c : Dev Cert.SumVecIdeal.nD) → Buf (Elt Ideal) ((c.tc : Thread Cert.SumVecIdeal.nD Cert.SumVecIdeal.τ).loc Cert.SumVecIdeal.main_v0)),
      θ_run (Cert.SumVecIdeal.defs (F := Ideal)) (onTc (τ := Cert.SumVecIdeal.τ) (Cert.SumVecIdeal.main (F := Ideal))) ⟨m, fun _ => 0, g⟩ (fun r => ∀ c : Dev Cert.SumVecIdeal.nD,
          r.2.mem ((c.tc : Thread Cert.SumVecIdeal.nD Cert.SumVecIdeal.τ).loc Cert.SumVecIdeal.main_v0) = v0 c
          ∧ r.2.mem ((c.tc : Thread Cert.SumVecIdeal.nD Cert.SumVecIdeal.τ).loc Cert.SumVecIdeal.main_arg0) = m ((c.tc : Thread Cert.SumVecIdeal.nD Cert.SumVecIdeal.τ).loc Cert.SumVecIdeal.main_arg0))
      ∧ θ_run (Cert.SumVecRefIdeal.defs (F := Ideal)) (onTc (τ := Cert.SumVecRefIdeal.τ) (Cert.SumVecRefIdeal.main (F := Ideal))) ⟨m', fun _ => 0, g'⟩ (fun r => ∀ c : Dev Cert.SumVecRefIdeal.nD,
          r.2.mem ((c.tc : Thread Cert.SumVecRefIdeal.nD Cert.SumVecRefIdeal.τ).loc Cert.SumVecRefIdeal.main_v0) = v0 c
          ∧ r.2.mem ((c.tc : Thread Cert.SumVecRefIdeal.nD Cert.SumVecRefIdeal.τ).loc Cert.SumVecRefIdeal.main_arg0) = m' ((c.tc : Thread Cert.SumVecRefIdeal.nD Cert.SumVecRefIdeal.τ).loc Cert.SumVecRefIdeal.main_arg0))

def preserves_SumMaps_SumMapsIdeal : Prop :=
  True

def algebraic_SumMapsIdeal_SumMapsRefIdeal [hSumMapsIdeal : Cert.SumMapsIdeal.Facts] [hSumMapsRefIdeal : Cert.SumMapsRefIdeal.Facts] : Prop :=
  ∀ (m : (ℓ : Loc Cert.SumMapsIdeal.nD Cert.SumMapsIdeal.τ Cert.SumMapsIdeal.sig) → Buf (Elt Ideal) ℓ) (g : Dev Cert.SumMapsIdeal.nD → PrngReg)
    (m' : (ℓ : Loc Cert.SumMapsRefIdeal.nD Cert.SumMapsRefIdeal.τ Cert.SumMapsRefIdeal.sig) → Buf (Elt Ideal) ℓ) (g' : Dev Cert.SumMapsRefIdeal.nD → PrngReg), Pre_SumMapsIdeal m →
    (∀ c : Dev Cert.SumMapsIdeal.nD,
      m' ((c.tc : Thread Cert.SumMapsRefIdeal.nD Cert.SumMapsRefIdeal.τ).loc Cert.SumMapsRefIdeal.main_arg0) = m ((c.tc : Thread Cert.SumMapsIdeal.nD Cert.SumMapsIdeal.τ).loc Cert.SumMapsIdeal.main_arg0)) →
    ∃ (v0 : (c : Dev Cert.SumMapsIdeal.nD) → Buf (Elt Ideal) ((c.tc : Thread Cert.SumMapsIdeal.nD Cert.SumMapsIdeal.τ).loc Cert.SumMapsIdeal.main_v0)),
      θ_run (Cert.SumMapsIdeal.defs (F := Ideal)) (onTc (τ := Cert.SumMapsIdeal.τ) (Cert.SumMapsIdeal.main (F := Ideal))) ⟨m, fun _ => 0, g⟩ (fun r => ∀ c : Dev Cert.SumMapsIdeal.nD,
          r.2.mem ((c.tc : Thread Cert.SumMapsIdeal.nD Cert.SumMapsIdeal.τ).loc Cert.SumMapsIdeal.main_v0) = v0 c
          ∧ r.2.mem ((c.tc : Thread Cert.SumMapsIdeal.nD Cert.SumMapsIdeal.τ).loc Cert.SumMapsIdeal.main_arg0) = m ((c.tc : Thread Cert.SumMapsIdeal.nD Cert.SumMapsIdeal.τ).loc Cert.SumMapsIdeal.main_arg0))
      ∧ θ_run (Cert.SumMapsRefIdeal.defs (F := Ideal)) (onTc (τ := Cert.SumMapsRefIdeal.τ) (Cert.SumMapsRefIdeal.main (F := Ideal))) ⟨m', fun _ => 0, g'⟩ (fun r => ∀ c : Dev Cert.SumMapsRefIdeal.nD,
          r.2.mem ((c.tc : Thread Cert.SumMapsRefIdeal.nD Cert.SumMapsRefIdeal.τ).loc Cert.SumMapsRefIdeal.main_v1) = v0 c
          ∧ r.2.mem ((c.tc : Thread Cert.SumMapsRefIdeal.nD Cert.SumMapsRefIdeal.τ).loc Cert.SumMapsRefIdeal.main_arg0) = m' ((c.tc : Thread Cert.SumMapsRefIdeal.nD Cert.SumMapsRefIdeal.τ).loc Cert.SumMapsRefIdeal.main_arg0))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_v38) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_AdamOutLate_AdamOutLateIdeal : Prop :=
  True

def algebraic_AdamOutLateIdeal_AdamOutLateRefIdeal [hAdamOutLateIdeal : Cert.AdamOutLateIdeal.Facts] [hAdamOutLateRefIdeal : Cert.AdamOutLateRefIdeal.Facts] : Prop :=
  ∀ (m : (ℓ : Loc Cert.AdamOutLateIdeal.nD Cert.AdamOutLateIdeal.τ Cert.AdamOutLateIdeal.sig) → Buf (Elt Ideal) ℓ) (g : Dev Cert.AdamOutLateIdeal.nD → PrngReg)
    (m' : (ℓ : Loc Cert.AdamOutLateRefIdeal.nD Cert.AdamOutLateRefIdeal.τ Cert.AdamOutLateRefIdeal.sig) → Buf (Elt Ideal) ℓ) (g' : Dev Cert.AdamOutLateRefIdeal.nD → PrngReg), Pre_AdamOutLateIdeal m →
    (∀ c : Dev Cert.AdamOutLateIdeal.nD,
      m' ((c.tc : Thread Cert.AdamOutLateRefIdeal.nD Cert.AdamOutLateRefIdeal.τ).loc Cert.AdamOutLateRefIdeal.main_arg0) = m ((c.tc : Thread Cert.AdamOutLateIdeal.nD Cert.AdamOutLateIdeal.τ).loc Cert.AdamOutLateIdeal.main_arg0)
      ∧ m' ((c.tc : Thread Cert.AdamOutLateRefIdeal.nD Cert.AdamOutLateRefIdeal.τ).loc Cert.AdamOutLateRefIdeal.main_arg1) = m ((c.tc : Thread Cert.AdamOutLateIdeal.nD Cert.AdamOutLateIdeal.τ).loc Cert.AdamOutLateIdeal.main_arg1)
      ∧ m' ((c.tc : Thread Cert.AdamOutLateRefIdeal.nD Cert.AdamOutLateRefIdeal.τ).loc Cert.AdamOutLateRefIdeal.main_arg2) = m ((c.tc : Thread Cert.AdamOutLateIdeal.nD Cert.AdamOutLateIdeal.τ).loc Cert.AdamOutLateIdeal.main_arg2)
      ∧ m' ((c.tc : Thread Cert.AdamOutLateRefIdeal.nD Cert.AdamOutLateRefIdeal.τ).loc Cert.AdamOutLateRefIdeal.main_arg3) = m ((c.tc : Thread Cert.AdamOutLateIdeal.nD Cert.AdamOutLateIdeal.τ).loc Cert.AdamOutLateIdeal.main_arg3)
      ∧ m' ((c.tc : Thread Cert.AdamOutLateRefIdeal.nD Cert.AdamOutLateRefIdeal.τ).loc Cert.AdamOutLateRefIdeal.main_arg4) = m ((c.tc : Thread Cert.AdamOutLateIdeal.nD Cert.AdamOutLateIdeal.τ).loc Cert.AdamOutLateIdeal.main_arg4)
      ∧ m' ((c.tc : Thread Cert.AdamOutLateRefIdeal.nD Cert.AdamOutLateRefIdeal.τ).loc Cert.AdamOutLateRefIdeal.main_arg5) = m ((c.tc : Thread Cert.AdamOutLateIdeal.nD Cert.AdamOutLateIdeal.τ).loc Cert.AdamOutLateIdeal.main_arg5)
      ∧ m' ((c.tc : Thread Cert.AdamOutLateRefIdeal.nD Cert.AdamOutLateRefIdeal.τ).loc Cert.AdamOutLateRefIdeal.main_arg6) = m ((c.tc : Thread Cert.AdamOutLateIdeal.nD Cert.AdamOutLateIdeal.τ).loc Cert.AdamOutLateIdeal.main_arg6)
      ∧ m' ((c.tc : Thread Cert.AdamOutLateRefIdeal.nD Cert.AdamOutLateRefIdeal.τ).loc Cert.AdamOutLateRefIdeal.main_arg7) = m ((c.tc : Thread Cert.AdamOutLateIdeal.nD Cert.AdamOutLateIdeal.τ).loc Cert.AdamOutLateIdeal.main_arg7)
      ∧ m' ((c.tc : Thread Cert.AdamOutLateRefIdeal.nD Cert.AdamOutLateRefIdeal.τ).loc Cert.AdamOutLateRefIdeal.main_arg8) = m ((c.tc : Thread Cert.AdamOutLateIdeal.nD Cert.AdamOutLateIdeal.τ).loc Cert.AdamOutLateIdeal.main_arg8)) →
    ∃ (v0 : (c : Dev Cert.AdamOutLateIdeal.nD) → Buf (Elt Ideal) ((c.tc : Thread Cert.AdamOutLateIdeal.nD Cert.AdamOutLateIdeal.τ).loc Cert.AdamOutLateIdeal.main_v0_0)) (v1 : (c : Dev Cert.AdamOutLateIdeal.nD) → Buf (Elt Ideal) ((c.tc : Thread Cert.AdamOutLateIdeal.nD Cert.AdamOutLateIdeal.τ).loc Cert.AdamOutLateIdeal.main_v0_1)) (v2 : (c : Dev Cert.AdamOutLateIdeal.nD) → Buf (Elt Ideal) ((c.tc : Thread Cert.AdamOutLateIdeal.nD Cert.AdamOutLateIdeal.τ).loc Cert.AdamOutLateIdeal.main_v0_2)) (v3 : (c : Dev Cert.AdamOutLateIdeal.nD) → Buf (Elt Ideal) ((c.tc : Thread Cert.AdamOutLateIdeal.nD Cert.AdamOutLateIdeal.τ).loc Cert.AdamOutLateIdeal.main_v0_3)),
      θ_run (Cert.AdamOutLateIdeal.defs (F := Ideal)) (onTc (τ := Cert.AdamOutLateIdeal.τ) (Cert.AdamOutLateIdeal.main (F := Ideal))) ⟨m, fun _ => 0, g⟩ (fun r => ∀ c : Dev Cert.AdamOutLateIdeal.nD,
          r.2.mem ((c.tc : Thread Cert.AdamOutLateIdeal.nD Cert.AdamOutLateIdeal.τ).loc Cert.AdamOutLateIdeal.main_v0_0) = v0 c
          ∧ r.2.mem ((c.tc : Thread Cert.AdamOutLateIdeal.nD Cert.AdamOutLateIdeal.τ).loc Cert.AdamOutLateIdeal.main_v0_1) = v1 c
          ∧ r.2.mem ((c.tc : Thread Cert.AdamOutLateIdeal.nD Cert.AdamOutLateIdeal.τ).loc Cert.AdamOutLateIdeal.main_v0_2) = v2 c
          ∧ r.2.mem ((c.tc : Thread Cert.AdamOutLateIdeal.nD Cert.AdamOutLateIdeal.τ).loc Cert.AdamOutLateIdeal.main_v0_3) = v3 c
          ∧ r.2.mem ((c.tc : Thread Cert.AdamOutLateIdeal.nD Cert.AdamOutLateIdeal.τ).loc Cert.AdamOutLateIdeal.main_arg0) = m ((c.tc : Thread Cert.AdamOutLateIdeal.nD Cert.AdamOutLateIdeal.τ).loc Cert.AdamOutLateIdeal.main_arg0)
          ∧ r.2.mem ((c.tc : Thread Cert.AdamOutLateIdeal.nD Cert.AdamOutLateIdeal.τ).loc Cert.AdamOutLateIdeal.main_arg1) = m ((c.tc : Thread Cert.AdamOutLateIdeal.nD Cert.AdamOutLateIdeal.τ).loc Cert.AdamOutLateIdeal.main_arg1)
          ∧ r.2.mem ((c.tc : Thread Cert.AdamOutLateIdeal.nD Cert.AdamOutLateIdeal.τ).loc Cert.AdamOutLateIdeal.main_arg2) = m ((c.tc : Thread Cert.AdamOutLateIdeal.nD Cert.AdamOutLateIdeal.τ).loc Cert.AdamOutLateIdeal.main_arg2)
          ∧ r.2.mem ((c.tc : Thread Cert.AdamOutLateIdeal.nD Cert.AdamOutLateIdeal.τ).loc Cert.AdamOutLateIdeal.main_arg3) = m ((c.tc : Thread Cert.AdamOutLateIdeal.nD Cert.AdamOutLateIdeal.τ).loc Cert.AdamOutLateIdeal.main_arg3)
          ∧ r.2.mem ((c.tc : Thread Cert.AdamOutLateIdeal.nD Cert.AdamOutLateIdeal.τ).loc Cert.AdamOutLateIdeal.main_arg4) = m ((c.tc : Thread Cert.AdamOutLateIdeal.nD Cert.AdamOutLateIdeal.τ).loc Cert.AdamOutLateIdeal.main_arg4)
          ∧ r.2.mem ((c.tc : Thread Cert.AdamOutLateIdeal.nD Cert.AdamOutLateIdeal.τ).loc Cert.AdamOutLateIdeal.main_arg5) = m ((c.tc : Thread Cert.AdamOutLateIdeal.nD Cert.AdamOutLateIdeal.τ).loc Cert.AdamOutLateIdeal.main_arg5)
          ∧ r.2.mem ((c.tc : Thread Cert.AdamOutLateIdeal.nD Cert.AdamOutLateIdeal.τ).loc Cert.AdamOutLateIdeal.main_arg6) = m ((c.tc : Thread Cert.AdamOutLateIdeal.nD Cert.AdamOutLateIdeal.τ).loc Cert.AdamOutLateIdeal.main_arg6)
          ∧ r.2.mem ((c.tc : Thread Cert.AdamOutLateIdeal.nD Cert.AdamOutLateIdeal.τ).loc Cert.AdamOutLateIdeal.main_arg7) = m ((c.tc : Thread Cert.AdamOutLateIdeal.nD Cert.AdamOutLateIdeal.τ).loc Cert.AdamOutLateIdeal.main_arg7)
          ∧ r.2.mem ((c.tc : Thread Cert.AdamOutLateIdeal.nD Cert.AdamOutLateIdeal.τ).loc Cert.AdamOutLateIdeal.main_arg8) = m ((c.tc : Thread Cert.AdamOutLateIdeal.nD Cert.AdamOutLateIdeal.τ).loc Cert.AdamOutLateIdeal.main_arg8))
      ∧ θ_run (Cert.AdamOutLateRefIdeal.defs (F := Ideal)) (onTc (τ := Cert.AdamOutLateRefIdeal.τ) (Cert.AdamOutLateRefIdeal.main (F := Ideal))) ⟨m', fun _ => 0, g'⟩ (fun r => ∀ c : Dev Cert.AdamOutLateRefIdeal.nD,
          r.2.mem ((c.tc : Thread Cert.AdamOutLateRefIdeal.nD Cert.AdamOutLateRefIdeal.τ).loc Cert.AdamOutLateRefIdeal.main_v38) = v0 c
          ∧ r.2.mem ((c.tc : Thread Cert.AdamOutLateRefIdeal.nD Cert.AdamOutLateRefIdeal.τ).loc Cert.AdamOutLateRefIdeal.main_v43) = v1 c
          ∧ r.2.mem ((c.tc : Thread Cert.AdamOutLateRefIdeal.nD Cert.AdamOutLateRefIdeal.τ).loc Cert.AdamOutLateRefIdeal.main_v48) = v2 c
          ∧ r.2.mem ((c.tc : Thread Cert.AdamOutLateRefIdeal.nD Cert.AdamOutLateRefIdeal.τ).loc Cert.AdamOutLateRefIdeal.main_v53) = v3 c
          ∧ r.2.mem ((c.tc : Thread Cert.AdamOutLateRefIdeal.nD Cert.AdamOutLateRefIdeal.τ).loc Cert.AdamOutLateRefIdeal.main_arg0) = m' ((c.tc : Thread Cert.AdamOutLateRefIdeal.nD Cert.AdamOutLateRefIdeal.τ).loc Cert.AdamOutLateRefIdeal.main_arg0)
          ∧ r.2.mem ((c.tc : Thread Cert.AdamOutLateRefIdeal.nD Cert.AdamOutLateRefIdeal.τ).loc Cert.AdamOutLateRefIdeal.main_arg1) = m' ((c.tc : Thread Cert.AdamOutLateRefIdeal.nD Cert.AdamOutLateRefIdeal.τ).loc Cert.AdamOutLateRefIdeal.main_arg1)
          ∧ r.2.mem ((c.tc : Thread Cert.AdamOutLateRefIdeal.nD Cert.AdamOutLateRefIdeal.τ).loc Cert.AdamOutLateRefIdeal.main_arg2) = m' ((c.tc : Thread Cert.AdamOutLateRefIdeal.nD Cert.AdamOutLateRefIdeal.τ).loc Cert.AdamOutLateRefIdeal.main_arg2)
          ∧ r.2.mem ((c.tc : Thread Cert.AdamOutLateRefIdeal.nD Cert.AdamOutLateRefIdeal.τ).loc Cert.AdamOutLateRefIdeal.main_arg3) = m' ((c.tc : Thread Cert.AdamOutLateRefIdeal.nD Cert.AdamOutLateRefIdeal.τ).loc Cert.AdamOutLateRefIdeal.main_arg3)
          ∧ r.2.mem ((c.tc : Thread Cert.AdamOutLateRefIdeal.nD Cert.AdamOutLateRefIdeal.τ).loc Cert.AdamOutLateRefIdeal.main_arg4) = m' ((c.tc : Thread Cert.AdamOutLateRefIdeal.nD Cert.AdamOutLateRefIdeal.τ).loc Cert.AdamOutLateRefIdeal.main_arg4)
          ∧ r.2.mem ((c.tc : Thread Cert.AdamOutLateRefIdeal.nD Cert.AdamOutLateRefIdeal.τ).loc Cert.AdamOutLateRefIdeal.main_arg5) = m' ((c.tc : Thread Cert.AdamOutLateRefIdeal.nD Cert.AdamOutLateRefIdeal.τ).loc Cert.AdamOutLateRefIdeal.main_arg5)
          ∧ r.2.mem ((c.tc : Thread Cert.AdamOutLateRefIdeal.nD Cert.AdamOutLateRefIdeal.τ).loc Cert.AdamOutLateRefIdeal.main_arg6) = m' ((c.tc : Thread Cert.AdamOutLateRefIdeal.nD Cert.AdamOutLateRefIdeal.τ).loc Cert.AdamOutLateRefIdeal.main_arg6)
          ∧ r.2.mem ((c.tc : Thread Cert.AdamOutLateRefIdeal.nD Cert.AdamOutLateRefIdeal.τ).loc Cert.AdamOutLateRefIdeal.main_arg7) = m' ((c.tc : Thread Cert.AdamOutLateRefIdeal.nD Cert.AdamOutLateRefIdeal.τ).loc Cert.AdamOutLateRefIdeal.main_arg7)
          ∧ r.2.mem ((c.tc : Thread Cert.AdamOutLateRefIdeal.nD Cert.AdamOutLateRefIdeal.τ).loc Cert.AdamOutLateRefIdeal.main_arg8) = m' ((c.tc : Thread Cert.AdamOutLateRefIdeal.nD Cert.AdamOutLateRefIdeal.τ).loc Cert.AdamOutLateRefIdeal.main_arg8))

def preserves_AdamOutEarly_AdamOutEarlyIdeal : Prop :=
  True

def algebraic_AdamOutEarlyIdeal_AdamOutEarlyRefIdeal [hAdamOutEarlyIdeal : Cert.AdamOutEarlyIdeal.Facts] [hAdamOutEarlyRefIdeal : Cert.AdamOutEarlyRefIdeal.Facts] : Prop :=
  ∀ (m : (ℓ : Loc Cert.AdamOutEarlyIdeal.nD Cert.AdamOutEarlyIdeal.τ Cert.AdamOutEarlyIdeal.sig) → Buf (Elt Ideal) ℓ) (g : Dev Cert.AdamOutEarlyIdeal.nD → PrngReg)
    (m' : (ℓ : Loc Cert.AdamOutEarlyRefIdeal.nD Cert.AdamOutEarlyRefIdeal.τ Cert.AdamOutEarlyRefIdeal.sig) → Buf (Elt Ideal) ℓ) (g' : Dev Cert.AdamOutEarlyRefIdeal.nD → PrngReg), Pre_AdamOutEarlyIdeal m →
    (∀ c : Dev Cert.AdamOutEarlyIdeal.nD,
      m' ((c.tc : Thread Cert.AdamOutEarlyRefIdeal.nD Cert.AdamOutEarlyRefIdeal.τ).loc Cert.AdamOutEarlyRefIdeal.main_arg0) = m ((c.tc : Thread Cert.AdamOutEarlyIdeal.nD Cert.AdamOutEarlyIdeal.τ).loc Cert.AdamOutEarlyIdeal.main_arg0)
      ∧ m' ((c.tc : Thread Cert.AdamOutEarlyRefIdeal.nD Cert.AdamOutEarlyRefIdeal.τ).loc Cert.AdamOutEarlyRefIdeal.main_arg1) = m ((c.tc : Thread Cert.AdamOutEarlyIdeal.nD Cert.AdamOutEarlyIdeal.τ).loc Cert.AdamOutEarlyIdeal.main_arg1)
      ∧ m' ((c.tc : Thread Cert.AdamOutEarlyRefIdeal.nD Cert.AdamOutEarlyRefIdeal.τ).loc Cert.AdamOutEarlyRefIdeal.main_arg2) = m ((c.tc : Thread Cert.AdamOutEarlyIdeal.nD Cert.AdamOutEarlyIdeal.τ).loc Cert.AdamOutEarlyIdeal.main_arg2)
      ∧ m' ((c.tc : Thread Cert.AdamOutEarlyRefIdeal.nD Cert.AdamOutEarlyRefIdeal.τ).loc Cert.AdamOutEarlyRefIdeal.main_arg3) = m ((c.tc : Thread Cert.AdamOutEarlyIdeal.nD Cert.AdamOutEarlyIdeal.τ).loc Cert.AdamOutEarlyIdeal.main_arg3)
      ∧ m' ((c.tc : Thread Cert.AdamOutEarlyRefIdeal.nD Cert.AdamOutEarlyRefIdeal.τ).loc Cert.AdamOutEarlyRefIdeal.main_arg4) = m ((c.tc : Thread Cert.AdamOutEarlyIdeal.nD Cert.AdamOutEarlyIdeal.τ).loc Cert.AdamOutEarlyIdeal.main_arg4)
      ∧ m' ((c.tc : Thread Cert.AdamOutEarlyRefIdeal.nD Cert.AdamOutEarlyRefIdeal.τ).loc Cert.AdamOutEarlyRefIdeal.main_arg5) = m ((c.tc : Thread Cert.AdamOutEarlyIdeal.nD Cert.AdamOutEarlyIdeal.τ).loc Cert.AdamOutEarlyIdeal.main_arg5)
      ∧ m' ((c.tc : Thread Cert.AdamOutEarlyRefIdeal.nD Cert.AdamOutEarlyRefIdeal.τ).loc Cert.AdamOutEarlyRefIdeal.main_arg6) = m ((c.tc : Thread Cert.AdamOutEarlyIdeal.nD Cert.AdamOutEarlyIdeal.τ).loc Cert.AdamOutEarlyIdeal.main_arg6)
      ∧ m' ((c.tc : Thread Cert.AdamOutEarlyRefIdeal.nD Cert.AdamOutEarlyRefIdeal.τ).loc Cert.AdamOutEarlyRefIdeal.main_arg7) = m ((c.tc : Thread Cert.AdamOutEarlyIdeal.nD Cert.AdamOutEarlyIdeal.τ).loc Cert.AdamOutEarlyIdeal.main_arg7)
      ∧ m' ((c.tc : Thread Cert.AdamOutEarlyRefIdeal.nD Cert.AdamOutEarlyRefIdeal.τ).loc Cert.AdamOutEarlyRefIdeal.main_arg8) = m ((c.tc : Thread Cert.AdamOutEarlyIdeal.nD Cert.AdamOutEarlyIdeal.τ).loc Cert.AdamOutEarlyIdeal.main_arg8)) →
    ∃ (v0 : (c : Dev Cert.AdamOutEarlyIdeal.nD) → Buf (Elt Ideal) ((c.tc : Thread Cert.AdamOutEarlyIdeal.nD Cert.AdamOutEarlyIdeal.τ).loc Cert.AdamOutEarlyIdeal.main_v0_0)) (v1 : (c : Dev Cert.AdamOutEarlyIdeal.nD) → Buf (Elt Ideal) ((c.tc : Thread Cert.AdamOutEarlyIdeal.nD Cert.AdamOutEarlyIdeal.τ).loc Cert.AdamOutEarlyIdeal.main_v0_1)) (v2 : (c : Dev Cert.AdamOutEarlyIdeal.nD) → Buf (Elt Ideal) ((c.tc : Thread Cert.AdamOutEarlyIdeal.nD Cert.AdamOutEarlyIdeal.τ).loc Cert.AdamOutEarlyIdeal.main_v0_2)) (v3 : (c : Dev Cert.AdamOutEarlyIdeal.nD) → Buf (Elt Ideal) ((c.tc : Thread Cert.AdamOutEarlyIdeal.nD Cert.AdamOutEarlyIdeal.τ).loc Cert.AdamOutEarlyIdeal.main_v0_3)),
      θ_run (Cert.AdamOutEarlyIdeal.defs (F := Ideal)) (onTc (τ := Cert.AdamOutEarlyIdeal.τ) (Cert.AdamOutEarlyIdeal.main (F := Ideal))) ⟨m, fun _ => 0, g⟩ (fun r => ∀ c : Dev Cert.AdamOutEarlyIdeal.nD,
          r.2.mem ((c.tc : Thread Cert.AdamOutEarlyIdeal.nD Cert.AdamOutEarlyIdeal.τ).loc Cert.AdamOutEarlyIdeal.main_v0_0) = v0 c
          ∧ r.2.mem ((c.tc : Thread Cert.AdamOutEarlyIdeal.nD Cert.AdamOutEarlyIdeal.τ).loc Cert.AdamOutEarlyIdeal.main_v0_1) = v1 c
          ∧ r.2.mem ((c.tc : Thread Cert.AdamOutEarlyIdeal.nD Cert.AdamOutEarlyIdeal.τ).loc Cert.AdamOutEarlyIdeal.main_v0_2) = v2 c
          ∧ r.2.mem ((c.tc : Thread Cert.AdamOutEarlyIdeal.nD Cert.AdamOutEarlyIdeal.τ).loc Cert.AdamOutEarlyIdeal.main_v0_3) = v3 c
          ∧ r.2.mem ((c.tc : Thread Cert.AdamOutEarlyIdeal.nD Cert.AdamOutEarlyIdeal.τ).loc Cert.AdamOutEarlyIdeal.main_arg0) = m ((c.tc : Thread Cert.AdamOutEarlyIdeal.nD Cert.AdamOutEarlyIdeal.τ).loc Cert.AdamOutEarlyIdeal.main_arg0)
          ∧ r.2.mem ((c.tc : Thread Cert.AdamOutEarlyIdeal.nD Cert.AdamOutEarlyIdeal.τ).loc Cert.AdamOutEarlyIdeal.main_arg1) = m ((c.tc : Thread Cert.AdamOutEarlyIdeal.nD Cert.AdamOutEarlyIdeal.τ).loc Cert.AdamOutEarlyIdeal.main_arg1)
          ∧ r.2.mem ((c.tc : Thread Cert.AdamOutEarlyIdeal.nD Cert.AdamOutEarlyIdeal.τ).loc Cert.AdamOutEarlyIdeal.main_arg2) = m ((c.tc : Thread Cert.AdamOutEarlyIdeal.nD Cert.AdamOutEarlyIdeal.τ).loc Cert.AdamOutEarlyIdeal.main_arg2)
          ∧ r.2.mem ((c.tc : Thread Cert.AdamOutEarlyIdeal.nD Cert.AdamOutEarlyIdeal.τ).loc Cert.AdamOutEarlyIdeal.main_arg3) = m ((c.tc : Thread Cert.AdamOutEarlyIdeal.nD Cert.AdamOutEarlyIdeal.τ).loc Cert.AdamOutEarlyIdeal.main_arg3)
          ∧ r.2.mem ((c.tc : Thread Cert.AdamOutEarlyIdeal.nD Cert.AdamOutEarlyIdeal.τ).loc Cert.AdamOutEarlyIdeal.main_arg4) = m ((c.tc : Thread Cert.AdamOutEarlyIdeal.nD Cert.AdamOutEarlyIdeal.τ).loc Cert.AdamOutEarlyIdeal.main_arg4)
          ∧ r.2.mem ((c.tc : Thread Cert.AdamOutEarlyIdeal.nD Cert.AdamOutEarlyIdeal.τ).loc Cert.AdamOutEarlyIdeal.main_arg5) = m ((c.tc : Thread Cert.AdamOutEarlyIdeal.nD Cert.AdamOutEarlyIdeal.τ).loc Cert.AdamOutEarlyIdeal.main_arg5)
          ∧ r.2.mem ((c.tc : Thread Cert.AdamOutEarlyIdeal.nD Cert.AdamOutEarlyIdeal.τ).loc Cert.AdamOutEarlyIdeal.main_arg6) = m ((c.tc : Thread Cert.AdamOutEarlyIdeal.nD Cert.AdamOutEarlyIdeal.τ).loc Cert.AdamOutEarlyIdeal.main_arg6)
          ∧ r.2.mem ((c.tc : Thread Cert.AdamOutEarlyIdeal.nD Cert.AdamOutEarlyIdeal.τ).loc Cert.AdamOutEarlyIdeal.main_arg7) = m ((c.tc : Thread Cert.AdamOutEarlyIdeal.nD Cert.AdamOutEarlyIdeal.τ).loc Cert.AdamOutEarlyIdeal.main_arg7)
          ∧ r.2.mem ((c.tc : Thread Cert.AdamOutEarlyIdeal.nD Cert.AdamOutEarlyIdeal.τ).loc Cert.AdamOutEarlyIdeal.main_arg8) = m ((c.tc : Thread Cert.AdamOutEarlyIdeal.nD Cert.AdamOutEarlyIdeal.τ).loc Cert.AdamOutEarlyIdeal.main_arg8))
      ∧ θ_run (Cert.AdamOutEarlyRefIdeal.defs (F := Ideal)) (onTc (τ := Cert.AdamOutEarlyRefIdeal.τ) (Cert.AdamOutEarlyRefIdeal.main (F := Ideal))) ⟨m', fun _ => 0, g'⟩ (fun r => ∀ c : Dev Cert.AdamOutEarlyRefIdeal.nD,
          r.2.mem ((c.tc : Thread Cert.AdamOutEarlyRefIdeal.nD Cert.AdamOutEarlyRefIdeal.τ).loc Cert.AdamOutEarlyRefIdeal.main_v38) = v0 c
          ∧ r.2.mem ((c.tc : Thread Cert.AdamOutEarlyRefIdeal.nD Cert.AdamOutEarlyRefIdeal.τ).loc Cert.AdamOutEarlyRefIdeal.main_v43) = v1 c
          ∧ r.2.mem ((c.tc : Thread Cert.AdamOutEarlyRefIdeal.nD Cert.AdamOutEarlyRefIdeal.τ).loc Cert.AdamOutEarlyRefIdeal.main_v48) = v2 c
          ∧ r.2.mem ((c.tc : Thread Cert.AdamOutEarlyRefIdeal.nD Cert.AdamOutEarlyRefIdeal.τ).loc Cert.AdamOutEarlyRefIdeal.main_v53) = v3 c
          ∧ r.2.mem ((c.tc : Thread Cert.AdamOutEarlyRefIdeal.nD Cert.AdamOutEarlyRefIdeal.τ).loc Cert.AdamOutEarlyRefIdeal.main_arg0) = m' ((c.tc : Thread Cert.AdamOutEarlyRefIdeal.nD Cert.AdamOutEarlyRefIdeal.τ).loc Cert.AdamOutEarlyRefIdeal.main_arg0)
          ∧ r.2.mem ((c.tc : Thread Cert.AdamOutEarlyRefIdeal.nD Cert.AdamOutEarlyRefIdeal.τ).loc Cert.AdamOutEarlyRefIdeal.main_arg1) = m' ((c.tc : Thread Cert.AdamOutEarlyRefIdeal.nD Cert.AdamOutEarlyRefIdeal.τ).loc Cert.AdamOutEarlyRefIdeal.main_arg1)
          ∧ r.2.mem ((c.tc : Thread Cert.AdamOutEarlyRefIdeal.nD Cert.AdamOutEarlyRefIdeal.τ).loc Cert.AdamOutEarlyRefIdeal.main_arg2) = m' ((c.tc : Thread Cert.AdamOutEarlyRefIdeal.nD Cert.AdamOutEarlyRefIdeal.τ).loc Cert.AdamOutEarlyRefIdeal.main_arg2)
          ∧ r.2.mem ((c.tc : Thread Cert.AdamOutEarlyRefIdeal.nD Cert.AdamOutEarlyRefIdeal.τ).loc Cert.AdamOutEarlyRefIdeal.main_arg3) = m' ((c.tc : Thread Cert.AdamOutEarlyRefIdeal.nD Cert.AdamOutEarlyRefIdeal.τ).loc Cert.AdamOutEarlyRefIdeal.main_arg3)
          ∧ r.2.mem ((c.tc : Thread Cert.AdamOutEarlyRefIdeal.nD Cert.AdamOutEarlyRefIdeal.τ).loc Cert.AdamOutEarlyRefIdeal.main_arg4) = m' ((c.tc : Thread Cert.AdamOutEarlyRefIdeal.nD Cert.AdamOutEarlyRefIdeal.τ).loc Cert.AdamOutEarlyRefIdeal.main_arg4)
          ∧ r.2.mem ((c.tc : Thread Cert.AdamOutEarlyRefIdeal.nD Cert.AdamOutEarlyRefIdeal.τ).loc Cert.AdamOutEarlyRefIdeal.main_arg5) = m' ((c.tc : Thread Cert.AdamOutEarlyRefIdeal.nD Cert.AdamOutEarlyRefIdeal.τ).loc Cert.AdamOutEarlyRefIdeal.main_arg5)
          ∧ r.2.mem ((c.tc : Thread Cert.AdamOutEarlyRefIdeal.nD Cert.AdamOutEarlyRefIdeal.τ).loc Cert.AdamOutEarlyRefIdeal.main_arg6) = m' ((c.tc : Thread Cert.AdamOutEarlyRefIdeal.nD Cert.AdamOutEarlyRefIdeal.τ).loc Cert.AdamOutEarlyRefIdeal.main_arg6)
          ∧ r.2.mem ((c.tc : Thread Cert.AdamOutEarlyRefIdeal.nD Cert.AdamOutEarlyRefIdeal.τ).loc Cert.AdamOutEarlyRefIdeal.main_arg7) = m' ((c.tc : Thread Cert.AdamOutEarlyRefIdeal.nD Cert.AdamOutEarlyRefIdeal.τ).loc Cert.AdamOutEarlyRefIdeal.main_arg7)
          ∧ r.2.mem ((c.tc : Thread Cert.AdamOutEarlyRefIdeal.nD Cert.AdamOutEarlyRefIdeal.τ).loc Cert.AdamOutEarlyRefIdeal.main_arg8) = m' ((c.tc : Thread Cert.AdamOutEarlyRefIdeal.nD Cert.AdamOutEarlyRefIdeal.τ).loc Cert.AdamOutEarlyRefIdeal.main_arg8))

def preserves_AdamInLate_AdamInLateIdeal : Prop :=
  True

def algebraic_AdamInLateIdeal_AdamInLateRefIdeal [hAdamInLateIdeal : Cert.AdamInLateIdeal.Facts] [hAdamInLateRefIdeal : Cert.AdamInLateRefIdeal.Facts] : Prop :=
  ∀ (m : (ℓ : Loc Cert.AdamInLateIdeal.nD Cert.AdamInLateIdeal.τ Cert.AdamInLateIdeal.sig) → Buf (Elt Ideal) ℓ) (g : Dev Cert.AdamInLateIdeal.nD → PrngReg)
    (m' : (ℓ : Loc Cert.AdamInLateRefIdeal.nD Cert.AdamInLateRefIdeal.τ Cert.AdamInLateRefIdeal.sig) → Buf (Elt Ideal) ℓ) (g' : Dev Cert.AdamInLateRefIdeal.nD → PrngReg), Pre_AdamInLateIdeal m →
    (∀ c : Dev Cert.AdamInLateIdeal.nD,
      m' ((c.tc : Thread Cert.AdamInLateRefIdeal.nD Cert.AdamInLateRefIdeal.τ).loc Cert.AdamInLateRefIdeal.main_arg0) = m ((c.tc : Thread Cert.AdamInLateIdeal.nD Cert.AdamInLateIdeal.τ).loc Cert.AdamInLateIdeal.main_arg0)
      ∧ m' ((c.tc : Thread Cert.AdamInLateRefIdeal.nD Cert.AdamInLateRefIdeal.τ).loc Cert.AdamInLateRefIdeal.main_arg1) = m ((c.tc : Thread Cert.AdamInLateIdeal.nD Cert.AdamInLateIdeal.τ).loc Cert.AdamInLateIdeal.main_arg1)
      ∧ m' ((c.tc : Thread Cert.AdamInLateRefIdeal.nD Cert.AdamInLateRefIdeal.τ).loc Cert.AdamInLateRefIdeal.main_arg2) = m ((c.tc : Thread Cert.AdamInLateIdeal.nD Cert.AdamInLateIdeal.τ).loc Cert.AdamInLateIdeal.main_arg2)
      ∧ m' ((c.tc : Thread Cert.AdamInLateRefIdeal.nD Cert.AdamInLateRefIdeal.τ).loc Cert.AdamInLateRefIdeal.main_arg3) = m ((c.tc : Thread Cert.AdamInLateIdeal.nD Cert.AdamInLateIdeal.τ).loc Cert.AdamInLateIdeal.main_arg3)
      ∧ m' ((c.tc : Thread Cert.AdamInLateRefIdeal.nD Cert.AdamInLateRefIdeal.τ).loc Cert.AdamInLateRefIdeal.main_arg4) = m ((c.tc : Thread Cert.AdamInLateIdeal.nD Cert.AdamInLateIdeal.τ).loc Cert.AdamInLateIdeal.main_arg4)
      ∧ m' ((c.tc : Thread Cert.AdamInLateRefIdeal.nD Cert.AdamInLateRefIdeal.τ).loc Cert.AdamInLateRefIdeal.main_arg5) = m ((c.tc : Thread Cert.AdamInLateIdeal.nD Cert.AdamInLateIdeal.τ).loc Cert.AdamInLateIdeal.main_arg5)
      ∧ m' ((c.tc : Thread Cert.AdamInLateRefIdeal.nD Cert.AdamInLateRefIdeal.τ).loc Cert.AdamInLateRefIdeal.main_arg6) = m ((c.tc : Thread Cert.AdamInLateIdeal.nD Cert.AdamInLateIdeal.τ).loc Cert.AdamInLateIdeal.main_arg6)
      ∧ m' ((c.tc : Thread Cert.AdamInLateRefIdeal.nD Cert.AdamInLateRefIdeal.τ).loc Cert.AdamInLateRefIdeal.main_arg7) = m ((c.tc : Thread Cert.AdamInLateIdeal.nD Cert.AdamInLateIdeal.τ).loc Cert.AdamInLateIdeal.main_arg7)
      ∧ m' ((c.tc : Thread Cert.AdamInLateRefIdeal.nD Cert.AdamInLateRefIdeal.τ).loc Cert.AdamInLateRefIdeal.main_arg8) = m ((c.tc : Thread Cert.AdamInLateIdeal.nD Cert.AdamInLateIdeal.τ).loc Cert.AdamInLateIdeal.main_arg8)) →
    ∃ (v0 : (c : Dev Cert.AdamInLateIdeal.nD) → Buf (Elt Ideal) ((c.tc : Thread Cert.AdamInLateIdeal.nD Cert.AdamInLateIdeal.τ).loc Cert.AdamInLateIdeal.main_v0_0)) (v1 : (c : Dev Cert.AdamInLateIdeal.nD) → Buf (Elt Ideal) ((c.tc : Thread Cert.AdamInLateIdeal.nD Cert.AdamInLateIdeal.τ).loc Cert.AdamInLateIdeal.main_v0_1)) (v2 : (c : Dev Cert.AdamInLateIdeal.nD) → Buf (Elt Ideal) ((c.tc : Thread Cert.AdamInLateIdeal.nD Cert.AdamInLateIdeal.τ).loc Cert.AdamInLateIdeal.main_v0_2)) (v3 : (c : Dev Cert.AdamInLateIdeal.nD) → Buf (Elt Ideal) ((c.tc : Thread Cert.AdamInLateIdeal.nD Cert.AdamInLateIdeal.τ).loc Cert.AdamInLateIdeal.main_v0_3)),
      θ_run (Cert.AdamInLateIdeal.defs (F := Ideal)) (onTc (τ := Cert.AdamInLateIdeal.τ) (Cert.AdamInLateIdeal.main (F := Ideal))) ⟨m, fun _ => 0, g⟩ (fun r => ∀ c : Dev Cert.AdamInLateIdeal.nD,
          r.2.mem ((c.tc : Thread Cert.AdamInLateIdeal.nD Cert.AdamInLateIdeal.τ).loc Cert.AdamInLateIdeal.main_v0_0) = v0 c
          ∧ r.2.mem ((c.tc : Thread Cert.AdamInLateIdeal.nD Cert.AdamInLateIdeal.τ).loc Cert.AdamInLateIdeal.main_v0_1) = v1 c
          ∧ r.2.mem ((c.tc : Thread Cert.AdamInLateIdeal.nD Cert.AdamInLateIdeal.τ).loc Cert.AdamInLateIdeal.main_v0_2) = v2 c
          ∧ r.2.mem ((c.tc : Thread Cert.AdamInLateIdeal.nD Cert.AdamInLateIdeal.τ).loc Cert.AdamInLateIdeal.main_v0_3) = v3 c
          ∧ r.2.mem ((c.tc : Thread Cert.AdamInLateIdeal.nD Cert.AdamInLateIdeal.τ).loc Cert.AdamInLateIdeal.main_arg0) = m ((c.tc : Thread Cert.AdamInLateIdeal.nD Cert.AdamInLateIdeal.τ).loc Cert.AdamInLateIdeal.main_arg0)
          ∧ r.2.mem ((c.tc : Thread Cert.AdamInLateIdeal.nD Cert.AdamInLateIdeal.τ).loc Cert.AdamInLateIdeal.main_arg1) = m ((c.tc : Thread Cert.AdamInLateIdeal.nD Cert.AdamInLateIdeal.τ).loc Cert.AdamInLateIdeal.main_arg1)
          ∧ r.2.mem ((c.tc : Thread Cert.AdamInLateIdeal.nD Cert.AdamInLateIdeal.τ).loc Cert.AdamInLateIdeal.main_arg2) = m ((c.tc : Thread Cert.AdamInLateIdeal.nD Cert.AdamInLateIdeal.τ).loc Cert.AdamInLateIdeal.main_arg2)
          ∧ r.2.mem ((c.tc : Thread Cert.AdamInLateIdeal.nD Cert.AdamInLateIdeal.τ).loc Cert.AdamInLateIdeal.main_arg3) = m ((c.tc : Thread Cert.AdamInLateIdeal.nD Cert.AdamInLateIdeal.τ).loc Cert.AdamInLateIdeal.main_arg3)
          ∧ r.2.mem ((c.tc : Thread Cert.AdamInLateIdeal.nD Cert.AdamInLateIdeal.τ).loc Cert.AdamInLateIdeal.main_arg4) = m ((c.tc : Thread Cert.AdamInLateIdeal.nD Cert.AdamInLateIdeal.τ).loc Cert.AdamInLateIdeal.main_arg4)
          ∧ r.2.mem ((c.tc : Thread Cert.AdamInLateIdeal.nD Cert.AdamInLateIdeal.τ).loc Cert.AdamInLateIdeal.main_arg5) = m ((c.tc : Thread Cert.AdamInLateIdeal.nD Cert.AdamInLateIdeal.τ).loc Cert.AdamInLateIdeal.main_arg5)
          ∧ r.2.mem ((c.tc : Thread Cert.AdamInLateIdeal.nD Cert.AdamInLateIdeal.τ).loc Cert.AdamInLateIdeal.main_arg6) = m ((c.tc : Thread Cert.AdamInLateIdeal.nD Cert.AdamInLateIdeal.τ).loc Cert.AdamInLateIdeal.main_arg6)
          ∧ r.2.mem ((c.tc : Thread Cert.AdamInLateIdeal.nD Cert.AdamInLateIdeal.τ).loc Cert.AdamInLateIdeal.main_arg7) = m ((c.tc : Thread Cert.AdamInLateIdeal.nD Cert.AdamInLateIdeal.τ).loc Cert.AdamInLateIdeal.main_arg7)
          ∧ r.2.mem ((c.tc : Thread Cert.AdamInLateIdeal.nD Cert.AdamInLateIdeal.τ).loc Cert.AdamInLateIdeal.main_arg8) = m ((c.tc : Thread Cert.AdamInLateIdeal.nD Cert.AdamInLateIdeal.τ).loc Cert.AdamInLateIdeal.main_arg8))
      ∧ θ_run (Cert.AdamInLateRefIdeal.defs (F := Ideal)) (onTc (τ := Cert.AdamInLateRefIdeal.τ) (Cert.AdamInLateRefIdeal.main (F := Ideal))) ⟨m', fun _ => 0, g'⟩ (fun r => ∀ c : Dev Cert.AdamInLateRefIdeal.nD,
          r.2.mem ((c.tc : Thread Cert.AdamInLateRefIdeal.nD Cert.AdamInLateRefIdeal.τ).loc Cert.AdamInLateRefIdeal.main_v38) = v0 c
          ∧ r.2.mem ((c.tc : Thread Cert.AdamInLateRefIdeal.nD Cert.AdamInLateRefIdeal.τ).loc Cert.AdamInLateRefIdeal.main_v43) = v1 c
          ∧ r.2.mem ((c.tc : Thread Cert.AdamInLateRefIdeal.nD Cert.AdamInLateRefIdeal.τ).loc Cert.AdamInLateRefIdeal.main_v48) = v2 c
          ∧ r.2.mem ((c.tc : Thread Cert.AdamInLateRefIdeal.nD Cert.AdamInLateRefIdeal.τ).loc Cert.AdamInLateRefIdeal.main_v53) = v3 c
          ∧ r.2.mem ((c.tc : Thread Cert.AdamInLateRefIdeal.nD Cert.AdamInLateRefIdeal.τ).loc Cert.AdamInLateRefIdeal.main_arg0) = m' ((c.tc : Thread Cert.AdamInLateRefIdeal.nD Cert.AdamInLateRefIdeal.τ).loc Cert.AdamInLateRefIdeal.main_arg0)
          ∧ r.2.mem ((c.tc : Thread Cert.AdamInLateRefIdeal.nD Cert.AdamInLateRefIdeal.τ).loc Cert.AdamInLateRefIdeal.main_arg1) = m' ((c.tc : Thread Cert.AdamInLateRefIdeal.nD Cert.AdamInLateRefIdeal.τ).loc Cert.AdamInLateRefIdeal.main_arg1)
          ∧ r.2.mem ((c.tc : Thread Cert.AdamInLateRefIdeal.nD Cert.AdamInLateRefIdeal.τ).loc Cert.AdamInLateRefIdeal.main_arg2) = m' ((c.tc : Thread Cert.AdamInLateRefIdeal.nD Cert.AdamInLateRefIdeal.τ).loc Cert.AdamInLateRefIdeal.main_arg2)
          ∧ r.2.mem ((c.tc : Thread Cert.AdamInLateRefIdeal.nD Cert.AdamInLateRefIdeal.τ).loc Cert.AdamInLateRefIdeal.main_arg3) = m' ((c.tc : Thread Cert.AdamInLateRefIdeal.nD Cert.AdamInLateRefIdeal.τ).loc Cert.AdamInLateRefIdeal.main_arg3)
          ∧ r.2.mem ((c.tc : Thread Cert.AdamInLateRefIdeal.nD Cert.AdamInLateRefIdeal.τ).loc Cert.AdamInLateRefIdeal.main_arg4) = m' ((c.tc : Thread Cert.AdamInLateRefIdeal.nD Cert.AdamInLateRefIdeal.τ).loc Cert.AdamInLateRefIdeal.main_arg4)
          ∧ r.2.mem ((c.tc : Thread Cert.AdamInLateRefIdeal.nD Cert.AdamInLateRefIdeal.τ).loc Cert.AdamInLateRefIdeal.main_arg5) = m' ((c.tc : Thread Cert.AdamInLateRefIdeal.nD Cert.AdamInLateRefIdeal.τ).loc Cert.AdamInLateRefIdeal.main_arg5)
          ∧ r.2.mem ((c.tc : Thread Cert.AdamInLateRefIdeal.nD Cert.AdamInLateRefIdeal.τ).loc Cert.AdamInLateRefIdeal.main_arg6) = m' ((c.tc : Thread Cert.AdamInLateRefIdeal.nD Cert.AdamInLateRefIdeal.τ).loc Cert.AdamInLateRefIdeal.main_arg6)
          ∧ r.2.mem ((c.tc : Thread Cert.AdamInLateRefIdeal.nD Cert.AdamInLateRefIdeal.τ).loc Cert.AdamInLateRefIdeal.main_arg7) = m' ((c.tc : Thread Cert.AdamInLateRefIdeal.nD Cert.AdamInLateRefIdeal.τ).loc Cert.AdamInLateRefIdeal.main_arg7)
          ∧ r.2.mem ((c.tc : Thread Cert.AdamInLateRefIdeal.nD Cert.AdamInLateRefIdeal.τ).loc Cert.AdamInLateRefIdeal.main_arg8) = m' ((c.tc : Thread Cert.AdamInLateRefIdeal.nD Cert.AdamInLateRefIdeal.τ).loc Cert.AdamInLateRefIdeal.main_arg8))

def preserves_AdamInTop_AdamInTopIdeal : Prop :=
  True

def algebraic_AdamInTopIdeal_AdamInTopRefIdeal [hAdamInTopIdeal : Cert.AdamInTopIdeal.Facts] [hAdamInTopRefIdeal : Cert.AdamInTopRefIdeal.Facts] : Prop :=
  ∀ (m : (ℓ : Loc Cert.AdamInTopIdeal.nD Cert.AdamInTopIdeal.τ Cert.AdamInTopIdeal.sig) → Buf (Elt Ideal) ℓ) (g : Dev Cert.AdamInTopIdeal.nD → PrngReg)
    (m' : (ℓ : Loc Cert.AdamInTopRefIdeal.nD Cert.AdamInTopRefIdeal.τ Cert.AdamInTopRefIdeal.sig) → Buf (Elt Ideal) ℓ) (g' : Dev Cert.AdamInTopRefIdeal.nD → PrngReg), Pre_AdamInTopIdeal m →
    (∀ c : Dev Cert.AdamInTopIdeal.nD,
      m' ((c.tc : Thread Cert.AdamInTopRefIdeal.nD Cert.AdamInTopRefIdeal.τ).loc Cert.AdamInTopRefIdeal.main_arg0) = m ((c.tc : Thread Cert.AdamInTopIdeal.nD Cert.AdamInTopIdeal.τ).loc Cert.AdamInTopIdeal.main_arg0)
      ∧ m' ((c.tc : Thread Cert.AdamInTopRefIdeal.nD Cert.AdamInTopRefIdeal.τ).loc Cert.AdamInTopRefIdeal.main_arg1) = m ((c.tc : Thread Cert.AdamInTopIdeal.nD Cert.AdamInTopIdeal.τ).loc Cert.AdamInTopIdeal.main_arg1)
      ∧ m' ((c.tc : Thread Cert.AdamInTopRefIdeal.nD Cert.AdamInTopRefIdeal.τ).loc Cert.AdamInTopRefIdeal.main_arg2) = m ((c.tc : Thread Cert.AdamInTopIdeal.nD Cert.AdamInTopIdeal.τ).loc Cert.AdamInTopIdeal.main_arg2)
      ∧ m' ((c.tc : Thread Cert.AdamInTopRefIdeal.nD Cert.AdamInTopRefIdeal.τ).loc Cert.AdamInTopRefIdeal.main_arg3) = m ((c.tc : Thread Cert.AdamInTopIdeal.nD Cert.AdamInTopIdeal.τ).loc Cert.AdamInTopIdeal.main_arg3)
      ∧ m' ((c.tc : Thread Cert.AdamInTopRefIdeal.nD Cert.AdamInTopRefIdeal.τ).loc Cert.AdamInTopRefIdeal.main_arg4) = m ((c.tc : Thread Cert.AdamInTopIdeal.nD Cert.AdamInTopIdeal.τ).loc Cert.AdamInTopIdeal.main_arg4)
      ∧ m' ((c.tc : Thread Cert.AdamInTopRefIdeal.nD Cert.AdamInTopRefIdeal.τ).loc Cert.AdamInTopRefIdeal.main_arg5) = m ((c.tc : Thread Cert.AdamInTopIdeal.nD Cert.AdamInTopIdeal.τ).loc Cert.AdamInTopIdeal.main_arg5)
      ∧ m' ((c.tc : Thread Cert.AdamInTopRefIdeal.nD Cert.AdamInTopRefIdeal.τ).loc Cert.AdamInTopRefIdeal.main_arg6) = m ((c.tc : Thread Cert.AdamInTopIdeal.nD Cert.AdamInTopIdeal.τ).loc Cert.AdamInTopIdeal.main_arg6)
      ∧ m' ((c.tc : Thread Cert.AdamInTopRefIdeal.nD Cert.AdamInTopRefIdeal.τ).loc Cert.AdamInTopRefIdeal.main_arg7) = m ((c.tc : Thread Cert.AdamInTopIdeal.nD Cert.AdamInTopIdeal.τ).loc Cert.AdamInTopIdeal.main_arg7)
      ∧ m' ((c.tc : Thread Cert.AdamInTopRefIdeal.nD Cert.AdamInTopRefIdeal.τ).loc Cert.AdamInTopRefIdeal.main_arg8) = m ((c.tc : Thread Cert.AdamInTopIdeal.nD Cert.AdamInTopIdeal.τ).loc Cert.AdamInTopIdeal.main_arg8)) →
    ∃ (v0 : (c : Dev Cert.AdamInTopIdeal.nD) → Buf (Elt Ideal) ((c.tc : Thread Cert.AdamInTopIdeal.nD Cert.AdamInTopIdeal.τ).loc Cert.AdamInTopIdeal.main_v0_0)) (v1 : (c : Dev Cert.AdamInTopIdeal.nD) → Buf (Elt Ideal) ((c.tc : Thread Cert.AdamInTopIdeal.nD Cert.AdamInTopIdeal.τ).loc Cert.AdamInTopIdeal.main_v0_1)) (v2 : (c : Dev Cert.AdamInTopIdeal.nD) → Buf (Elt Ideal) ((c.tc : Thread Cert.AdamInTopIdeal.nD Cert.AdamInTopIdeal.τ).loc Cert.AdamInTopIdeal.main_v0_2)) (v3 : (c : Dev Cert.AdamInTopIdeal.nD) → Buf (Elt Ideal) ((c.tc : Thread Cert.AdamInTopIdeal.nD Cert.AdamInTopIdeal.τ).loc Cert.AdamInTopIdeal.main_v0_3)),
      θ_run (Cert.AdamInTopIdeal.defs (F := Ideal)) (onTc (τ := Cert.AdamInTopIdeal.τ) (Cert.AdamInTopIdeal.main (F := Ideal))) ⟨m, fun _ => 0, g⟩ (fun r => ∀ c : Dev Cert.AdamInTopIdeal.nD,
          r.2.mem ((c.tc : Thread Cert.AdamInTopIdeal.nD Cert.AdamInTopIdeal.τ).loc Cert.AdamInTopIdeal.main_v0_0) = v0 c
          ∧ r.2.mem ((c.tc : Thread Cert.AdamInTopIdeal.nD Cert.AdamInTopIdeal.τ).loc Cert.AdamInTopIdeal.main_v0_1) = v1 c
          ∧ r.2.mem ((c.tc : Thread Cert.AdamInTopIdeal.nD Cert.AdamInTopIdeal.τ).loc Cert.AdamInTopIdeal.main_v0_2) = v2 c
          ∧ r.2.mem ((c.tc : Thread Cert.AdamInTopIdeal.nD Cert.AdamInTopIdeal.τ).loc Cert.AdamInTopIdeal.main_v0_3) = v3 c
          ∧ r.2.mem ((c.tc : Thread Cert.AdamInTopIdeal.nD Cert.AdamInTopIdeal.τ).loc Cert.AdamInTopIdeal.main_arg0) = m ((c.tc : Thread Cert.AdamInTopIdeal.nD Cert.AdamInTopIdeal.τ).loc Cert.AdamInTopIdeal.main_arg0)
          ∧ r.2.mem ((c.tc : Thread Cert.AdamInTopIdeal.nD Cert.AdamInTopIdeal.τ).loc Cert.AdamInTopIdeal.main_arg1) = m ((c.tc : Thread Cert.AdamInTopIdeal.nD Cert.AdamInTopIdeal.τ).loc Cert.AdamInTopIdeal.main_arg1)
          ∧ r.2.mem ((c.tc : Thread Cert.AdamInTopIdeal.nD Cert.AdamInTopIdeal.τ).loc Cert.AdamInTopIdeal.main_arg2) = m ((c.tc : Thread Cert.AdamInTopIdeal.nD Cert.AdamInTopIdeal.τ).loc Cert.AdamInTopIdeal.main_arg2)
          ∧ r.2.mem ((c.tc : Thread Cert.AdamInTopIdeal.nD Cert.AdamInTopIdeal.τ).loc Cert.AdamInTopIdeal.main_arg3) = m ((c.tc : Thread Cert.AdamInTopIdeal.nD Cert.AdamInTopIdeal.τ).loc Cert.AdamInTopIdeal.main_arg3)
          ∧ r.2.mem ((c.tc : Thread Cert.AdamInTopIdeal.nD Cert.AdamInTopIdeal.τ).loc Cert.AdamInTopIdeal.main_arg4) = m ((c.tc : Thread Cert.AdamInTopIdeal.nD Cert.AdamInTopIdeal.τ).loc Cert.AdamInTopIdeal.main_arg4)
          ∧ r.2.mem ((c.tc : Thread Cert.AdamInTopIdeal.nD Cert.AdamInTopIdeal.τ).loc Cert.AdamInTopIdeal.main_arg5) = m ((c.tc : Thread Cert.AdamInTopIdeal.nD Cert.AdamInTopIdeal.τ).loc Cert.AdamInTopIdeal.main_arg5)
          ∧ r.2.mem ((c.tc : Thread Cert.AdamInTopIdeal.nD Cert.AdamInTopIdeal.τ).loc Cert.AdamInTopIdeal.main_arg6) = m ((c.tc : Thread Cert.AdamInTopIdeal.nD Cert.AdamInTopIdeal.τ).loc Cert.AdamInTopIdeal.main_arg6)
          ∧ r.2.mem ((c.tc : Thread Cert.AdamInTopIdeal.nD Cert.AdamInTopIdeal.τ).loc Cert.AdamInTopIdeal.main_arg7) = m ((c.tc : Thread Cert.AdamInTopIdeal.nD Cert.AdamInTopIdeal.τ).loc Cert.AdamInTopIdeal.main_arg7)
          ∧ r.2.mem ((c.tc : Thread Cert.AdamInTopIdeal.nD Cert.AdamInTopIdeal.τ).loc Cert.AdamInTopIdeal.main_arg8) = m ((c.tc : Thread Cert.AdamInTopIdeal.nD Cert.AdamInTopIdeal.τ).loc Cert.AdamInTopIdeal.main_arg8))
      ∧ θ_run (Cert.AdamInTopRefIdeal.defs (F := Ideal)) (onTc (τ := Cert.AdamInTopRefIdeal.τ) (Cert.AdamInTopRefIdeal.main (F := Ideal))) ⟨m', fun _ => 0, g'⟩ (fun r => ∀ c : Dev Cert.AdamInTopRefIdeal.nD,
          r.2.mem ((c.tc : Thread Cert.AdamInTopRefIdeal.nD Cert.AdamInTopRefIdeal.τ).loc Cert.AdamInTopRefIdeal.main_v41) = v0 c
          ∧ r.2.mem ((c.tc : Thread Cert.AdamInTopRefIdeal.nD Cert.AdamInTopRefIdeal.τ).loc Cert.AdamInTopRefIdeal.main_v49) = v1 c
          ∧ r.2.mem ((c.tc : Thread Cert.AdamInTopRefIdeal.nD Cert.AdamInTopRefIdeal.τ).loc Cert.AdamInTopRefIdeal.main_v57) = v2 c
          ∧ r.2.mem ((c.tc : Thread Cert.AdamInTopRefIdeal.nD Cert.AdamInTopRefIdeal.τ).loc Cert.AdamInTopRefIdeal.main_v65) = v3 c
          ∧ r.2.mem ((c.tc : Thread Cert.AdamInTopRefIdeal.nD Cert.AdamInTopRefIdeal.τ).loc Cert.AdamInTopRefIdeal.main_arg0) = m' ((c.tc : Thread Cert.AdamInTopRefIdeal.nD Cert.AdamInTopRefIdeal.τ).loc Cert.AdamInTopRefIdeal.main_arg0)
          ∧ r.2.mem ((c.tc : Thread Cert.AdamInTopRefIdeal.nD Cert.AdamInTopRefIdeal.τ).loc Cert.AdamInTopRefIdeal.main_arg1) = m' ((c.tc : Thread Cert.AdamInTopRefIdeal.nD Cert.AdamInTopRefIdeal.τ).loc Cert.AdamInTopRefIdeal.main_arg1)
          ∧ r.2.mem ((c.tc : Thread Cert.AdamInTopRefIdeal.nD Cert.AdamInTopRefIdeal.τ).loc Cert.AdamInTopRefIdeal.main_arg2) = m' ((c.tc : Thread Cert.AdamInTopRefIdeal.nD Cert.AdamInTopRefIdeal.τ).loc Cert.AdamInTopRefIdeal.main_arg2)
          ∧ r.2.mem ((c.tc : Thread Cert.AdamInTopRefIdeal.nD Cert.AdamInTopRefIdeal.τ).loc Cert.AdamInTopRefIdeal.main_arg3) = m' ((c.tc : Thread Cert.AdamInTopRefIdeal.nD Cert.AdamInTopRefIdeal.τ).loc Cert.AdamInTopRefIdeal.main_arg3)
          ∧ r.2.mem ((c.tc : Thread Cert.AdamInTopRefIdeal.nD Cert.AdamInTopRefIdeal.τ).loc Cert.AdamInTopRefIdeal.main_arg4) = m' ((c.tc : Thread Cert.AdamInTopRefIdeal.nD Cert.AdamInTopRefIdeal.τ).loc Cert.AdamInTopRefIdeal.main_arg4)
          ∧ r.2.mem ((c.tc : Thread Cert.AdamInTopRefIdeal.nD Cert.AdamInTopRefIdeal.τ).loc Cert.AdamInTopRefIdeal.main_arg5) = m' ((c.tc : Thread Cert.AdamInTopRefIdeal.nD Cert.AdamInTopRefIdeal.τ).loc Cert.AdamInTopRefIdeal.main_arg5)
          ∧ r.2.mem ((c.tc : Thread Cert.AdamInTopRefIdeal.nD Cert.AdamInTopRefIdeal.τ).loc Cert.AdamInTopRefIdeal.main_arg6) = m' ((c.tc : Thread Cert.AdamInTopRefIdeal.nD Cert.AdamInTopRefIdeal.τ).loc Cert.AdamInTopRefIdeal.main_arg6)
          ∧ r.2.mem ((c.tc : Thread Cert.AdamInTopRefIdeal.nD Cert.AdamInTopRefIdeal.τ).loc Cert.AdamInTopRefIdeal.main_arg7) = m' ((c.tc : Thread Cert.AdamInTopRefIdeal.nD Cert.AdamInTopRefIdeal.τ).loc Cert.AdamInTopRefIdeal.main_arg7)
          ∧ r.2.mem ((c.tc : Thread Cert.AdamInTopRefIdeal.nD Cert.AdamInTopRefIdeal.τ).loc Cert.AdamInTopRefIdeal.main_arg8) = m' ((c.tc : Thread Cert.AdamInTopRefIdeal.nD Cert.AdamInTopRefIdeal.τ).loc Cert.AdamInTopRefIdeal.main_arg8))

def preserves_AdamInLow_AdamInLowIdeal : Prop :=
  True

def algebraic_AdamInLowIdeal_AdamInLowRefIdeal [hAdamInLowIdeal : Cert.AdamInLowIdeal.Facts] [hAdamInLowRefIdeal : Cert.AdamInLowRefIdeal.Facts] : Prop :=
  ∀ (m : (ℓ : Loc Cert.AdamInLowIdeal.nD Cert.AdamInLowIdeal.τ Cert.AdamInLowIdeal.sig) → Buf (Elt Ideal) ℓ) (g : Dev Cert.AdamInLowIdeal.nD → PrngReg)
    (m' : (ℓ : Loc Cert.AdamInLowRefIdeal.nD Cert.AdamInLowRefIdeal.τ Cert.AdamInLowRefIdeal.sig) → Buf (Elt Ideal) ℓ) (g' : Dev Cert.AdamInLowRefIdeal.nD → PrngReg), Pre_AdamInLowIdeal m →
    (∀ c : Dev Cert.AdamInLowIdeal.nD,
      m' ((c.tc : Thread Cert.AdamInLowRefIdeal.nD Cert.AdamInLowRefIdeal.τ).loc Cert.AdamInLowRefIdeal.main_arg0) = m ((c.tc : Thread Cert.AdamInLowIdeal.nD Cert.AdamInLowIdeal.τ).loc Cert.AdamInLowIdeal.main_arg0)
      ∧ m' ((c.tc : Thread Cert.AdamInLowRefIdeal.nD Cert.AdamInLowRefIdeal.τ).loc Cert.AdamInLowRefIdeal.main_arg1) = m ((c.tc : Thread Cert.AdamInLowIdeal.nD Cert.AdamInLowIdeal.τ).loc Cert.AdamInLowIdeal.main_arg1)
      ∧ m' ((c.tc : Thread Cert.AdamInLowRefIdeal.nD Cert.AdamInLowRefIdeal.τ).loc Cert.AdamInLowRefIdeal.main_arg2) = m ((c.tc : Thread Cert.AdamInLowIdeal.nD Cert.AdamInLowIdeal.τ).loc Cert.AdamInLowIdeal.main_arg2)
      ∧ m' ((c.tc : Thread Cert.AdamInLowRefIdeal.nD Cert.AdamInLowRefIdeal.τ).loc Cert.AdamInLowRefIdeal.main_arg3) = m ((c.tc : Thread Cert.AdamInLowIdeal.nD Cert.AdamInLowIdeal.τ).loc Cert.AdamInLowIdeal.main_arg3)
      ∧ m' ((c.tc : Thread Cert.AdamInLowRefIdeal.nD Cert.AdamInLowRefIdeal.τ).loc Cert.AdamInLowRefIdeal.main_arg4) = m ((c.tc : Thread Cert.AdamInLowIdeal.nD Cert.AdamInLowIdeal.τ).loc Cert.AdamInLowIdeal.main_arg4)
      ∧ m' ((c.tc : Thread Cert.AdamInLowRefIdeal.nD Cert.AdamInLowRefIdeal.τ).loc Cert.AdamInLowRefIdeal.main_arg5) = m ((c.tc : Thread Cert.AdamInLowIdeal.nD Cert.AdamInLowIdeal.τ).loc Cert.AdamInLowIdeal.main_arg5)
      ∧ m' ((c.tc : Thread Cert.AdamInLowRefIdeal.nD Cert.AdamInLowRefIdeal.τ).loc Cert.AdamInLowRefIdeal.main_arg6) = m ((c.tc : Thread Cert.AdamInLowIdeal.nD Cert.AdamInLowIdeal.τ).loc Cert.AdamInLowIdeal.main_arg6)
      ∧ m' ((c.tc : Thread Cert.AdamInLowRefIdeal.nD Cert.AdamInLowRefIdeal.τ).loc Cert.AdamInLowRefIdeal.main_arg7) = m ((c.tc : Thread Cert.AdamInLowIdeal.nD Cert.AdamInLowIdeal.τ).loc Cert.AdamInLowIdeal.main_arg7)
      ∧ m' ((c.tc : Thread Cert.AdamInLowRefIdeal.nD Cert.AdamInLowRefIdeal.τ).loc Cert.AdamInLowRefIdeal.main_arg8) = m ((c.tc : Thread Cert.AdamInLowIdeal.nD Cert.AdamInLowIdeal.τ).loc Cert.AdamInLowIdeal.main_arg8)) →
    ∃ (v0 : (c : Dev Cert.AdamInLowIdeal.nD) → Buf (Elt Ideal) ((c.tc : Thread Cert.AdamInLowIdeal.nD Cert.AdamInLowIdeal.τ).loc Cert.AdamInLowIdeal.main_v0_0)) (v1 : (c : Dev Cert.AdamInLowIdeal.nD) → Buf (Elt Ideal) ((c.tc : Thread Cert.AdamInLowIdeal.nD Cert.AdamInLowIdeal.τ).loc Cert.AdamInLowIdeal.main_v0_1)) (v2 : (c : Dev Cert.AdamInLowIdeal.nD) → Buf (Elt Ideal) ((c.tc : Thread Cert.AdamInLowIdeal.nD Cert.AdamInLowIdeal.τ).loc Cert.AdamInLowIdeal.main_v0_2)) (v3 : (c : Dev Cert.AdamInLowIdeal.nD) → Buf (Elt Ideal) ((c.tc : Thread Cert.AdamInLowIdeal.nD Cert.AdamInLowIdeal.τ).loc Cert.AdamInLowIdeal.main_v0_3)),
      θ_run (Cert.AdamInLowIdeal.defs (F := Ideal)) (onTc (τ := Cert.AdamInLowIdeal.τ) (Cert.AdamInLowIdeal.main (F := Ideal))) ⟨m, fun _ => 0, g⟩ (fun r => ∀ c : Dev Cert.AdamInLowIdeal.nD,
          r.2.mem ((c.tc : Thread Cert.AdamInLowIdeal.nD Cert.AdamInLowIdeal.τ).loc Cert.AdamInLowIdeal.main_v0_0) = v0 c
          ∧ r.2.mem ((c.tc : Thread Cert.AdamInLowIdeal.nD Cert.AdamInLowIdeal.τ).loc Cert.AdamInLowIdeal.main_v0_1) = v1 c
          ∧ r.2.mem ((c.tc : Thread Cert.AdamInLowIdeal.nD Cert.AdamInLowIdeal.τ).loc Cert.AdamInLowIdeal.main_v0_2) = v2 c
          ∧ r.2.mem ((c.tc : Thread Cert.AdamInLowIdeal.nD Cert.AdamInLowIdeal.τ).loc Cert.AdamInLowIdeal.main_v0_3) = v3 c
          ∧ r.2.mem ((c.tc : Thread Cert.AdamInLowIdeal.nD Cert.AdamInLowIdeal.τ).loc Cert.AdamInLowIdeal.main_arg0) = m ((c.tc : Thread Cert.AdamInLowIdeal.nD Cert.AdamInLowIdeal.τ).loc Cert.AdamInLowIdeal.main_arg0)
          ∧ r.2.mem ((c.tc : Thread Cert.AdamInLowIdeal.nD Cert.AdamInLowIdeal.τ).loc Cert.AdamInLowIdeal.main_arg1) = m ((c.tc : Thread Cert.AdamInLowIdeal.nD Cert.AdamInLowIdeal.τ).loc Cert.AdamInLowIdeal.main_arg1)
          ∧ r.2.mem ((c.tc : Thread Cert.AdamInLowIdeal.nD Cert.AdamInLowIdeal.τ).loc Cert.AdamInLowIdeal.main_arg2) = m ((c.tc : Thread Cert.AdamInLowIdeal.nD Cert.AdamInLowIdeal.τ).loc Cert.AdamInLowIdeal.main_arg2)
          ∧ r.2.mem ((c.tc : Thread Cert.AdamInLowIdeal.nD Cert.AdamInLowIdeal.τ).loc Cert.AdamInLowIdeal.main_arg3) = m ((c.tc : Thread Cert.AdamInLowIdeal.nD Cert.AdamInLowIdeal.τ).loc Cert.AdamInLowIdeal.main_arg3)
          ∧ r.2.mem ((c.tc : Thread Cert.AdamInLowIdeal.nD Cert.AdamInLowIdeal.τ).loc Cert.AdamInLowIdeal.main_arg4) = m ((c.tc : Thread Cert.AdamInLowIdeal.nD Cert.AdamInLowIdeal.τ).loc Cert.AdamInLowIdeal.main_arg4)
          ∧ r.2.mem ((c.tc : Thread Cert.AdamInLowIdeal.nD Cert.AdamInLowIdeal.τ).loc Cert.AdamInLowIdeal.main_arg5) = m ((c.tc : Thread Cert.AdamInLowIdeal.nD Cert.AdamInLowIdeal.τ).loc Cert.AdamInLowIdeal.main_arg5)
          ∧ r.2.mem ((c.tc : Thread Cert.AdamInLowIdeal.nD Cert.AdamInLowIdeal.τ).loc Cert.AdamInLowIdeal.main_arg6) = m ((c.tc : Thread Cert.AdamInLowIdeal.nD Cert.AdamInLowIdeal.τ).loc Cert.AdamInLowIdeal.main_arg6)
          ∧ r.2.mem ((c.tc : Thread Cert.AdamInLowIdeal.nD Cert.AdamInLowIdeal.τ).loc Cert.AdamInLowIdeal.main_arg7) = m ((c.tc : Thread Cert.AdamInLowIdeal.nD Cert.AdamInLowIdeal.τ).loc Cert.AdamInLowIdeal.main_arg7)
          ∧ r.2.mem ((c.tc : Thread Cert.AdamInLowIdeal.nD Cert.AdamInLowIdeal.τ).loc Cert.AdamInLowIdeal.main_arg8) = m ((c.tc : Thread Cert.AdamInLowIdeal.nD Cert.AdamInLowIdeal.τ).loc Cert.AdamInLowIdeal.main_arg8))
      ∧ θ_run (Cert.AdamInLowRefIdeal.defs (F := Ideal)) (onTc (τ := Cert.AdamInLowRefIdeal.τ) (Cert.AdamInLowRefIdeal.main (F := Ideal))) ⟨m', fun _ => 0, g'⟩ (fun r => ∀ c : Dev Cert.AdamInLowRefIdeal.nD,
          r.2.mem ((c.tc : Thread Cert.AdamInLowRefIdeal.nD Cert.AdamInLowRefIdeal.τ).loc Cert.AdamInLowRefIdeal.main_v41) = v0 c
          ∧ r.2.mem ((c.tc : Thread Cert.AdamInLowRefIdeal.nD Cert.AdamInLowRefIdeal.τ).loc Cert.AdamInLowRefIdeal.main_v49) = v1 c
          ∧ r.2.mem ((c.tc : Thread Cert.AdamInLowRefIdeal.nD Cert.AdamInLowRefIdeal.τ).loc Cert.AdamInLowRefIdeal.main_v57) = v2 c
          ∧ r.2.mem ((c.tc : Thread Cert.AdamInLowRefIdeal.nD Cert.AdamInLowRefIdeal.τ).loc Cert.AdamInLowRefIdeal.main_v65) = v3 c
          ∧ r.2.mem ((c.tc : Thread Cert.AdamInLowRefIdeal.nD Cert.AdamInLowRefIdeal.τ).loc Cert.AdamInLowRefIdeal.main_arg0) = m' ((c.tc : Thread Cert.AdamInLowRefIdeal.nD Cert.AdamInLowRefIdeal.τ).loc Cert.AdamInLowRefIdeal.main_arg0)
          ∧ r.2.mem ((c.tc : Thread Cert.AdamInLowRefIdeal.nD Cert.AdamInLowRefIdeal.τ).loc Cert.AdamInLowRefIdeal.main_arg1) = m' ((c.tc : Thread Cert.AdamInLowRefIdeal.nD Cert.AdamInLowRefIdeal.τ).loc Cert.AdamInLowRefIdeal.main_arg1)
          ∧ r.2.mem ((c.tc : Thread Cert.AdamInLowRefIdeal.nD Cert.AdamInLowRefIdeal.τ).loc Cert.AdamInLowRefIdeal.main_arg2) = m' ((c.tc : Thread Cert.AdamInLowRefIdeal.nD Cert.AdamInLowRefIdeal.τ).loc Cert.AdamInLowRefIdeal.main_arg2)
          ∧ r.2.mem ((c.tc : Thread Cert.AdamInLowRefIdeal.nD Cert.AdamInLowRefIdeal.τ).loc Cert.AdamInLowRefIdeal.main_arg3) = m' ((c.tc : Thread Cert.AdamInLowRefIdeal.nD Cert.AdamInLowRefIdeal.τ).loc Cert.AdamInLowRefIdeal.main_arg3)
          ∧ r.2.mem ((c.tc : Thread Cert.AdamInLowRefIdeal.nD Cert.AdamInLowRefIdeal.τ).loc Cert.AdamInLowRefIdeal.main_arg4) = m' ((c.tc : Thread Cert.AdamInLowRefIdeal.nD Cert.AdamInLowRefIdeal.τ).loc Cert.AdamInLowRefIdeal.main_arg4)
          ∧ r.2.mem ((c.tc : Thread Cert.AdamInLowRefIdeal.nD Cert.AdamInLowRefIdeal.τ).loc Cert.AdamInLowRefIdeal.main_arg5) = m' ((c.tc : Thread Cert.AdamInLowRefIdeal.nD Cert.AdamInLowRefIdeal.τ).loc Cert.AdamInLowRefIdeal.main_arg5)
          ∧ r.2.mem ((c.tc : Thread Cert.AdamInLowRefIdeal.nD Cert.AdamInLowRefIdeal.τ).loc Cert.AdamInLowRefIdeal.main_arg6) = m' ((c.tc : Thread Cert.AdamInLowRefIdeal.nD Cert.AdamInLowRefIdeal.τ).loc Cert.AdamInLowRefIdeal.main_arg6)
          ∧ r.2.mem ((c.tc : Thread Cert.AdamInLowRefIdeal.nD Cert.AdamInLowRefIdeal.τ).loc Cert.AdamInLowRefIdeal.main_arg7) = m' ((c.tc : Thread Cert.AdamInLowRefIdeal.nD Cert.AdamInLowRefIdeal.τ).loc Cert.AdamInLowRefIdeal.main_arg7)
          ∧ r.2.mem ((c.tc : Thread Cert.AdamInLowRefIdeal.nD Cert.AdamInLowRefIdeal.τ).loc Cert.AdamInLowRefIdeal.main_arg8) = m' ((c.tc : Thread Cert.AdamInLowRefIdeal.nD Cert.AdamInLowRefIdeal.τ).loc Cert.AdamInLowRefIdeal.main_arg8))

def Claim : Prop :=
  ∃ (hKernel : Cert.Kernel.Facts) (hKernelIdeal : Cert.KernelIdeal.Facts) (hDy : Cert.Dy.Facts) (hDyIdeal : Cert.DyIdeal.Facts) (hDyRefIdeal : Cert.DyRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDhn : Cert.Dhn.Facts) (hDhnIdeal : Cert.DhnIdeal.Facts) (hDhnRefIdeal : Cert.DhnRefIdeal.Facts) (hMmU : Cert.MmU.Facts) (hMmUIdeal : Cert.MmUIdeal.Facts) (hMmURefIdeal : Cert.MmURefIdeal.Facts) (hMmOut : Cert.MmOut.Facts) (hMmOutIdeal : Cert.MmOutIdeal.Facts) (hMmOutRefIdeal : Cert.MmOutRefIdeal.Facts) (hDyFirst : Cert.DyFirst.Facts) (hDyFirstIdeal : Cert.DyFirstIdeal.Facts) (hDyFirstRefIdeal : Cert.DyFirstRefIdeal.Facts) (hDwInTop : Cert.DwInTop.Facts) (hDwInTopIdeal : Cert.DwInTopIdeal.Facts) (hDwInTopRefIdeal : Cert.DwInTopRefIdeal.Facts) (hDwInLow : Cert.DwInLow.Facts) (hDwInLowIdeal : Cert.DwInLowIdeal.Facts) (hDwInLowRefIdeal : Cert.DwInLowRefIdeal.Facts) (hAdamSmall : Cert.AdamSmall.Facts) (hAdamSmallIdeal : Cert.AdamSmallIdeal.Facts) (hAdamSmallRefIdeal : Cert.AdamSmallRefIdeal.Facts) (hNorm : Cert.Norm.Facts) (hNormIdeal : Cert.NormIdeal.Facts) (hNormRefIdeal : Cert.NormRefIdeal.Facts) (hSumLate : Cert.SumLate.Facts) (hSumLateIdeal : Cert.SumLateIdeal.Facts) (hSumLateRefIdeal : Cert.SumLateRefIdeal.Facts) (hSumVec : Cert.SumVec.Facts) (hSumVecIdeal : Cert.SumVecIdeal.Facts) (hSumVecRefIdeal : Cert.SumVecRefIdeal.Facts) (hSumMaps : Cert.SumMaps.Facts) (hSumMapsIdeal : Cert.SumMapsIdeal.Facts) (hSumMapsRefIdeal : Cert.SumMapsRefIdeal.Facts) (hNormBwd : Cert.NormBwd.Facts) (hNormBwdIdeal : Cert.NormBwdIdeal.Facts) (hNormBwdRefIdeal : Cert.NormBwdRefIdeal.Facts) (hAdamOutLate : Cert.AdamOutLate.Facts) (hAdamOutLateIdeal : Cert.AdamOutLateIdeal.Facts) (hAdamOutLateRefIdeal : Cert.AdamOutLateRefIdeal.Facts) (hAdamOutEarly : Cert.AdamOutEarly.Facts) (hAdamOutEarlyIdeal : Cert.AdamOutEarlyIdeal.Facts) (hAdamOutEarlyRefIdeal : Cert.AdamOutEarlyRefIdeal.Facts) (hAdamInLate : Cert.AdamInLate.Facts) (hAdamInLateIdeal : Cert.AdamInLateIdeal.Facts) (hAdamInLateRefIdeal : Cert.AdamInLateRefIdeal.Facts) (hAdamInTop : Cert.AdamInTop.Facts) (hAdamInTopIdeal : Cert.AdamInTopIdeal.Facts) (hAdamInTopRefIdeal : Cert.AdamInTopRefIdeal.Facts) (hAdamInLow : Cert.AdamInLow.Facts) (hAdamInLowIdeal : Cert.AdamInLowIdeal.Facts) (hAdamInLowRefIdeal : Cert.AdamInLowRefIdeal.Facts),
    quiescent_Kernel (hKernel := hKernel)
    ∧ quiescent_KernelIdeal (hKernelIdeal := hKernelIdeal)
    ∧ quiescent_Dy (hDy := hDy)
    ∧ quiescent_DyIdeal (hDyIdeal := hDyIdeal)
    ∧ quiescent_DyRefIdeal (hDyRefIdeal := hDyRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dhn (hDhn := hDhn)
    ∧ quiescent_DhnIdeal (hDhnIdeal := hDhnIdeal)
    ∧ quiescent_DhnRefIdeal (hDhnRefIdeal := hDhnRefIdeal)
    ∧ quiescent_MmU (hMmU := hMmU)
    ∧ quiescent_MmUIdeal (hMmUIdeal := hMmUIdeal)
    ∧ quiescent_MmURefIdeal (hMmURefIdeal := hMmURefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_DyFirst (hDyFirst := hDyFirst)
    ∧ quiescent_DyFirstIdeal (hDyFirstIdeal := hDyFirstIdeal)
    ∧ quiescent_DyFirstRefIdeal (hDyFirstRefIdeal := hDyFirstRefIdeal)
    ∧ quiescent_DwInTop (hDwInTop := hDwInTop)
    ∧ quiescent_DwInTopIdeal (hDwInTopIdeal := hDwInTopIdeal)
    ∧ quiescent_DwInTopRefIdeal (hDwInTopRefIdeal := hDwInTopRefIdeal)
    ∧ quiescent_DwInLow (hDwInLow := hDwInLow)
    ∧ quiescent_DwInLowIdeal (hDwInLowIdeal := hDwInLowIdeal)
    ∧ quiescent_DwInLowRefIdeal (hDwInLowRefIdeal := hDwInLowRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Norm (hNorm := hNorm)
    ∧ quiescent_NormIdeal (hNormIdeal := hNormIdeal)
    ∧ quiescent_NormRefIdeal (hNormRefIdeal := hNormRefIdeal)
    ∧ quiescent_SumLate (hSumLate := hSumLate)
    ∧ quiescent_SumLateIdeal (hSumLateIdeal := hSumLateIdeal)
    ∧ quiescent_SumLateRefIdeal (hSumLateRefIdeal := hSumLateRefIdeal)
    ∧ quiescent_SumVec (hSumVec := hSumVec)
    ∧ quiescent_SumVecIdeal (hSumVecIdeal := hSumVecIdeal)
    ∧ quiescent_SumVecRefIdeal (hSumVecRefIdeal := hSumVecRefIdeal)
    ∧ quiescent_SumMaps (hSumMaps := hSumMaps)
    ∧ quiescent_SumMapsIdeal (hSumMapsIdeal := hSumMapsIdeal)
    ∧ quiescent_SumMapsRefIdeal (hSumMapsRefIdeal := hSumMapsRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_AdamOutLate (hAdamOutLate := hAdamOutLate)
    ∧ quiescent_AdamOutLateIdeal (hAdamOutLateIdeal := hAdamOutLateIdeal)
    ∧ quiescent_AdamOutLateRefIdeal (hAdamOutLateRefIdeal := hAdamOutLateRefIdeal)
    ∧ quiescent_AdamOutEarly (hAdamOutEarly := hAdamOutEarly)
    ∧ quiescent_AdamOutEarlyIdeal (hAdamOutEarlyIdeal := hAdamOutEarlyIdeal)
    ∧ quiescent_AdamOutEarlyRefIdeal (hAdamOutEarlyRefIdeal := hAdamOutEarlyRefIdeal)
    ∧ quiescent_AdamInLate (hAdamInLate := hAdamInLate)
    ∧ quiescent_AdamInLateIdeal (hAdamInLateIdeal := hAdamInLateIdeal)
    ∧ quiescent_AdamInLateRefIdeal (hAdamInLateRefIdeal := hAdamInLateRefIdeal)
    ∧ quiescent_AdamInTop (hAdamInTop := hAdamInTop)
    ∧ quiescent_AdamInTopIdeal (hAdamInTopIdeal := hAdamInTopIdeal)
    ∧ quiescent_AdamInTopRefIdeal (hAdamInTopRefIdeal := hAdamInTopRefIdeal)
    ∧ quiescent_AdamInLow (hAdamInLow := hAdamInLow)
    ∧ quiescent_AdamInLowIdeal (hAdamInLowIdeal := hAdamInLowIdeal)
    ∧ quiescent_AdamInLowRefIdeal (hAdamInLowRefIdeal := hAdamInLowRefIdeal)
    ∧ preserves_Kernel_KernelIdeal
    ∧ preserves_Dy_DyIdeal
    ∧ algebraic_DyIdeal_DyRefIdeal (hDyIdeal := hDyIdeal) (hDyRefIdeal := hDyRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_Dhn_DhnIdeal
    ∧ algebraic_DhnIdeal_DhnRefIdeal (hDhnIdeal := hDhnIdeal) (hDhnRefIdeal := hDhnRefIdeal)
    ∧ preserves_MmU_MmUIdeal
    ∧ algebraic_MmUIdeal_MmURefIdeal (hMmUIdeal := hMmUIdeal) (hMmURefIdeal := hMmURefIdeal)
    ∧ preserves_MmOut_MmOutIdeal
    ∧ algebraic_MmOutIdeal_MmOutRefIdeal (hMmOutIdeal := hMmOutIdeal) (hMmOutRefIdeal := hMmOutRefIdeal)
    ∧ preserves_DyFirst_DyFirstIdeal
    ∧ algebraic_DyFirstIdeal_DyFirstRefIdeal (hDyFirstIdeal := hDyFirstIdeal) (hDyFirstRefIdeal := hDyFirstRefIdeal)
    ∧ preserves_DwInTop_DwInTopIdeal
    ∧ algebraic_DwInTopIdeal_DwInTopRefIdeal (hDwInTopIdeal := hDwInTopIdeal) (hDwInTopRefIdeal := hDwInTopRefIdeal)
    ∧ preserves_DwInLow_DwInLowIdeal
    ∧ algebraic_DwInLowIdeal_DwInLowRefIdeal (hDwInLowIdeal := hDwInLowIdeal) (hDwInLowRefIdeal := hDwInLowRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Norm_NormIdeal
    ∧ algebraic_NormIdeal_NormRefIdeal (hNormIdeal := hNormIdeal) (hNormRefIdeal := hNormRefIdeal)
    ∧ preserves_SumLate_SumLateIdeal
    ∧ algebraic_SumLateIdeal_SumLateRefIdeal (hSumLateIdeal := hSumLateIdeal) (hSumLateRefIdeal := hSumLateRefIdeal)
    ∧ preserves_SumVec_SumVecIdeal
    ∧ algebraic_SumVecIdeal_SumVecRefIdeal (hSumVecIdeal := hSumVecIdeal) (hSumVecRefIdeal := hSumVecRefIdeal)
    ∧ preserves_SumMaps_SumMapsIdeal
    ∧ algebraic_SumMapsIdeal_SumMapsRefIdeal (hSumMapsIdeal := hSumMapsIdeal) (hSumMapsRefIdeal := hSumMapsRefIdeal)
    ∧ preserves_NormBwd_NormBwdIdeal
    ∧ algebraic_NormBwdIdeal_NormBwdRefIdeal (hNormBwdIdeal := hNormBwdIdeal) (hNormBwdRefIdeal := hNormBwdRefIdeal)
    ∧ preserves_AdamOutLate_AdamOutLateIdeal
    ∧ algebraic_AdamOutLateIdeal_AdamOutLateRefIdeal (hAdamOutLateIdeal := hAdamOutLateIdeal) (hAdamOutLateRefIdeal := hAdamOutLateRefIdeal)
    ∧ preserves_AdamOutEarly_AdamOutEarlyIdeal
    ∧ algebraic_AdamOutEarlyIdeal_AdamOutEarlyRefIdeal (hAdamOutEarlyIdeal := hAdamOutEarlyIdeal) (hAdamOutEarlyRefIdeal := hAdamOutEarlyRefIdeal)
    ∧ preserves_AdamInLate_AdamInLateIdeal
    ∧ algebraic_AdamInLateIdeal_AdamInLateRefIdeal (hAdamInLateIdeal := hAdamInLateIdeal) (hAdamInLateRefIdeal := hAdamInLateRefIdeal)
    ∧ preserves_AdamInTop_AdamInTopIdeal
    ∧ algebraic_AdamInTopIdeal_AdamInTopRefIdeal (hAdamInTopIdeal := hAdamInTopIdeal) (hAdamInTopRefIdeal := hAdamInTopRefIdeal)
    ∧ preserves_AdamInLow_AdamInLowIdeal
    ∧ algebraic_AdamInLowIdeal_AdamInLowRefIdeal (hAdamInLowIdeal := hAdamInLowIdeal) (hAdamInLowRefIdeal := hAdamInLowRefIdeal)
-- ==== Kernel.lean ====
abbrev S4224x6144 : Shape := ⟨2, ![4224, 6144]⟩
abbrev S4224x2048 : Shape := ⟨2, ![4224, 2048]⟩
abbrev S4x1024 : Shape := ⟨2, ![4, 1024]⟩
abbrev S8x128x128 : Shape := ⟨3, ![8, 128, 128]⟩
abbrev S1x1024 : Shape := ⟨2, ![1, 1024]⟩
abbrev S3x1024 : Shape := ⟨2, ![3, 1024]⟩
abbrev S16x1024 : Shape := ⟨2, ![16, 1024]⟩
abbrev S384x6144 : Shape := ⟨2, ![384, 6144]⟩
abbrev S8x6144 : Shape := ⟨2, ![8, 6144]⟩
abbrev S384x2048 : Shape := ⟨2, ![384, 2048]⟩
abbrev S8x2048 : Shape := ⟨2, ![8, 2048]⟩
abbrev S8x1024 : Shape := ⟨2, ![8, 1024]⟩
abbrev S128x1024 : Shape := ⟨2, ![128, 1024]⟩
abbrev S128x128 : Shape := ⟨2, ![128, 128]⟩
abbrev S1x128 : Shape := ⟨2, ![1, 128]⟩
abbrev S1x128x128 : Shape := ⟨3, ![1, 128, 128]⟩
abbrev S8x128 : Shape := ⟨2, ![8, 128]⟩
abbrev S136x128 : Shape := ⟨2, ![136, 128]⟩
abbrev S1x16x128 : Shape := ⟨3, ![1, 16, 128]⟩
abbrev S16x128 : Shape := ⟨2, ![16, 128]⟩
abbrev S24x128 : Shape := ⟨2, ![24, 128]⟩
abbrev S128 : Shape := ⟨1, ![128]⟩

abbrev nBuf : Space → Nat
  | .hbm => 14
  | .vmem => 32
  | .smem => 0
  | _ => 0

abbrev bufTy : (tb : Table) → Fin (tcTables nBuf tb) → BufTy
  | .hbm, ⟨0, _⟩ => ⟨S4224x6144, .f32⟩
  | .hbm, ⟨1, _⟩ => ⟨S4224x2048, .f32⟩
  | .hbm, ⟨2, _⟩ => ⟨S4224x2048, .f32⟩
  | .hbm, ⟨3, _⟩ => ⟨S4x1024, .f32⟩
  | .hbm, ⟨4, _⟩ => ⟨S8x128x128, .bf16⟩
  | .hbm, ⟨5, _⟩ => ⟨S1x1024, .f32⟩
  | .hbm, ⟨6, _⟩ => ⟨S8x128x128, .bf16⟩
  | .hbm, ⟨7, _⟩ => ⟨S1x1024, .f32⟩
  | .hbm, ⟨8, _⟩ => ⟨S1x1024, .f32⟩
  | .hbm, ⟨9, _⟩ => ⟨S3x1024, .f32⟩
  | .hbm, ⟨10, _⟩ => ⟨S4224x6144, .bf16⟩
  | .hbm, ⟨11, _⟩ => ⟨S16x1024, .f32⟩
  | .hbm, ⟨12, _⟩ => ⟨S8x128x128, .f32⟩
  | .hbm, ⟨13, _⟩ => ⟨S8x128x128, .f32⟩
  | .local _ .vmem, ⟨0, _⟩ => ⟨S384x6144, .f32⟩
  | .local _ .vmem, ⟨1, _⟩ => ⟨S384x6144, .f32⟩
  | .local _ .vmem, ⟨2, _⟩ => ⟨S8x6144, .f32⟩
  | .local _ .vmem, ⟨3, _⟩ => ⟨S8x6144, .f32⟩
  | .local _ .vmem, ⟨4, _⟩ => ⟨S384x2048, .f32⟩
  | .local _ .vmem, ⟨5, _⟩ => ⟨S384x2048, .f32⟩
  | .local _ .vmem, ⟨6, _⟩ => ⟨S8x2048, .f32⟩
  | .local _ .vmem, ⟨7, _⟩ => ⟨S8x2048, .f32⟩
  | .local _ .vmem, ⟨8, _⟩ => ⟨S384x2048, .f32⟩
  | .local _ .vmem, ⟨9, _⟩ => ⟨S384x2048, .f32⟩
  | .local _ .vmem, ⟨10, _⟩ => ⟨S4x1024, .f32⟩
  | .local _ .vmem, ⟨11, _⟩ => ⟨S8x128x128, .bf16⟩
  | .local _ .vmem, ⟨12, _⟩ => ⟨S1x1024, .f32⟩
  | .local _ .vmem, ⟨13, _⟩ => ⟨S8x128x128, .bf16⟩
  | .local _ .vmem, ⟨14, _⟩ => ⟨S1x1024, .f32⟩
  | .local _ .vmem, ⟨15, _⟩ => ⟨S1x1024, .f32⟩
  | .local _ .vmem, ⟨16, _⟩ => ⟨S3x1024, .f32⟩
  | .local _ .vmem, ⟨17, _⟩ => ⟨S384x6144, .bf16⟩
  | .local _ .vmem, ⟨18, _⟩ => ⟨S384x6144, .bf16⟩
  | .local _ .vmem, ⟨19, _⟩ => ⟨S16x1024, .f32⟩
  | .local _ .vmem, ⟨20, _⟩ => ⟨S8x128x128, .f32⟩
  | .local _ .vmem, ⟨21, _⟩ => ⟨S8x128x128, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S8x128x128, .f32⟩
  | .local _ .vmem, ⟨30, _⟩ => ⟨S8x128x128, .f32⟩
  | .local _ .vmem, ⟨31, _⟩ => ⟨S8x128x128, .f32⟩
  | _, _ => ⟨S4224x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c48_i32 : BitVec 32 := 48#32
  let v1 : BitVec 32 := Scalar.muli v0 c48_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c48_i32 : BitVec 32 := 48#32
  let v1 : BitVec 32 := Scalar.muli v0 c48_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S384x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x6144 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Dy.lean ====
abbrev S4224x2048 : Shape := ⟨2, ![4224, 2048]⟩
abbrev S2048x2048 : Shape := ⟨2, ![2048, 2048]⟩
abbrev S1408x2048 : Shape := ⟨2, ![1408, 2048]⟩
abbrev S1024x2048 : Shape := ⟨2, ![1024, 2048]⟩
abbrev S1408x1024 : Shape := ⟨2, ![1408, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .f32⟩
  | .local _ .vmem, ⟨5, _⟩ => ⟨S1408x1024, .f32⟩
  | .local _ .vmem, ⟨6, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S2048x2048, .f32⟩
  | .hbm, ⟨4, _⟩ => ⟨S_, .f32⟩
  | .hbm, ⟨5, _⟩ => ⟨S4224x2048, .f32⟩
  | .hbm, ⟨6, _⟩ => ⟨S4224x2048, .f32⟩
  | .hbm, ⟨7, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S4224x2048 : Shape := ⟨2, ![4224, 2048]⟩
abbrev S2048x2048 : Shape := ⟨2, ![2048, 2048]⟩
abbrev S4224x1024 : Shape := ⟨2, ![4224, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4224x2048, .f32⟩
  | .hbm, ⟨3, _⟩ => ⟨S4224x2048, .f32⟩
  | .hbm, ⟨4, _⟩ => ⟨S_, .f32⟩
  | .hbm, ⟨5, _⟩ => ⟨S2048x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S4224x2048 : Shape := ⟨2, ![4224, 2048]⟩
abbrev S4224x6144 : Shape := ⟨2, ![4224, 6144]⟩
abbrev S2048x6144 : Shape := ⟨2, ![2048, 6144]⟩
abbrev S4224x512 : Shape := ⟨2, ![4224, 512]⟩
abbrev S4224x1536 : Shape := ⟨2, ![4224, 1536]⟩
abbrev S512x1536 : Shape := ⟨2, ![512, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S2048x6144, .bf16⟩
  | .local _ .vmem, ⟨0, _⟩ => ⟨S4224x512, .bf16⟩
  | .local _ .vmem, ⟨1, _⟩ => ⟨S4224x512, .bf16⟩
  | .local _ .vmem, ⟨2, _⟩ => ⟨S4224x1536, .bf16⟩
  | .local _ .vmem, ⟨3, _⟩ => ⟨S4224x1536, .bf16⟩
  | .local _ .vmem, ⟨4, _⟩ => ⟨S512x1536, .bf16⟩
  | .local _ .vmem, ⟨5, _⟩ => ⟨S512x1536, .bf16⟩
  | .local _ .vmem, ⟨6, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4224x2048 : Shape := ⟨2, ![4224, 2048]⟩
abbrev S4224x6144 : Shape := ⟨2, ![4224, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S4224x2048, .f32⟩
  | .hbm, ⟨3, _⟩ => ⟨S4224x6144, .f32⟩
  | .hbm, ⟨4, _⟩ => ⟨S_, .f32⟩
  | .hbm, ⟨5, _⟩ => ⟨S2048x6144, .f32⟩
  | .hbm, ⟨6, _⟩ => ⟨S4224x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhn.lean ====
abbrev S4224x6144 : Shape := ⟨2, ![4224, 6144]⟩
abbrev S2048x6144 : Shape := ⟨2, ![2048, 6144]⟩
abbrev S8x128 : Shape := ⟨2, ![8, 128]⟩
abbrev S4224x2048 : Shape := ⟨2, ![4224, 2048]⟩
abbrev S528x6144 : Shape := ⟨2, ![528, 6144]⟩
abbrev S1024x6144 : Shape := ⟨2, ![1024, 6144]⟩
abbrev S528x1024 : Shape := ⟨2, ![528, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x6144, .bf16⟩
  | .hbm, ⟨1, _⟩ => ⟨S2048x6144, .bf16⟩
  | .hbm, ⟨2, _⟩ => ⟨S8x128, .f32⟩
  | .hbm, ⟨3, _⟩ => ⟨S4224x2048, .f32⟩
  | .local _ .vmem, ⟨0, _⟩ => ⟨S528x6144, .bf16⟩
  | .local _ .vmem, ⟨1, _⟩ => ⟨S528x6144, .bf16⟩
  | .local _ .vmem, ⟨2, _⟩ => ⟨S1024x6144, .bf16⟩
  | .local _ .vmem, ⟨3, _⟩ => ⟨S1024x6144, .bf16⟩
  | .local _ .vmem, ⟨4, _⟩ => ⟨S8x128, .f32⟩
  | .local _ .vmem, ⟨5, _⟩ => ⟨S528x1024, .f32⟩
  | .local _ .vmem, ⟨6, _⟩ => ⟨S528x1024, .f32⟩
  | .local _ .vmem, ⟨7, _⟩ => ⟨S8x128, .f32⟩
  | _, _ => ⟨S4224x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S528x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhnRefIdeal.lean ====
abbrev S4224x6144 : Shape := ⟨2, ![4224, 6144]⟩
abbrev S2048x6144 : Shape := ⟨2, ![2048, 6144]⟩
abbrev S8x128 : Shape := ⟨2, ![8, 128]⟩
abbrev S_ : Shape := ⟨0, ![]⟩
abbrev S4224x2048 : Shape := ⟨2, ![4224, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x6144, .bf16⟩
  | .hbm, ⟨1, _⟩ => ⟨S2048x6144, .bf16⟩
  | .hbm, ⟨2, _⟩ => ⟨S8x128, .f32⟩
  | .hbm, ⟨3, _⟩ => ⟨S4224x6144, .f32⟩
  | .hbm, ⟨4, _⟩ => ⟨S2048x6144, .f32⟩
  | .hbm, ⟨5, _⟩ => ⟨S_, .f32⟩
  | .hbm, ⟨6, _⟩ => ⟨S4224x2048, .f32⟩
  | .hbm, ⟨7, _⟩ => ⟨S4224x6144, .f32⟩
  | .hbm, ⟨8, _⟩ => ⟨S4224x2048, .f32⟩
  | _, _ => ⟨S4224x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MmU.lean ====
abbrev S4224x2048 : Shape := ⟨2, ![4224, 2048]⟩
abbrev S2048x6144 : Shape := ⟨2, ![2048, 6144]⟩
abbrev S4224x6144 : Shape := ⟨2, ![4224, 6144]⟩
abbrev S1408x2048 : Shape := ⟨2, ![1408, 2048]⟩
abbrev S2048x1536 : Shape := ⟨2, ![2048, 1536]⟩
abbrev S1408x1536 : Shape := ⟨2, ![1408, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x6144, .bf16⟩
  | .hbm, ⟨2, _⟩ => ⟨S4224x6144, .f32⟩
  | .local _ .vmem, ⟨0, _⟩ => ⟨S1408x2048, .bf16⟩
  | .local _ .vmem, ⟨1, _⟩ => ⟨S1408x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1408x1536, .f32⟩
  | .local _ .vmem, ⟨5, _⟩ => ⟨S1408x1536, .f32⟩
  | .local _ .vmem, ⟨6, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmURefIdeal.lean ====
abbrev S4224x2048 : Shape := ⟨2, ![4224, 2048]⟩
abbrev S2048x6144 : Shape := ⟨2, ![2048, 6144]⟩
abbrev S4224x6144 : Shape := ⟨2, ![4224, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x6144, .bf16⟩
  | .hbm, ⟨2, _⟩ => ⟨S4224x2048, .f32⟩
  | .hbm, ⟨3, _⟩ => ⟨S2048x6144, .f32⟩
  | .hbm, ⟨4, _⟩ => ⟨S4224x6144, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmOut.lean ====
abbrev S4224x2048 : Shape := ⟨2, ![4224, 2048]⟩
abbrev S2048x2048 : Shape := ⟨2, ![2048, 2048]⟩
abbrev S1408x2048 : Shape := ⟨2, ![1408, 2048]⟩
abbrev S2048x512 : Shape := ⟨2, ![2048, 512]⟩
abbrev S1408x512 : Shape := ⟨2, ![1408, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmOutRefIdeal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DyFirst.lean ====
abbrev S4224x2048 : Shape := ⟨2, ![4224, 2048]⟩
abbrev S2048x2048 : Shape := ⟨2, ![2048, 2048]⟩
abbrev S8x128 : Shape := ⟨2, ![8, 128]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S8x128, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1408x1024, .f32⟩
  | .local _ .vmem, ⟨6, _⟩ => ⟨S1408x1024, .f32⟩
  | .local _ .vmem, ⟨7, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DyFirstRefIdeal.lean ====
abbrev S4224x2048 : Shape := ⟨2, ![4224, 2048]⟩
abbrev S2048x2048 : Shape := ⟨2, ![2048, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S8x128, .f32⟩
  | .hbm, ⟨3, _⟩ => ⟨S4224x2048, .f32⟩
  | .hbm, ⟨4, _⟩ => ⟨S2048x2048, .f32⟩
  | .hbm, ⟨5, _⟩ => ⟨S_, .f32⟩
  | .hbm, ⟨6, _⟩ => ⟨S4224x2048, .f32⟩
  | .hbm, ⟨7, _⟩ => ⟨S4224x2048, .f32⟩
  | .hbm, ⟨8, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DwInTop.lean ====
abbrev S4224x2048 : Shape := ⟨2, ![4224, 2048]⟩
abbrev S4224x6144 : Shape := ⟨2, ![4224, 6144]⟩
abbrev S8x128 : Shape := ⟨2, ![8, 128]⟩
abbrev S1024x6144 : Shape := ⟨2, ![1024, 6144]⟩
abbrev S4224x512 : Shape := ⟨2, ![4224, 512]⟩
abbrev S4224x1536 : Shape := ⟨2, ![4224, 1536]⟩
abbrev S512x1536 : Shape := ⟨2, ![512, 1536]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S8x128, .f32⟩
  | .hbm, ⟨3, _⟩ => ⟨S1024x6144, .bf16⟩
  | .local _ .vmem, ⟨0, _⟩ => ⟨S4224x512, .bf16⟩
  | .local _ .vmem, ⟨1, _⟩ => ⟨S4224x512, .bf16⟩
  | .local _ .vmem, ⟨2, _⟩ => ⟨S4224x1536, .bf16⟩
  | .local _ .vmem, ⟨3, _⟩ => ⟨S4224x1536, .bf16⟩
  | .local _ .vmem, ⟨4, _⟩ => ⟨S8x128, .f32⟩
  | .local _ .vmem, ⟨5, _⟩ => ⟨S512x1536, .bf16⟩
  | .local _ .vmem, ⟨6, _⟩ => ⟨S512x1536, .bf16⟩
  | .local _ .vmem, ⟨7, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwInTopRefIdeal.lean ====
abbrev S4224x2048 : Shape := ⟨2, ![4224, 2048]⟩
abbrev S4224x6144 : Shape := ⟨2, ![4224, 6144]⟩
abbrev S8x128 : Shape := ⟨2, ![8, 128]⟩
abbrev S_ : Shape := ⟨0, ![]⟩
abbrev S2048x6144 : Shape := ⟨2, ![2048, 6144]⟩
abbrev S6144x2048 : Shape := ⟨2, ![6144, 2048]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S8x128, .f32⟩
  | .hbm, ⟨3, _⟩ => ⟨S4224x2048, .f32⟩
  | .hbm, ⟨4, _⟩ => ⟨S4224x6144, .f32⟩
  | .hbm, ⟨5, _⟩ => ⟨S_, .f32⟩
  | .hbm, ⟨6, _⟩ => ⟨S2048x6144, .f32⟩
  | .hbm, ⟨7, _⟩ => ⟨S4224x6144, .f32⟩
  | .hbm, ⟨8, _⟩ => ⟨S6144x2048, .f32⟩
  | .hbm, ⟨9, _⟩ => ⟨S2048x6144, .f32⟩
  | .hbm, ⟨10, _⟩ => ⟨S2048x6144, .bf16⟩
  | .hbm, ⟨11, _⟩ => ⟨S1024x6144, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DwInLow.lean ====
abbrev S4224x2048 : Shape := ⟨2, ![4224, 2048]⟩
abbrev S4224x6144 : Shape := ⟨2, ![4224, 6144]⟩
abbrev S8x128 : Shape := ⟨2, ![8, 128]⟩
abbrev S1024x6144 : Shape := ⟨2, ![1024, 6144]⟩
abbrev S4224x512 : Shape := ⟨2, ![4224, 512]⟩
abbrev S4224x1536 : Shape := ⟨2, ![4224, 1536]⟩
abbrev S512x1536 : Shape := ⟨2, ![512, 1536]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S8x128, .f32⟩
  | .hbm, ⟨3, _⟩ => ⟨S1024x6144, .bf16⟩
  | .local _ .vmem, ⟨0, _⟩ => ⟨S4224x512, .bf16⟩
  | .local _ .vmem, ⟨1, _⟩ => ⟨S4224x512, .bf16⟩
  | .local _ .vmem, ⟨2, _⟩ => ⟨S4224x1536, .bf16⟩
  | .local _ .vmem, ⟨3, _⟩ => ⟨S4224x1536, .bf16⟩
  | .local _ .vmem, ⟨4, _⟩ => ⟨S8x128, .f32⟩
  | .local _ .vmem, ⟨5, _⟩ => ⟨S512x1536, .bf16⟩
  | .local _ .vmem, ⟨6, _⟩ => ⟨S512x1536, .bf16⟩
  | .local _ .vmem, ⟨7, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwInLowRefIdeal.lean ====
abbrev S4224x2048 : Shape := ⟨2, ![4224, 2048]⟩
abbrev S4224x6144 : Shape := ⟨2, ![4224, 6144]⟩
abbrev S8x128 : Shape := ⟨2, ![8, 128]⟩
abbrev S_ : Shape := ⟨0, ![]⟩
abbrev S2048x6144 : Shape := ⟨2, ![2048, 6144]⟩
abbrev S6144x2048 : Shape := ⟨2, ![6144, 2048]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S8x128, .f32⟩
  | .hbm, ⟨3, _⟩ => ⟨S4224x2048, .f32⟩
  | .hbm, ⟨4, _⟩ => ⟨S4224x6144, .f32⟩
  | .hbm, ⟨5, _⟩ => ⟨S_, .f32⟩
  | .hbm, ⟨6, _⟩ => ⟨S2048x6144, .f32⟩
  | .hbm, ⟨7, _⟩ => ⟨S4224x6144, .f32⟩
  | .hbm, ⟨8, _⟩ => ⟨S6144x2048, .f32⟩
  | .hbm, ⟨9, _⟩ => ⟨S2048x6144, .f32⟩
  | .hbm, ⟨10, _⟩ => ⟨S2048x6144, .bf16⟩
  | .hbm, ⟨11, _⟩ => ⟨S1024x6144, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AdamSmall.lean ====
abbrev S2x2048 : Shape := ⟨2, ![2, 2048]⟩
abbrev S2x1024 : Shape := ⟨2, ![2, 1024]⟩
abbrev S2x16x64x64 : Shape := ⟨4, ![2, 16, 64, 64]⟩
abbrev S2048 : Shape := ⟨1, ![2048]⟩
abbrev S16x256 : Shape := ⟨2, ![16, 256]⟩
abbrev S2x4x128 : Shape := ⟨3, ![2, 4, 128]⟩
abbrev S2x3x128 : Shape := ⟨3, ![2, 3, 128]⟩
abbrev S4096 : Shape := ⟨1, ![4096]⟩
abbrev S131072 : Shape := ⟨1, ![131072]⟩
abbrev S1024 : Shape := ⟨1, ![1024]⟩
abbrev S768 : Shape := ⟨1, ![768]⟩
abbrev S282368 : Shape := ⟨1, ![282368]⟩
abbrev S_ : Shape := ⟨0, ![]⟩
abbrev S282624 : Shape := ⟨1, ![282624]⟩
abbrev S2208x128 : Shape := ⟨2, ![2208, 128]⟩
abbrev S368x128 : Shape := ⟨2, ![368, 128]⟩

abbrev nBuf : Space → Nat
  | .hbm => 108
  | .vmem => 16
  | .smem => 0
  | _ => 0

abbrev bufTy : (tb : Table) → Fin (tcTables nBuf tb) → BufTy
  | .hbm, ⟨0, _⟩ => ⟨S2x2048, .f32⟩
  | .hbm, ⟨1, _⟩ => ⟨S2x1024, .f32⟩
  | .hbm, ⟨2, _⟩ => ⟨S2x16x64x64, .f32⟩
  | .hbm, ⟨3, _⟩ => ⟨S2x1024, .f32⟩
  | .hbm, ⟨4, _⟩ => ⟨S2x16x64x64, .f32⟩
  | .hbm, ⟨5, _⟩ => ⟨S2x1024, .f32⟩
  | .hbm, ⟨6, _⟩ => ⟨S2x1024, .f32⟩
  | .hbm, ⟨7, _⟩ => ⟨S2048, .f32⟩
  | .hbm, ⟨8, _⟩ => ⟨S16x256, .f32⟩
  | .hbm, ⟨9, _⟩ => ⟨S2x4x128, .f32⟩
  | .hbm, ⟨10, _⟩ => ⟨S2x3x128, .f32⟩
  | .hbm, ⟨11, _⟩ => ⟨S2x2048, .f32⟩
  | .hbm, ⟨12, _⟩ => ⟨S2x1024, .f32⟩
  | .hbm, ⟨13, _⟩ => ⟨S2x16x64x64, .f32⟩
  | .hbm, ⟨14, _⟩ => ⟨S2x1024, .f32⟩
  | .hbm, ⟨15, _⟩ => ⟨S2x16x64x64, .f32⟩
  | .hbm, ⟨16, _⟩ => ⟨S2x1024, .f32⟩
  | .hbm, ⟨17, _⟩ => ⟨S2x1024, .f32⟩
  | .hbm, ⟨18, _⟩ => ⟨S2048, .f32⟩
  | .hbm, ⟨19, _⟩ => ⟨S16x256, .f32⟩
  | .hbm, ⟨20, _⟩ => ⟨S2x4x128, .f32⟩
  | .hbm, ⟨21, _⟩ => ⟨S2x3x128, .f32⟩
  | .hbm, ⟨22, _⟩ => ⟨S2x2048, .f32⟩
  | .hbm, ⟨23, _⟩ => ⟨S2x1024, .f32⟩
  | .hbm, ⟨24, _⟩ => ⟨S2x16x64x64, .f32⟩
  | .hbm, ⟨25, _⟩ => ⟨S2x1024, .f32⟩
  | .hbm, ⟨26, _⟩ => ⟨S2x16x64x64, .f32⟩
  | .hbm, ⟨27, _⟩ => ⟨S2x1024, .f32⟩
  | .hbm, ⟨28, _⟩ => ⟨S2x1024, .f32⟩
  | .hbm, ⟨29, _⟩ => ⟨S2048, .f32⟩
  | .hbm, ⟨30, _⟩ => ⟨S16x256, .f32⟩
  | .hbm, ⟨31, _⟩ => ⟨S2x4x128, .f32⟩
  | .hbm, ⟨32, _⟩ => ⟨S2x3x128, .f32⟩
  | .hbm, ⟨33, _⟩ => ⟨S2x2048, .f32⟩
  | .hbm, ⟨34, _⟩ => ⟨S2x1024, .f32⟩
  | .hbm, ⟨35, _⟩ => ⟨S2x16x64x64, .f32⟩
  | .hbm, ⟨36, _⟩ => ⟨S2x1024, .f32⟩
  | .hbm, ⟨37, _⟩ => ⟨S2x16x64x64, .f32⟩
  | .hbm, ⟨38, _⟩ => ⟨S2x1024, .f32⟩
  | .hbm, ⟨39, _⟩ => ⟨S2x1024, .f32⟩
  | .hbm, ⟨40, _⟩ => ⟨S2048, .f32⟩
  | .hbm, ⟨41, _⟩ => ⟨S16x256, .f32⟩
  | .hbm, ⟨42, _⟩ => ⟨S2x4x128, .f32⟩
  | .hbm, ⟨43, _⟩ => ⟨S2x3x128, .f32⟩
  | .hbm, ⟨44, _⟩ => ⟨S4096, .f32⟩
  | .hbm, ⟨45, _⟩ => ⟨S2048, .f32⟩
  | .hbm, ⟨46, _⟩ => ⟨S131072, .f32⟩
  | .hbm, ⟨47, _⟩ => ⟨S2048, .f32⟩
  | .hbm, ⟨48, _⟩ => ⟨S131072, .f32⟩
  | .hbm, ⟨49, _⟩ => ⟨S2048, .f32⟩
  | .hbm, ⟨50, _⟩ => ⟨S2048, .f32⟩
  | .hbm, ⟨51, _⟩ => ⟨S4096, .f32⟩
  | .hbm, ⟨52, _⟩ => ⟨S1024, .f32⟩
  | .hbm, ⟨53, _⟩ => ⟨S768, .f32⟩
  | .hbm, ⟨54, _⟩ => ⟨S282368, .f32⟩
  | .hbm, ⟨55, _⟩ => ⟨S_, .i32⟩
  | .hbm, ⟨56, _⟩ => ⟨S_, .f32⟩
  | .hbm, ⟨57, _⟩ => ⟨S282624, .f32⟩
  | .hbm, ⟨58, _⟩ => ⟨S2208x128, .f32⟩
  | .hbm, ⟨59, _⟩ => ⟨S4096, .f32⟩
  | .hbm, ⟨60, _⟩ => ⟨S2048, .f32⟩
  | .hbm, ⟨61, _⟩ => ⟨S131072, .f32⟩
  | .hbm, ⟨62, _⟩ => ⟨S2048, .f32⟩
  | .hbm, ⟨63, _⟩ => ⟨S131072, .f32⟩
  | .hbm, ⟨64, _⟩ => ⟨S2048, .f32⟩
  | .hbm, ⟨65, _⟩ => ⟨S2048, .f32⟩
  | .hbm, ⟨66, _⟩ => ⟨S4096, .f32⟩
  | .hbm, ⟨67, _⟩ => ⟨S1024, .f32⟩
  | .hbm, ⟨68, _⟩ => ⟨S768, .f32⟩
  | .hbm, ⟨69, _⟩ => ⟨S282368, .f32⟩
  | .hbm, ⟨70, _⟩ => ⟨S_, .i32⟩
  | .hbm, ⟨71, _⟩ => ⟨S_, .f32⟩
  | .hbm, ⟨72, _⟩ => ⟨S282624, .f32⟩
  | .hbm, ⟨73, _⟩ => ⟨S2208x128, .f32⟩
  | .hbm, ⟨74, _⟩ => ⟨S4096, .f32⟩
  | .hbm, ⟨75, _⟩ => ⟨S2048, .f32⟩
  | .hbm, ⟨76, _⟩ => ⟨S131072, .f32⟩
  | .hbm, ⟨77, _⟩ => ⟨S2048, .f32⟩
  | .hbm, ⟨78, _⟩ => ⟨S131072, .f32⟩
  | .hbm, ⟨79, _⟩ => ⟨S2048, .f32⟩
  | .hbm, ⟨80, _⟩ => ⟨S2048, .f32⟩
  | .hbm, ⟨81, _⟩ => ⟨S4096, .f32⟩
  | .hbm, ⟨82, _⟩ => ⟨S1024, .f32⟩
  | .hbm, ⟨83, _⟩ => ⟨S768, .f32⟩
  | .hbm, ⟨84, _⟩ => ⟨S282368, .f32⟩
  | .hbm, ⟨85, _⟩ => ⟨S_, .i32⟩
  | .hbm, ⟨86, _⟩ => ⟨S_, .f32⟩
  | .hbm, ⟨87, _⟩ => ⟨S282624, .f32⟩
  | .hbm, ⟨88, _⟩ => ⟨S2208x128, .f32⟩
  | .hbm, ⟨89, _⟩ => ⟨S4096, .f32⟩
  | .hbm, ⟨90, _⟩ => ⟨S2048, .f32⟩
  | .hbm, ⟨91, _⟩ => ⟨S131072, .f32⟩
  | .hbm, ⟨92, _⟩ => ⟨S2048, .f32⟩
  | .hbm, ⟨93, _⟩ => ⟨S131072, .f32⟩
  | .hbm, ⟨94, _⟩ => ⟨S2048, .f32⟩
  | .hbm, ⟨95, _⟩ => ⟨S2048, .f32⟩
  | .hbm, ⟨96, _⟩ => ⟨S4096, .f32⟩
  | .hbm, ⟨97, _⟩ => ⟨S1024, .f32⟩
  | .hbm, ⟨98, _⟩ => ⟨S768, .f32⟩
  | .hbm, ⟨99, _⟩ => ⟨S282368, .f32⟩
  | .hbm, ⟨100, _⟩ => ⟨S_, .i32⟩
  | .hbm, ⟨101, _⟩ => ⟨S_, .f32⟩
  | .hbm, ⟨102, _⟩ => ⟨S282624, .f32⟩
  | .hbm, ⟨103, _⟩ => ⟨S2208x128, .f32⟩
  | .hbm, ⟨104, _⟩ => ⟨S2208x128, .f32⟩
  | .hbm, ⟨105, _⟩ => ⟨S2208x128, .f32⟩
  | .hbm, ⟨106, _⟩ => ⟨S2208x128, .f32⟩
  | .hbm, ⟨107, _⟩ => ⟨S2208x128, .f32⟩
  | .local _ .vmem, ⟨0, _⟩ => ⟨S368x128, .f32⟩
  | .local _ .vmem, ⟨1, _⟩ => ⟨S368x128, .f32⟩
  | .local _ .vmem, ⟨2, _⟩ => ⟨S368x128, .f32⟩
  | .local _ .vmem, ⟨3, _⟩ => ⟨S368x128, .f32⟩
  | .local _ .vmem, ⟨4, _⟩ => ⟨S368x128, .f32⟩
  | .local _ .vmem, ⟨5, _⟩ => ⟨S368x128, .f32⟩
  | .local _ .vmem, ⟨6, _⟩ => ⟨S368x128, .f32⟩
  | .local _ .vmem, ⟨7, _⟩ => ⟨S368x128, .f32⟩
  | .local _ .vmem, ⟨8, _⟩ => ⟨S368x128, .f32⟩
  | .local _ .vmem, ⟨9, _⟩ => ⟨S368x128, .f32⟩
  | .local _ .vmem, ⟨10, _⟩ => ⟨S368x128, .f32⟩
  | .local _ .vmem, ⟨11, _⟩ => ⟨S368x128, .f32⟩
  | .local _ .vmem, ⟨12, _⟩ => ⟨S368x128, .f32⟩
  | .local _ .vmem, ⟨13, _⟩ => ⟨S368x128, .f32⟩
  | .local _ .vmem, ⟨14, _⟩ => ⟨S368x128, .f32⟩
  | .local _ .vmem, ⟨15, _⟩ => ⟨S368x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_c : Ref sig .tc := ⟨.hbm, 55, rfl⟩
abbrev main_call0_v0 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_0 : Ref sig .tc := ⟨.hbm, 70, rfl⟩
abbrev main_call1_v0 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_1 : Ref sig .tc := ⟨.hbm, 85, rfl⟩
abbrev main_call2_v0 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_2 : Ref sig .tc := ⟨.hbm, 100, rfl⟩
abbrev main_call3_v0 : Ref sig .tc := ⟨.hbm, 101, rfl⟩
abbrev main_v50 : Ref sig .tc := ⟨.hbm, 102, rfl⟩
abbrev main_v51 : Ref sig .tc := ⟨.hbm, 103, rfl⟩
abbrev main_v52_0 : Ref sig .tc := ⟨.hbm, 104, rfl⟩
abbrev main_v52_1 : Ref sig .tc := ⟨.hbm, 105, rfl⟩
abbrev main_v52_2 : Ref sig .tc := ⟨.hbm, 106, rfl⟩
abbrev main_v52_3 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S368x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S368x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S368x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S368x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S368x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S368x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S2x2048 : Shape := ⟨2, ![2, 2048]⟩
abbrev S2x1024 : Shape := ⟨2, ![2, 1024]⟩
abbrev S2x16x64x64 : Shape := ⟨4, ![2, 16, 64, 64]⟩
abbrev S2048 : Shape := ⟨1, ![2048]⟩
abbrev S16x256 : Shape := ⟨2, ![16, 256]⟩
abbrev S2x4x128 : Shape := ⟨3, ![2, 4, 128]⟩
abbrev S2x3x128 : Shape := ⟨3, ![2, 3, 128]⟩
abbrev S_ : Shape := ⟨0, ![]⟩
abbrev S256 : Shape := ⟨1, ![256]⟩
abbrev S4096 : Shape := ⟨1, ![4096]⟩
abbrev S131072 : Shape := ⟨1, ![131072]⟩
abbrev S1024 : Shape := ⟨1, ![1024]⟩
abbrev S768 : Shape := ⟨1, ![768]⟩
abbrev S282624 : Shape := ⟨1, ![282624]⟩
abbrev S2208x128 : Shape := ⟨2, ![2208, 128]⟩

abbrev nBuf : Space → Nat
  | .hbm => 490
  | .vmem => 0
  | .smem => 0
  | _ => 0

abbrev hbmTy0_0 (i : Nat) : BufTy := match i % 128 with
  | 0 => ⟨S2x2048, .f32⟩
  | 1 => ⟨S2x1024, .f32⟩
  | 2 => ⟨S2x16x64x64, .f32⟩
  | 3 => ⟨S2x1024, .f32⟩
  | 4 => ⟨S2x16x64x64, .f32⟩
  | 5 => ⟨S2x1024, .f32⟩
  | 6 => ⟨S2x1024, .f32⟩
  | 7 => ⟨S2048, .f32⟩
  | 8 => ⟨S16x256, .f32⟩
  | 9 => ⟨S2x4x128, .f32⟩
  | 10 => ⟨S2x3x128, .f32⟩
  | 11 => ⟨S2x2048, .f32⟩
  | 12 => ⟨S2x1024, .f32⟩
  | 13 => ⟨S2x16x64x64, .f32⟩
  | 14 => ⟨S2x1024, .f32⟩
  | 15 => ⟨S2x16x64x64, .f32⟩
  | 16 => ⟨S2x1024, .f32⟩
  | 17 => ⟨S2x1024, .f32⟩
  | 18 => ⟨S2048, .f32⟩
  | 19 => ⟨S16x256, .f32⟩
  | 20 => ⟨S2x4x128, .f32⟩
  | 21 => ⟨S2x3x128, .f32⟩
  | 22 => ⟨S2x2048, .f32⟩
  | 23 => ⟨S2x1024, .f32⟩
  | 24 => ⟨S2x16x64x64, .f32⟩
  | 25 => ⟨S2x1024, .f32⟩
  | 26 => ⟨S2x16x64x64, .f32⟩
  | 27 => ⟨S2x1024, .f32⟩
  | 28 => ⟨S2x1024, .f32⟩
  | 29 => ⟨S2048, .f32⟩
  | 30 => ⟨S16x256, .f32⟩
  | 31 => ⟨S2x4x128, .f32⟩
  | 32 => ⟨S2x3x128, .f32⟩
  | 33 => ⟨S2x2048, .f32⟩
  | 34 => ⟨S2x1024, .f32⟩
  | 35 => ⟨S2x16x64x64, .f32⟩
  | 36 => ⟨S2x1024, .f32⟩
  | 37 => ⟨S2x16x64x64, .f32⟩
  | 38 => ⟨S2x1024, .f32⟩
  | 39 => ⟨S2x1024, .f32⟩
  | 40 => ⟨S2048, .f32⟩
  | 41 => ⟨S16x256, .f32⟩
  | 42 => ⟨S2x4x128, .f32⟩
  | 43 => ⟨S2x3x128, .f32⟩
  | 44 => ⟨S_, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S_, .f32⟩
  | 63 => ⟨S2x2048, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S_, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S_, .f32⟩
  | 111 => ⟨S2x16x64x64, .f32⟩
  | 112 => ⟨S2x16x64x64, .f32⟩
  | 113 => ⟨S_, .f32⟩
  | 114 => ⟨S2x16x64x64, .f32⟩
  | 115 => ⟨S2x16x64x64, .f32⟩
  | 116 => ⟨S2x16x64x64, .f32⟩
  | 117 => ⟨S_, .f32⟩
  | 118 => ⟨S2x16x64x64, .f32⟩
  | 119 => ⟨S2x16x64x64, .f32⟩
  | 120 => ⟨S2x16x64x64, .f32⟩
  | 121 => ⟨S_, .f32⟩
  | 122 => ⟨S2x16x64x64, .f32⟩
  | 123 => ⟨S2x16x64x64, .f32⟩
  | 124 => ⟨S2x16x64x64, .f32⟩
  | 125 => ⟨S_, .f32⟩
  | 126 => ⟨S2x16x64x64, .f32⟩
  | 127 => ⟨S2x16x64x64, .f32⟩
  | _ => ⟨S2x2048, .f32⟩

abbrev hbmTy0_1 (i : Nat) : BufTy := match i % 128 with
  | 0 => ⟨S_, .f32⟩
  | 1 => ⟨S2x16x64x64, .f32⟩
  | 2 => ⟨S2x16x64x64, .f32⟩
  | 3 => ⟨S2x16x64x64, .f32⟩
  | 4 => ⟨S_, .f32⟩
  | 5 => ⟨S2x16x64x64, .f32⟩
  | 6 => ⟨S2x16x64x64, .f32⟩
  | 7 => ⟨S2x16x64x64, .f32⟩
  | 8 => ⟨S_, .f32⟩
  | 9 => ⟨S2x16x64x64, .f32⟩
  | 10 => ⟨S2x16x64x64, .f32⟩
  | 11 => ⟨S2x16x64x64, .f32⟩
  | 12 => ⟨S_, .f32⟩
  | 13 => ⟨S2x16x64x64, .f32⟩
  | 14 => ⟨S2x16x64x64, .f32⟩
  | 15 => ⟨S_, .f32⟩
  | 16 => ⟨S2x1024, .f32⟩
  | 17 => ⟨S2x1024, .f32⟩
  | 18 => ⟨S_, .f32⟩
  | 19 => ⟨S2x1024, .f32⟩
  | 20 => ⟨S2x1024, .f32⟩
  | 21 => ⟨S2x1024, .f32⟩
  | 22 => ⟨S_, .f32⟩
  | 23 => ⟨S2x1024, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S_, .f32⟩
  | 34 => ⟨S2x1024, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S_, .f32⟩
  | 49 => ⟨S2x16x64x64, .f32⟩
  | 50 => ⟨S2x16x64x64, .f32⟩
  | 51 => ⟨S_, .f32⟩
  | 52 => ⟨S2x16x64x64, .f32⟩
  | 53 => ⟨S2x16x64x64, .f32⟩
  | 54 => ⟨S2x16x64x64, .f32⟩
  | 55 => ⟨S_, .f32⟩
  | 56 => ⟨S2x16x64x64, .f32⟩
  | 57 => ⟨S2x16x64x64, .f32⟩
  | 58 => ⟨S2x16x64x64, .f32⟩
  | 59 => ⟨S_, .f32⟩
  | 60 => ⟨S2x16x64x64, .f32⟩
  | 61 => ⟨S2x16x64x64, .f32⟩
  | 62 => ⟨S2x16x64x64, .f32⟩
  | 63 => ⟨S_, .f32⟩
  | 64 => ⟨S2x16x64x64, .f32⟩
  | 65 => ⟨S2x16x64x64, .f32⟩
  | 66 => ⟨S_, .f32⟩
  | 67 => ⟨S2x16x64x64, .f32⟩
  | 68 => ⟨S2x16x64x64, .f32⟩
  | 69 => ⟨S2x16x64x64, .f32⟩
  | 70 => ⟨S_, .f32⟩
  | 71 => ⟨S2x16x64x64, .f32⟩
  | 72 => ⟨S2x16x64x64, .f32⟩
  | 73 => ⟨S2x16x64x64, .f32⟩
  | 74 => ⟨S_, .f32⟩
  | 75 => ⟨S2x16x64x64, .f32⟩
  | 76 => ⟨S2x16x64x64, .f32⟩
  | 77 => ⟨S2x16x64x64, .f32⟩
  | 78 => ⟨S_, .f32⟩
  | 79 => ⟨S2x16x64x64, .f32⟩
  | 80 => ⟨S2x16x64x64, .f32⟩
  | 81 => ⟨S_, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S_, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S2x2048, .f32⟩

abbrev hbmTy0_2 (i : Nat) : BufTy := match i % 128 with
  | 0 => ⟨S2x1024, .f32⟩
  | 1 => ⟨S_, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S_, .f32⟩
  | 20 => ⟨S2048, .f32⟩
  | 21 => ⟨S2048, .f32⟩
  | 22 => ⟨S_, .f32⟩
  | 23 => ⟨S2048, .f32⟩
  | 24 => ⟨S2048, .f32⟩
  | 25 => ⟨S2048, .f32⟩
  | 26 => ⟨S_, .f32⟩
  | 27 => ⟨S2048, .f32⟩
  | 28 => ⟨S2048, .f32⟩
  | 29 => ⟨S2048, .f32⟩
  | 30 => ⟨S_, .f32⟩
  | 31 => ⟨S2048, .f32⟩
  | 32 => ⟨S2048, .f32⟩
  | 33 => ⟨S2048, .f32⟩
  | 34 => ⟨S_, .f32⟩
  | 35 => ⟨S2048, .f32⟩
  | 36 => ⟨S2048, .f32⟩
  | 37 => ⟨S_, .f32⟩
  | 38 => ⟨S2048, .f32⟩
  | 39 => ⟨S2048, .f32⟩
  | 40 => ⟨S2048, .f32⟩
  | 41 => ⟨S_, .f32⟩
  | 42 => ⟨S2048, .f32⟩
  | 43 => ⟨S2048, .f32⟩
  | 44 => ⟨S2048, .f32⟩
  | 45 => ⟨S_, .f32⟩
  | 46 => ⟨S2048, .f32⟩
  | 47 => ⟨S2048, .f32⟩
  | 48 => ⟨S2048, .f32⟩
  | 49 => ⟨S_, .f32⟩
  | 50 => ⟨S2048, .f32⟩
  | 51 => ⟨S2048, .f32⟩
  | 52 => ⟨S_, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S16x256, .f32⟩
  | 67 => ⟨S_, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S16x256, .f32⟩
  | 82 => ⟨S_, .f32⟩
  | 83 => ⟨S16x256, .f32⟩
  | 84 => ⟨S16x256, .f32⟩
  | 85 => ⟨S_, .f32⟩
  | 86 => ⟨S2x4x128, .f32⟩
  | 87 => ⟨S2x4x128, .f32⟩
  | 88 => ⟨S_, .f32⟩
  | 89 => ⟨S2x4x128, .f32⟩
  | 90 => ⟨S2x4x128, .f32⟩
  | 91 => ⟨S2x4x128, .f32⟩
  | 92 => ⟨S_, .f32⟩
  | 93 => ⟨S2x4x128, .f32⟩
  | 94 => ⟨S2x4x128, .f32⟩
  | 95 => ⟨S2x4x128, .f32⟩
  | 96 => ⟨S_, .f32⟩
  | 97 => ⟨S2x4x128, .f32⟩
  | 98 => ⟨S2x4x128, .f32⟩
  | 99 => ⟨S2x4x128, .f32⟩
  | 100 => ⟨S_, .f32⟩
  | 101 => ⟨S2x4x128, .f32⟩
  | 102 => ⟨S2x4x128, .f32⟩
  | 103 => ⟨S_, .f32⟩
  | 104 => ⟨S2x4x128, .f32⟩
  | 105 => ⟨S2x4x128, .f32⟩
  | 106 => ⟨S2x4x128, .f32⟩
  | 107 => ⟨S_, .f32⟩
  | 108 => ⟨S2x4x128, .f32⟩
  | 109 => ⟨S2x4x128, .f32⟩
  | 110 => ⟨S2x4x128, .f32⟩
  | 111 => ⟨S_, .f32⟩
  | 112 => ⟨S2x4x128, .f32⟩
  | 113 => ⟨S2x4x128, .f32⟩
  | 114 => ⟨S2x4x128, .f32⟩
  | 115 => ⟨S_, .f32⟩
  | 116 => ⟨S2x4x128, .f32⟩
  | 117 => ⟨S2x4x128, .f32⟩
  | 118 => ⟨S_, .f32⟩
  | 119 => ⟨S2x3x128, .f32⟩
  | 120 => ⟨S2x3x128, .f32⟩
  | 121 => ⟨S_, .f32⟩
  | 122 => ⟨S2x3x128, .f32⟩
  | 123 => ⟨S2x3x128, .f32⟩
  | 124 => ⟨S2x3x128, .f32⟩
  | 125 => ⟨S_, .f32⟩
  | 126 => ⟨S2x3x128, .f32⟩
  | 127 => ⟨S2x3x128, .f32⟩
  | _ => ⟨S2x2048, .f32⟩

abbrev hbmTy0_3 (i : Nat) : BufTy := match i % 128 with
  | 0 => ⟨S2x3x128, .f32⟩
  | 1 => ⟨S_, .f32⟩
  | 2 => ⟨S2x3x128, .f32⟩
  | 3 => ⟨S2x3x128, .f32⟩
  | 4 => ⟨S2x3x128, .f32⟩
  | 5 => ⟨S_, .f32⟩
  | 6 => ⟨S2x3x128, .f32⟩
  | 7 => ⟨S2x3x128, .f32⟩
  | 8 => ⟨S_, .f32⟩
  | 9 => ⟨S2x3x128, .f32⟩
  | 10 => ⟨S2x3x128, .f32⟩
  | 11 => ⟨S2x3x128, .f32⟩
  | 12 => ⟨S_, .f32⟩
  | 13 => ⟨S2x3x128, .f32⟩
  | 14 => ⟨S2x3x128, .f32⟩
  | 15 => ⟨S2x3x128, .f32⟩
  | 16 => ⟨S_, .f32⟩
  | 17 => ⟨S2x3x128, .f32⟩
  | 18 => ⟨S2x3x128, .f32⟩
  | 19 => ⟨S2x3x128, .f32⟩
  | 20 => ⟨S_, .f32⟩
  | 21 => ⟨S2x3x128, .f32⟩
  | 22 => ⟨S2x3x128, .f32⟩
  | 23 => ⟨S_, .f32⟩
  | 24 => ⟨S256, .f32⟩
  | 25 => ⟨S_, .f32⟩
  | 26 => ⟨S256, .f32⟩
  | 27 => ⟨S256, .f32⟩
  | 28 => ⟨S_, .f32⟩
  | 29 => ⟨S256, .f32⟩
  | 30 => ⟨S256, .f32⟩
  | 31 => ⟨S256, .f32⟩
  | 32 => ⟨S_, .f32⟩
  | 33 => ⟨S256, .f32⟩
  | 34 => ⟨S256, .f32⟩
  | 35 => ⟨S256, .f32⟩
  | 36 => ⟨S_, .f32⟩
  | 37 => ⟨S256, .f32⟩
  | 38 => ⟨S256, .f32⟩
  | 39 => ⟨S256, .f32⟩
  | 40 => ⟨S_, .f32⟩
  | 41 => ⟨S256, .f32⟩
  | 42 => ⟨S256, .f32⟩
  | 43 => ⟨S_, .f32⟩
  | 44 => ⟨S256, .f32⟩
  | 45 => ⟨S256, .f32⟩
  | 46 => ⟨S256, .f32⟩
  | 47 => ⟨S_, .f32⟩
  | 48 => ⟨S256, .f32⟩
  | 49 => ⟨S256, .f32⟩
  | 50 => ⟨S256, .f32⟩
  | 51 => ⟨S_, .f32⟩
  | 52 => ⟨S256, .f32⟩
  | 53 => ⟨S256, .f32⟩
  | 54 => ⟨S256, .f32⟩
  | 55 => ⟨S_, .f32⟩
  | 56 => ⟨S256, .f32⟩
  | 57 => ⟨S256, .f32⟩
  | 58 => ⟨S4096, .f32⟩
  | 59 => ⟨S2048, .f32⟩
  | 60 => ⟨S131072, .f32⟩
  | 61 => ⟨S2048, .f32⟩
  | 62 => ⟨S131072, .f32⟩
  | 63 => ⟨S2048, .f32⟩
  | 64 => ⟨S2048, .f32⟩
  | 65 => ⟨S4096, .f32⟩
  | 66 => ⟨S1024, .f32⟩
  | 67 => ⟨S768, .f32⟩
  | 68 => ⟨S282624, .f32⟩
  | 69 => ⟨S2208x128, .f32⟩
  | 70 => ⟨S4096, .f32⟩
  | 71 => ⟨S2048, .f32⟩
  | 72 => ⟨S131072, .f32⟩
  | 73 => ⟨S2048, .f32⟩
  | 74 => ⟨S131072, .f32⟩
  | 75 => ⟨S2048, .f32⟩
  | 76 => ⟨S2048, .f32⟩
  | 77 => ⟨S4096, .f32⟩
  | 78 => ⟨S1024, .f32⟩
  | 79 => ⟨S768, .f32⟩
  | 80 => ⟨S282624, .f32⟩
  | 81 => ⟨S2208x128, .f32⟩
  | 82 => ⟨S4096, .f32⟩
  | 83 => ⟨S2048, .f32⟩
  | 84 => ⟨S131072, .f32⟩
  | 85 => ⟨S2048, .f32⟩
  | 86 => ⟨S131072, .f32⟩
  | 87 => ⟨S2048, .f32⟩
  | 88 => ⟨S2048, .f32⟩
  | 89 => ⟨S4096, .f32⟩
  | 90 => ⟨S1024, .f32⟩
  | 91 => ⟨S768, .f32⟩
  | 92 => ⟨S282624, .f32⟩
  | 93 => ⟨S2208x128, .f32⟩
  | 94 => ⟨S4096, .f32⟩
  | 95 => ⟨S2048, .f32⟩
  | 96 => ⟨S131072, .f32⟩
  | 97 => ⟨S2048, .f32⟩
  | 98 => ⟨S131072, .f32⟩
  | 99 => ⟨S2048, .f32⟩
  | 100 => ⟨S2048, .f32⟩
  | 101 => ⟨S4096, .f32⟩
  | 102 => ⟨S1024, .f32⟩
  | 103 => ⟨S768, .f32⟩
  | 104 => ⟨S282624, .f32⟩
  | 105 => ⟨S2208x128, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_cst_98 : Ref sig .tc := ⟨.hbm, 407, rfl⟩
abbrev main_v264 : Ref sig .tc := ⟨.hbm, 408, rfl⟩
abbrev main_cst_99 : Ref sig .tc := ⟨.hbm, 409, rfl⟩
abbrev main_v265 : Ref sig .tc := ⟨.hbm, 410, rfl⟩
abbrev main_v266 : Ref sig .tc := ⟨.hbm, 411, rfl⟩
abbrev main_cst_100 : Ref sig .tc := ⟨.hbm, 412, rfl⟩
abbrev main_v267 : Ref sig .tc := ⟨.hbm, 413, rfl⟩
abbrev main_v268 : Ref sig .tc := ⟨.hbm, 414, rfl⟩
abbrev main_v269 : Ref sig .tc := ⟨.hbm, 415, rfl⟩
abbrev main_cst_101 : Ref sig .tc := ⟨.hbm, 416, rfl⟩
abbrev main_v270 : Ref sig .tc := ⟨.hbm, 417, rfl⟩
abbrev main_v271 : Ref sig .tc := ⟨.hbm, 418, rfl⟩
abbrev main_v272 : Ref sig .tc := ⟨.hbm, 419, rfl⟩
abbrev main_cst_102 : Ref sig .tc := ⟨.hbm, 420, rfl⟩
abbrev main_v273 : Ref sig .tc := ⟨.hbm, 421, rfl⟩
abbrev main_v274 : Ref sig .tc := ⟨.hbm, 422, rfl⟩
abbrev main_v275 : Ref sig .tc := ⟨.hbm, 423, rfl⟩
abbrev main_cst_103 : Ref sig .tc := ⟨.hbm, 424, rfl⟩
abbrev main_v276 : Ref sig .tc := ⟨.hbm, 425, rfl⟩
abbrev main_v277 : Ref sig .tc := ⟨.hbm, 426, rfl⟩
abbrev main_cst_104 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_cst_105 : Ref sig .tc := ⟨.hbm, 431, rfl⟩
abbrev main_v281 : Ref sig .tc := ⟨.hbm, 432, rfl⟩
abbrev main_v282 : Ref sig .tc := ⟨.hbm, 433, rfl⟩
abbrev main_v283 : Ref sig .tc := ⟨.hbm, 434, rfl⟩
abbrev main_cst_106 : Ref sig .tc := ⟨.hbm, 435, rfl⟩
abbrev main_v284 : Ref sig .tc := ⟨.hbm, 436, rfl⟩
abbrev main_v285 : Ref sig .tc := ⟨.hbm, 437, rfl⟩
abbrev main_v286 : Ref sig .tc := ⟨.hbm, 438, rfl⟩
abbrev main_cst_107 : Ref sig .tc := ⟨.hbm, 439, rfl⟩
abbrev main_v287 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_v294 : Ref sig .tc := ⟨.hbm, 447, rfl⟩
abbrev main_v295 : Ref sig .tc := ⟨.hbm, 448, rfl⟩
abbrev main_v296 : Ref sig .tc := ⟨.hbm, 449, rfl⟩
abbrev main_v297 : Ref sig .tc := ⟨.hbm, 450, rfl⟩
abbrev main_v298 : Ref sig .tc := ⟨.hbm, 451, rfl⟩
abbrev main_v299 : Ref sig .tc := ⟨.hbm, 452, rfl⟩
abbrev main_v300 : Ref sig .tc := ⟨.hbm, 453, rfl⟩
abbrev main_v301 : Ref sig .tc := ⟨.hbm, 454, rfl⟩
abbrev main_v302 : Ref sig .tc := ⟨.hbm, 455, rfl⟩
abbrev main_v303 : Ref sig .tc := ⟨.hbm, 456, rfl⟩
abbrev main_v304 : Ref sig .tc := ⟨.hbm, 457, rfl⟩
abbrev main_v305 : Ref sig .tc := ⟨.hbm, 458, rfl⟩
abbrev main_v306 : Ref sig .tc := ⟨.hbm, 459, rfl⟩
abbrev main_v307 : Ref sig .tc := ⟨.hbm, 460, rfl⟩
abbrev main_v308 : Ref sig .tc := ⟨.hbm, 461, rfl⟩
abbrev main_v309 : Ref sig .tc := ⟨.hbm, 462, rfl⟩
abbrev main_v310 : Ref sig .tc := ⟨.hbm, 463, rfl⟩
abbrev main_v311 : Ref sig .tc := ⟨.hbm, 464, rfl⟩
abbrev main_v312 : Ref sig .tc := ⟨.hbm, 465, rfl⟩
abbrev main_v313 : Ref sig .tc := ⟨.hbm, 466, rfl⟩
abbrev main_v314 : Ref sig .tc := ⟨.hbm, 467, rfl⟩
abbrev main_v315 : Ref sig .tc := ⟨.hbm, 468, rfl⟩
abbrev main_v316 : Ref sig .tc := ⟨.hbm, 469, rfl⟩
abbrev main_v317 : Ref sig .tc := ⟨.hbm, 470, rfl⟩
abbrev main_v318 : Ref sig .tc := ⟨.hbm, 471, rfl⟩
abbrev main_v319 : Ref sig .tc := ⟨.hbm, 472, rfl⟩
abbrev main_v320 : Ref sig .tc := ⟨.hbm, 473, rfl⟩
abbrev main_v321 : Ref sig .tc := ⟨.hbm, 474, rfl⟩
abbrev main_v322 : Ref sig .tc := ⟨.hbm, 475, rfl⟩
abbrev main_v323 : Ref sig .tc := ⟨.hbm, 476, rfl⟩
abbrev main_v324 : Ref sig .tc := ⟨.hbm, 477, rfl⟩
abbrev main_v325 : Ref sig .tc := ⟨.hbm, 478, rfl⟩
abbrev main_v326 : Ref sig .tc := ⟨.hbm, 479, rfl⟩
abbrev main_v327 : Ref sig .tc := ⟨.hbm, 480, rfl⟩
abbrev main_v328 : Ref sig .tc := ⟨.hbm, 481, rfl⟩
abbrev main_v329 : Ref sig .tc := ⟨.hbm, 482, rfl⟩
abbrev main_v330 : Ref sig .tc := ⟨.hbm, 483, rfl⟩
abbrev main_v331 : Ref sig .tc := ⟨.hbm, 484, rfl⟩
abbrev main_v332 : Ref sig .tc := ⟨.hbm, 485, rfl⟩
abbrev main_v333 : Ref sig .tc := ⟨.hbm, 486, rfl⟩
abbrev main_v334 : Ref sig .tc := ⟨.hbm, 487, rfl⟩
abbrev main_v335 : Ref sig .tc := ⟨.hbm, 488, rfl⟩
abbrev main_v336 : Ref sig .tc := ⟨.hbm, 489, rfl⟩

abbrev nD : Nat := 1
abbrev τ : Topo := Topo.v7x

variable {F : FTy → Type} [FloatOps F]
-- ==== Norm.lean ====
abbrev S4224x2048 : Shape := ⟨2, ![4224, 2048]⟩
abbrev S2048 : Shape := ⟨1, ![2048]⟩
abbrev S1x2048 : Shape := ⟨2, ![1, 2048]⟩
abbrev S1408x2048 : Shape := ⟨2, ![1408, 2048]⟩
abbrev S1408 : Shape := ⟨1, ![1408]⟩
abbrev S1408x1 : Shape := ⟨2, ![1408, 1]⟩

abbrev nBuf : Space → Nat
  | .hbm => 4
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S2048, .f32⟩
  | .hbm, ⟨2, _⟩ => ⟨S1x2048, .f32⟩
  | .hbm, ⟨3, _⟩ => ⟨S4224x2048, .bf16⟩
  | .local _ .vmem, ⟨0, _⟩ => ⟨S1408x2048, .f32⟩
  | .local _ .vmem, ⟨1, _⟩ => ⟨S1408x2048, .f32⟩
  | .local _ .vmem, ⟨2, _⟩ => ⟨S1x2048, .f32⟩
  | .local _ .vmem, ⟨3, _⟩ => ⟨S1408x2048, .bf16⟩
  | .local _ .vmem, ⟨4, _⟩ => ⟨S1408x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4224x2048 : Shape := ⟨2, ![4224, 2048]⟩
abbrev S2048 : Shape := ⟨1, ![2048]⟩
abbrev S_ : Shape := ⟨0, ![]⟩
abbrev S4224 : Shape := ⟨1, ![4224]⟩
abbrev S4224x1 : Shape := ⟨2, ![4224, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S1x2048, .f32⟩
  | .hbm, ⟨16, _⟩ => ⟨S4224x2048, .f32⟩
  | .hbm, ⟨17, _⟩ => ⟨S4224x2048, .f32⟩
  | .hbm, ⟨18, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SumLate.lean ====
abbrev S8x288x128 : Shape := ⟨3, ![8, 288, 128]⟩
abbrev S288x128 : Shape := ⟨2, ![288, 128]⟩
abbrev S1x288x128 : Shape := ⟨3, ![1, 288, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x288x128, .f32⟩
  | .hbm, ⟨1, _⟩ => ⟨S288x128, .f32⟩
  | .local _ .vmem, ⟨0, _⟩ => ⟨S8x288x128, .f32⟩
  | .local _ .vmem, ⟨1, _⟩ => ⟨S288x128, .f32⟩
  | _, _ => ⟨S8x288x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumLateRefIdeal.lean ====
abbrev S8x288x128 : Shape := ⟨3, ![8, 288, 128]⟩
abbrev S_ : Shape := ⟨0, ![]⟩
abbrev S288x128 : Shape := ⟨2, ![288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x288x128, .f32⟩
  | .hbm, ⟨1, _⟩ => ⟨S_, .f32⟩
  | .hbm, ⟨2, _⟩ => ⟨S288x128, .f32⟩
  | _, _ => ⟨S8x288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumVec.lean ====
abbrev S8x208x128 : Shape := ⟨3, ![8, 208, 128]⟩
abbrev S208x128 : Shape := ⟨2, ![208, 128]⟩
abbrev S1x208x128 : Shape := ⟨3, ![1, 208, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x208x128, .f32⟩
  | .hbm, ⟨1, _⟩ => ⟨S208x128, .f32⟩
  | .local _ .vmem, ⟨0, _⟩ => ⟨S8x208x128, .f32⟩
  | .local _ .vmem, ⟨1, _⟩ => ⟨S208x128, .f32⟩
  | _, _ => ⟨S8x208x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumVecRefIdeal.lean ====
abbrev S8x208x128 : Shape := ⟨3, ![8, 208, 128]⟩
abbrev S_ : Shape := ⟨0, ![]⟩
abbrev S208x128 : Shape := ⟨2, ![208, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x208x128, .f32⟩
  | .hbm, ⟨1, _⟩ => ⟨S_, .f32⟩
  | .hbm, ⟨2, _⟩ => ⟨S208x128, .f32⟩
  | _, _ => ⟨S8x208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumMaps.lean ====
abbrev S8x2048x128 : Shape := ⟨3, ![8, 2048, 128]⟩
abbrev S2048x128 : Shape := ⟨2, ![2048, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .bf16⟩
  | .hbm, ⟨1, _⟩ => ⟨S2048x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumMapsRefIdeal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x128, .bf16⟩
  | .hbm, ⟨1, _⟩ => ⟨S8x2048x128, .f32⟩
  | .hbm, ⟨2, _⟩ => ⟨S_, .f32⟩
  | .hbm, ⟨3, _⟩ => ⟨S2048x128, .f32⟩
  | _, _ => ⟨S8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormBwd.lean ====
abbrev S4224x2048 : Shape := ⟨2, ![4224, 2048]⟩
abbrev S2048 : Shape := ⟨1, ![2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 8
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S2048, .f32⟩
  | .hbm, ⟨4, _⟩ => ⟨S1x2048, .f32⟩
  | .hbm, ⟨5, _⟩ => ⟨S4224x2048, .f32⟩
  | .hbm, ⟨6, _⟩ => ⟨S4224x2048, .bf16⟩
  | .hbm, ⟨7, _⟩ => ⟨S1x2048, .f32⟩
  | .local _ .vmem, ⟨0, _⟩ => ⟨S528x2048, .f32⟩
  | .local _ .vmem, ⟨1, _⟩ => ⟨S528x2048, .f32⟩
  | .local _ .vmem, ⟨2, _⟩ => ⟨S528x2048, .f32⟩
  | .local _ .vmem, ⟨3, _⟩ => ⟨S528x2048, .f32⟩
  | .local _ .vmem, ⟨4, _⟩ => ⟨S528x2048, .f32⟩
  | .local _ .vmem, ⟨5, _⟩ => ⟨S528x2048, .f32⟩
  | .local _ .vmem, ⟨6, _⟩ => ⟨S1x2048, .f32⟩
  | .local _ .vmem, ⟨7, _⟩ => ⟨S528x2048, .f32⟩
  | .local _ .vmem, ⟨8, _⟩ => ⟨S528x2048, .f32⟩
  | .local _ .vmem, ⟨9, _⟩ => ⟨S528x2048, .bf16⟩
  | .local _ .vmem, ⟨10, _⟩ => ⟨S528x2048, .bf16⟩
  | .local _ .vmem, ⟨11, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4224x2048 : Shape := ⟨2, ![4224, 2048]⟩
abbrev S2048 : Shape := ⟨1, ![2048]⟩
abbrev S_ : Shape := ⟨0, ![]⟩
abbrev S4224 : Shape := ⟨1, ![4224]⟩
abbrev S4224x1 : Shape := ⟨2, ![4224, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S1x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S2048, .f32⟩
  | .hbm, ⟨32, _⟩ => ⟨S4224x2048, .f32⟩
  | .hbm, ⟨33, _⟩ => ⟨S_, .f32⟩
  | .hbm, ⟨34, _⟩ => ⟨S4224, .f32⟩
  | .hbm, ⟨35, _⟩ => ⟨S4224x1, .f32⟩
  | .hbm, ⟨36, _⟩ => ⟨S4224x2048, .f32⟩
  | .hbm, ⟨37, _⟩ => ⟨S4224x2048, .f32⟩
  | .hbm, ⟨38, _⟩ => ⟨S4224x2048, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S4224x2048, .bf16⟩
  | .hbm, ⟨51, _⟩ => ⟨S1x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== AdamOutLate.lean ====
abbrev S2x256x2048 : Shape := ⟨3, ![2, 256, 2048]⟩
abbrev S256x2048 : Shape := ⟨2, ![256, 2048]⟩
abbrev S7x256x2048 : Shape := ⟨3, ![7, 256, 2048]⟩
abbrev S1x256x2048 : Shape := ⟨3, ![1, 256, 2048]⟩

abbrev nBuf : Space → Nat
  | .hbm => 13
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S256x2048, .bf16⟩
  | .hbm, ⟨4, _⟩ => ⟨S7x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x256x2048, .f32⟩
  | .local _ .vmem, ⟨1, _⟩ => ⟨S256x2048, .bf16⟩
  | .local _ .vmem, ⟨2, _⟩ => ⟨S7x256x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_9 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_10 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_11 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_12 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S7x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutLateRefIdeal.lean ====
abbrev S2x256x2048 : Shape := ⟨3, ![2, 256, 2048]⟩
abbrev S256x2048 : Shape := ⟨2, ![256, 2048]⟩
abbrev S7x256x2048 : Shape := ⟨3, ![7, 256, 2048]⟩
abbrev S1x256x2048 : Shape := ⟨3, ![1, 256, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S256x2048, .bf16⟩
  | .hbm, ⟨4, _⟩ => ⟨S7x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S1x256x2048, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S256x2048, .f32⟩
  | .hbm, ⟨16, _⟩ => ⟨S7x256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | .hbm, ⟨53, _⟩ => ⟨S1x256x2048, .f32⟩
  | .hbm, ⟨54, _⟩ => ⟨S256x2048, .f32⟩
  | .hbm, ⟨55, _⟩ => ⟨S1x256x2048, .f32⟩
  | .hbm, ⟨56, _⟩ => ⟨S1x256x2048, .f32⟩
  | .hbm, ⟨57, _⟩ => ⟨S2x256x2048, .f32⟩
  | .hbm, ⟨58, _⟩ => ⟨S1x256x2048, .f32⟩
  | .hbm, ⟨59, _⟩ => ⟨S256x2048, .f32⟩
  | .hbm, ⟨60, _⟩ => ⟨S1x256x2048, .f32⟩
  | .hbm, ⟨61, _⟩ => ⟨S1x256x2048, .f32⟩
  | .hbm, ⟨62, _⟩ => ⟨S2x256x2048, .f32⟩
  | .hbm, ⟨63, _⟩ => ⟨S1x256x2048, .f32⟩
  | .hbm, ⟨64, _⟩ => ⟨S256x2048, .f32⟩
  | .hbm, ⟨65, _⟩ => ⟨S1x256x2048, .f32⟩
  | .hbm, ⟨66, _⟩ => ⟨S1x256x2048, .f32⟩
  | .hbm, ⟨67, _⟩ => ⟨S2x256x2048, .f32⟩
  | .hbm, ⟨68, _⟩ => ⟨S1x256x2048, .f32⟩
  | .hbm, ⟨69, _⟩ => ⟨S256x2048, .f32⟩
  | .hbm, ⟨70, _⟩ => ⟨S1x256x2048, .f32⟩
  | .hbm, ⟨71, _⟩ => ⟨S1x256x2048, .f32⟩
  | .hbm, ⟨72, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== AdamOutEarly.lean ====
abbrev S2x256x2048 : Shape := ⟨3, ![2, 256, 2048]⟩
abbrev S256x2048 : Shape := ⟨2, ![256, 2048]⟩
abbrev S7x256x2048 : Shape := ⟨3, ![7, 256, 2048]⟩
abbrev S1x256x2048 : Shape := ⟨3, ![1, 256, 2048]⟩

abbrev nBuf : Space → Nat
  | .hbm => 13
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S256x2048, .bf16⟩
  | .hbm, ⟨4, _⟩ => ⟨S7x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x256x2048, .f32⟩
  | .local _ .vmem, ⟨1, _⟩ => ⟨S256x2048, .bf16⟩
  | .local _ .vmem, ⟨2, _⟩ => ⟨S7x256x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_9 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_10 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_11 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_12 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S7x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutEarlyRefIdeal.lean ====
abbrev S2x256x2048 : Shape := ⟨3, ![2, 256, 2048]⟩
abbrev S256x2048 : Shape := ⟨2, ![256, 2048]⟩
abbrev S7x256x2048 : Shape := ⟨3, ![7, 256, 2048]⟩
abbrev S1x256x2048 : Shape := ⟨3, ![1, 256, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S256x2048, .bf16⟩
  | .hbm, ⟨4, _⟩ => ⟨S7x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S1x256x2048, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S256x2048, .f32⟩
  | .hbm, ⟨16, _⟩ => ⟨S7x256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | .hbm, ⟨53, _⟩ => ⟨S1x256x2048, .f32⟩
  | .hbm, ⟨54, _⟩ => ⟨S256x2048, .f32⟩
  | .hbm, ⟨55, _⟩ => ⟨S1x256x2048, .f32⟩
  | .hbm, ⟨56, _⟩ => ⟨S1x256x2048, .f32⟩
  | .hbm, ⟨57, _⟩ => ⟨S2x256x2048, .f32⟩
  | .hbm, ⟨58, _⟩ => ⟨S1x256x2048, .f32⟩
  | .hbm, ⟨59, _⟩ => ⟨S256x2048, .f32⟩
  | .hbm, ⟨60, _⟩ => ⟨S1x256x2048, .f32⟩
  | .hbm, ⟨61, _⟩ => ⟨S1x256x2048, .f32⟩
  | .hbm, ⟨62, _⟩ => ⟨S2x256x2048, .f32⟩
  | .hbm, ⟨63, _⟩ => ⟨S1x256x2048, .f32⟩
  | .hbm, ⟨64, _⟩ => ⟨S256x2048, .f32⟩
  | .hbm, ⟨65, _⟩ => ⟨S1x256x2048, .f32⟩
  | .hbm, ⟨66, _⟩ => ⟨S1x256x2048, .f32⟩
  | .hbm, ⟨67, _⟩ => ⟨S2x256x2048, .f32⟩
  | .hbm, ⟨68, _⟩ => ⟨S1x256x2048, .f32⟩
  | .hbm, ⟨69, _⟩ => ⟨S256x2048, .f32⟩
  | .hbm, ⟨70, _⟩ => ⟨S1x256x2048, .f32⟩
  | .hbm, ⟨71, _⟩ => ⟨S1x256x2048, .f32⟩
  | .hbm, ⟨72, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== AdamInLate.lean ====
abbrev S2x2048x768 : Shape := ⟨3, ![2, 2048, 768]⟩
abbrev S2048x768 : Shape := ⟨2, ![2048, 768]⟩
abbrev S7x2048x768 : Shape := ⟨3, ![7, 2048, 768]⟩
abbrev S1x512x768 : Shape := ⟨3, ![1, 512, 768]⟩
abbrev S512x768 : Shape := ⟨2, ![512, 768]⟩
abbrev S7x512x768 : Shape := ⟨3, ![7, 512, 768]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2048x768, .bf16⟩
  | .hbm, ⟨4, _⟩ => ⟨S7x2048x768, .bf16⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .hbm, ⟨10, _⟩ => ⟨S2x2048x768, .f32⟩
  | .hbm, ⟨11, _⟩ => ⟨S2x2048x768, .f32⟩
  | .hbm, ⟨12, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .bf16⟩
  | .local _ .vmem, ⟨3, _⟩ => ⟨S512x768, .bf16⟩
  | .local _ .vmem, ⟨4, _⟩ => ⟨S7x512x768, .bf16⟩
  | .local _ .vmem, ⟨5, _⟩ => ⟨S7x512x768, .bf16⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_9 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_10 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_11 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_12 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInLateRefIdeal.lean ====
abbrev S2x2048x768 : Shape := ⟨3, ![2, 2048, 768]⟩
abbrev S2048x768 : Shape := ⟨2, ![2048, 768]⟩
abbrev S7x2048x768 : Shape := ⟨3, ![7, 2048, 768]⟩
abbrev S1x2048x768 : Shape := ⟨3, ![1, 2048, 768]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2048x768, .bf16⟩
  | .hbm, ⟨4, _⟩ => ⟨S7x2048x768, .bf16⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S1x2048x768, .f32⟩
  | .hbm, ⟨10, _⟩ => ⟨S2048x768, .f32⟩
  | .hbm, ⟨11, _⟩ => ⟨S1x2048x768, .f32⟩
  | .hbm, ⟨12, _⟩ => ⟨S2048x768, .f32⟩
  | .hbm, ⟨13, _⟩ => ⟨S1x2048x768, .f32⟩
  | .hbm, ⟨14, _⟩ => ⟨S2048x768, .f32⟩
  | .hbm, ⟨15, _⟩ => ⟨S2048x768, .f32⟩
  | .hbm, ⟨16, _⟩ => ⟨S7x2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x768, .f32⟩
  | .hbm, ⟨25, _⟩ => ⟨S2048x768, .f32⟩
  | .hbm, ⟨26, _⟩ => ⟨S2048x768, .f32⟩
  | .hbm, ⟨27, _⟩ => ⟨S_, .f32⟩
  | .hbm, ⟨28, _⟩ => ⟨S2048x768, .f32⟩
  | .hbm, ⟨29, _⟩ => ⟨S2048x768, .f32⟩
  | .hbm, ⟨30, _⟩ => ⟨S2048x768, .f32⟩
  | .hbm, ⟨31, _⟩ => ⟨S_, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S_, .f32⟩
  | .hbm, ⟨39, _⟩ => ⟨S2048x768, .f32⟩
  | .hbm, ⟨40, _⟩ => ⟨S2048x768, .f32⟩
  | .hbm, ⟨41, _⟩ => ⟨S2048x768, .f32⟩
  | .hbm, ⟨42, _⟩ => ⟨S_, .f32⟩
  | .hbm, ⟨43, _⟩ => ⟨S2048x768, .f32⟩
  | .hbm, ⟨44, _⟩ => ⟨S2048x768, .f32⟩
  | .hbm, ⟨45, _⟩ => ⟨S2048x768, .f32⟩
  | .hbm, ⟨46, _⟩ => ⟨S_, .f32⟩
  | .hbm, ⟨47, _⟩ => ⟨S2048x768, .f32⟩
  | .hbm, ⟨48, _⟩ => ⟨S2048x768, .f32⟩
  | .hbm, ⟨49, _⟩ => ⟨S2048x768, .f32⟩
  | .hbm, ⟨50, _⟩ => ⟨S_, .f32⟩
  | .hbm, ⟨51, _⟩ => ⟨S2048x768, .f32⟩
  | .hbm, ⟨52, _⟩ => ⟨S2048x768, .f32⟩
  | .hbm, ⟨53, _⟩ => ⟨S1x2048x768, .f32⟩
  | .hbm, ⟨54, _⟩ => ⟨S2048x768, .f32⟩
  | .hbm, ⟨55, _⟩ => ⟨S1x2048x768, .f32⟩
  | .hbm, ⟨56, _⟩ => ⟨S1x2048x768, .f32⟩
  | .hbm, ⟨57, _⟩ => ⟨S2x2048x768, .f32⟩
  | .hbm, ⟨58, _⟩ => ⟨S1x2048x768, .f32⟩
  | .hbm, ⟨59, _⟩ => ⟨S2048x768, .f32⟩
  | .hbm, ⟨60, _⟩ => ⟨S1x2048x768, .f32⟩
  | .hbm, ⟨61, _⟩ => ⟨S1x2048x768, .f32⟩
  | .hbm, ⟨62, _⟩ => ⟨S2x2048x768, .f32⟩
  | .hbm, ⟨63, _⟩ => ⟨S1x2048x768, .f32⟩
  | .hbm, ⟨64, _⟩ => ⟨S2048x768, .f32⟩
  | .hbm, ⟨65, _⟩ => ⟨S1x2048x768, .f32⟩
  | .hbm, ⟨66, _⟩ => ⟨S1x2048x768, .f32⟩
  | .hbm, ⟨67, _⟩ => ⟨S2x2048x768, .f32⟩
  | .hbm, ⟨68, _⟩ => ⟨S1x2048x768, .f32⟩
  | .hbm, ⟨69, _⟩ => ⟨S2048x768, .f32⟩
  | .hbm, ⟨70, _⟩ => ⟨S1x2048x768, .f32⟩
  | .hbm, ⟨71, _⟩ => ⟨S1x2048x768, .f32⟩
  | .hbm, ⟨72, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== AdamInTop.lean ====
abbrev S2x2048x768 : Shape := ⟨3, ![2, 2048, 768]⟩
abbrev S1024x768 : Shape := ⟨2, ![1024, 768]⟩
abbrev S7x1024x768 : Shape := ⟨3, ![7, 1024, 768]⟩
abbrev S1x512x768 : Shape := ⟨3, ![1, 512, 768]⟩
abbrev S512x768 : Shape := ⟨2, ![512, 768]⟩
abbrev S7x512x768 : Shape := ⟨3, ![7, 512, 768]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S1024x768, .bf16⟩
  | .hbm, ⟨4, _⟩ => ⟨S7x1024x768, .bf16⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .hbm, ⟨10, _⟩ => ⟨S2x2048x768, .f32⟩
  | .hbm, ⟨11, _⟩ => ⟨S2x2048x768, .f32⟩
  | .hbm, ⟨12, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .bf16⟩
  | .local _ .vmem, ⟨3, _⟩ => ⟨S512x768, .bf16⟩
  | .local _ .vmem, ⟨4, _⟩ => ⟨S7x512x768, .bf16⟩
  | .local _ .vmem, ⟨5, _⟩ => ⟨S7x512x768, .bf16⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_9 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_10 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_11 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_12 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInTopRefIdeal.lean ====
abbrev S2x2048x768 : Shape := ⟨3, ![2, 2048, 768]⟩
abbrev S1024x768 : Shape := ⟨2, ![1024, 768]⟩
abbrev S7x1024x768 : Shape := ⟨3, ![7, 1024, 768]⟩
abbrev S1x1024x768 : Shape := ⟨3, ![1, 1024, 768]⟩
abbrev S_ : Shape := ⟨0, ![]⟩
abbrev S2048x768 : Shape := ⟨2, ![2048, 768]⟩
abbrev S1x2048x768 : Shape := ⟨3, ![1, 2048, 768]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S1024x768, .bf16⟩
  | .hbm, ⟨4, _⟩ => ⟨S7x1024x768, .bf16⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S1x1024x768, .f32⟩
  | .hbm, ⟨10, _⟩ => ⟨S1024x768, .f32⟩
  | .hbm, ⟨11, _⟩ => ⟨S1x1024x768, .f32⟩
  | .hbm, ⟨12, _⟩ => ⟨S1024x768, .f32⟩
  | .hbm, ⟨13, _⟩ => ⟨S1x1024x768, .f32⟩
  | .hbm, ⟨14, _⟩ => ⟨S1024x768, .f32⟩
  | .hbm, ⟨15, _⟩ => ⟨S1024x768, .f32⟩
  | .hbm, ⟨16, _⟩ => ⟨S7x1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S1024x768, .f32⟩
  | .hbm, ⟨31, _⟩ => ⟨S_, .f32⟩
  | .hbm, ⟨32, _⟩ => ⟨S1024x768, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | .hbm, ⟨41, _⟩ => ⟨S1024x768, .f32⟩
  | .hbm, ⟨42, _⟩ => ⟨S_, .f32⟩
  | .hbm, ⟨43, _⟩ => ⟨S1024x768, .f32⟩
  | .hbm, ⟨44, _⟩ => ⟨S1024x768, .f32⟩
  | .hbm, ⟨45, _⟩ => ⟨S1024x768, .f32⟩
  | .hbm, ⟨46, _⟩ => ⟨S_, .f32⟩
  | .hbm, ⟨47, _⟩ => ⟨S1024x768, .f32⟩
  | .hbm, ⟨48, _⟩ => ⟨S1024x768, .f32⟩
  | .hbm, ⟨49, _⟩ => ⟨S1024x768, .f32⟩
  | .hbm, ⟨50, _⟩ => ⟨S_, .f32⟩
  | .hbm, ⟨51, _⟩ => ⟨S1024x768, .f32⟩
  | .hbm, ⟨52, _⟩ => ⟨S1024x768, .f32⟩
  | .hbm, ⟨53, _⟩ => ⟨S1x1024x768, .f32⟩
  | .hbm, ⟨54, _⟩ => ⟨S1024x768, .f32⟩
  | .hbm, ⟨55, _⟩ => ⟨S2048x768, .f32⟩
  | .hbm, ⟨56, _⟩ => ⟨S1x2048x768, .f32⟩
  | .hbm, ⟨57, _⟩ => ⟨S2048x768, .f32⟩
  | .hbm, ⟨58, _⟩ => ⟨S1x2048x768, .f32⟩
  | .hbm, ⟨59, _⟩ => ⟨S1x2048x768, .f32⟩
  | .hbm, ⟨60, _⟩ => ⟨S2x2048x768, .f32⟩
  | .hbm, ⟨61, _⟩ => ⟨S1x1024x768, .f32⟩
  | .hbm, ⟨62, _⟩ => ⟨S1024x768, .f32⟩
  | .hbm, ⟨63, _⟩ => ⟨S2048x768, .f32⟩
  | .hbm, ⟨64, _⟩ => ⟨S1x2048x768, .f32⟩
  | .hbm, ⟨65, _⟩ => ⟨S2048x768, .f32⟩
  | .hbm, ⟨66, _⟩ => ⟨S1x2048x768, .f32⟩
  | .hbm, ⟨67, _⟩ => ⟨S1x2048x768, .f32⟩
  | .hbm, ⟨68, _⟩ => ⟨S2x2048x768, .f32⟩
  | .hbm, ⟨69, _⟩ => ⟨S1x1024x768, .f32⟩
  | .hbm, ⟨70, _⟩ => ⟨S1024x768, .f32⟩
  | .hbm, ⟨71, _⟩ => ⟨S2048x768, .f32⟩
  | .hbm, ⟨72, _⟩ => ⟨S1x2048x768, .f32⟩
  | .hbm, ⟨73, _⟩ => ⟨S2048x768, .f32⟩
  | .hbm, ⟨74, _⟩ => ⟨S1x2048x768, .f32⟩
  | .hbm, ⟨75, _⟩ => ⟨S1x2048x768, .f32⟩
  | .hbm, ⟨76, _⟩ => ⟨S2x2048x768, .f32⟩
  | .hbm, ⟨77, _⟩ => ⟨S1x1024x768, .f32⟩
  | .hbm, ⟨78, _⟩ => ⟨S1024x768, .f32⟩
  | .hbm, ⟨79, _⟩ => ⟨S2048x768, .f32⟩
  | .hbm, ⟨80, _⟩ => ⟨S1x2048x768, .f32⟩
  | .hbm, ⟨81, _⟩ => ⟨S2048x768, .f32⟩
  | .hbm, ⟨82, _⟩ => ⟨S1x2048x768, .f32⟩
  | .hbm, ⟨83, _⟩ => ⟨S1x2048x768, .f32⟩
  | .hbm, ⟨84, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== AdamInLow.lean ====
abbrev S2x2048x768 : Shape := ⟨3, ![2, 2048, 768]⟩
abbrev S1024x768 : Shape := ⟨2, ![1024, 768]⟩
abbrev S7x1024x768 : Shape := ⟨3, ![7, 1024, 768]⟩
abbrev S1x512x768 : Shape := ⟨3, ![1, 512, 768]⟩
abbrev S512x768 : Shape := ⟨2, ![512, 768]⟩
abbrev S7x512x768 : Shape := ⟨3, ![7, 512, 768]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S1024x768, .bf16⟩
  | .hbm, ⟨4, _⟩ => ⟨S7x1024x768, .bf16⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .hbm, ⟨10, _⟩ => ⟨S2x2048x768, .f32⟩
  | .hbm, ⟨11, _⟩ => ⟨S2x2048x768, .f32⟩
  | .hbm, ⟨12, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .bf16⟩
  | .local _ .vmem, ⟨3, _⟩ => ⟨S512x768, .bf16⟩
  | .local _ .vmem, ⟨4, _⟩ => ⟨S7x512x768, .bf16⟩
  | .local _ .vmem, ⟨5, _⟩ => ⟨S7x512x768, .bf16⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInLowRefIdeal.lean ====
abbrev S2x2048x768 : Shape := ⟨3, ![2, 2048, 768]⟩
abbrev S1024x768 : Shape := ⟨2, ![1024, 768]⟩
abbrev S7x1024x768 : Shape := ⟨3, ![7, 1024, 768]⟩
abbrev S1x1024x768 : Shape := ⟨3, ![1, 1024, 768]⟩
abbrev S_ : Shape := ⟨0, ![]⟩
abbrev S2048x768 : Shape := ⟨2, ![2048, 768]⟩
abbrev S1x2048x768 : Shape := ⟨3, ![1, 2048, 768]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S1024x768, .bf16⟩
  | .hbm, ⟨4, _⟩ => ⟨S7x1024x768, .bf16⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S1x1024x768, .f32⟩
  | .hbm, ⟨10, _⟩ => ⟨S1024x768, .f32⟩
  | .hbm, ⟨11, _⟩ => ⟨S1x1024x768, .f32⟩
  | .hbm, ⟨12, _⟩ => ⟨S1024x768, .f32⟩
  | .hbm, ⟨13, _⟩ => ⟨S1x1024x768, .f32⟩
  | .hbm, ⟨14, _⟩ => ⟨S1024x768, .f32⟩
  | .hbm, ⟨15, _⟩ => ⟨S1024x768, .f32⟩
  | .hbm, ⟨16, _⟩ => ⟨S7x1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S1024x768, .f32⟩
  | .hbm, ⟨31, _⟩ => ⟨S_, .f32⟩
  | .hbm, ⟨32, _⟩ => ⟨S1024x768, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | .hbm, ⟨41, _⟩ => ⟨S1024x768, .f32⟩
  | .hbm, ⟨42, _⟩ => ⟨S_, .f32⟩
  | .hbm, ⟨43, _⟩ => ⟨S1024x768, .f32⟩
  | .hbm, ⟨44, _⟩ => ⟨S1024x768, .f32⟩
  | .hbm, ⟨45, _⟩ => ⟨S1024x768, .f32⟩
  | .hbm, ⟨46, _⟩ => ⟨S_, .f32⟩
  | .hbm, ⟨47, _⟩ => ⟨S1024x768, .f32⟩
  | .hbm, ⟨48, _⟩ => ⟨S1024x768, .f32⟩
  | .hbm, ⟨49, _⟩ => ⟨S1024x768, .f32⟩
  | .hbm, ⟨50, _⟩ => ⟨S_, .f32⟩
  | .hbm, ⟨51, _⟩ => ⟨S1024x768, .f32⟩
  | .hbm, ⟨52, _⟩ => ⟨S1024x768, .f32⟩
  | .hbm, ⟨53, _⟩ => ⟨S1x1024x768, .f32⟩
  | .hbm, ⟨54, _⟩ => ⟨S1024x768, .f32⟩
  | .hbm, ⟨55, _⟩ => ⟨S2048x768, .f32⟩
  | .hbm, ⟨56, _⟩ => ⟨S1x2048x768, .f32⟩
  | .hbm, ⟨57, _⟩ => ⟨S2048x768, .f32⟩
  | .hbm, ⟨58, _⟩ => ⟨S1x2048x768, .f32⟩
  | .hbm, ⟨59, _⟩ => ⟨S1x2048x768, .f32⟩
  | .hbm, ⟨60, _⟩ => ⟨S2x2048x768, .f32⟩
  | .hbm, ⟨61, _⟩ => ⟨S1x1024x768, .f32⟩
  | .hbm, ⟨62, _⟩ => ⟨S1024x768, .f32⟩
  | .hbm, ⟨63, _⟩ => ⟨S2048x768, .f32⟩
  | .hbm, ⟨64, _⟩ => ⟨S1x2048x768, .f32⟩
  | .hbm, ⟨65, _⟩ => ⟨S2048x768, .f32⟩
  | .hbm, ⟨66, _⟩ => ⟨S1x2048x768, .f32⟩
  | .hbm, ⟨67, _⟩ => ⟨S1x2048x768, .f32⟩
  | .hbm, ⟨68, _⟩ => ⟨S2x2048x768, .f32⟩
  | .hbm, ⟨69, _⟩ => ⟨S1x1024x768, .f32⟩
  | .hbm, ⟨70, _⟩ => ⟨S1024x768, .f32⟩
  | .hbm, ⟨71, _⟩ => ⟨S2048x768, .f32⟩
  | .hbm, ⟨72, _⟩ => ⟨S1x2048x768, .f32⟩
  | .hbm, ⟨73, _⟩ => ⟨S2048x768, .f32⟩
  | .hbm, ⟨74, _⟩ => ⟨S1x2048x768, .f32⟩
  | .hbm, ⟨75, _⟩ => ⟨S1x2048x768, .f32⟩
  | .hbm, ⟨76, _⟩ => ⟨S2x2048x768, .f32⟩
  | .hbm, ⟨77, _⟩ => ⟨S1x1024x768, .f32⟩
  | .hbm, ⟨78, _⟩ => ⟨S1024x768, .f32⟩
  | .hbm, ⟨79, _⟩ => ⟨S2048x768, .f32⟩
  | .hbm, ⟨80, _⟩ => ⟨S1x2048x768, .f32⟩
  | .hbm, ⟨81, _⟩ => ⟨S2048x768, .f32⟩
  | .hbm, ⟨82, _⟩ => ⟨S1x2048x768, .f32⟩
  | .hbm, ⟨83, _⟩ => ⟨S1x2048x768, .f32⟩
  | .hbm, ⟨84, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.lean ====
/-
  The proof of `Cert.Claim`: the frames of the mixer's backward pass and of every call below, and the value claims.

  The nine products are the calls that multiply the step's big matrices: per layer the two forward products and the four
  products of their backward passes, the calls of the two layers apart where their operands differ. Each is computed
  block by block of its result, a block by one whole contraction. For each, `prod` says the result as one sum per
  element, `idx` which blocks of the operands a block of the result is computed from, and `algebraic` is the claim that
  the result is the reference's.

  The optimiser's call over the small parameters has its own section: there the four packed buffers the call is given are
  read as packed arrays, and `algebraic` is the claim that the four buffers it leaves are the reference's. The second layer's norm,
  the three sums over the devices and the second layer's norm's gradient follow it, and last the optimiser's five calls over
  the two weight matrices, which write a layer, or half a layer's rows, and keep the rest.
-/
module

public import proofs.«01_k».proof.Defs
public import proofs.«01_k».proof.Proof.Gen.Kernel
public import proofs.«01_k».proof.Proof.Gen.Dy
public import proofs.«01_k».proof.Proof.Gen.DyFirst
public import proofs.«01_k».proof.Proof.Gen.DwOut
public import proofs.«01_k».proof.Proof.Gen.DwIn
public import proofs.«01_k».proof.Proof.Gen.DwInTop
public import proofs.«01_k».proof.Proof.Gen.DwInLow
public import proofs.«01_k».proof.Proof.Gen.Dhn
public import proofs.«01_k».proof.Proof.Gen.MmU
public import proofs.«01_k».proof.Proof.Gen.MmOut
public import proofs.«01_k».proof.Proof.Gen.AdamSmall
public import proofs.«01_k».proof.Proof.Gen.Norm
public import proofs.«01_k».proof.Proof.Gen.SumLate
public import proofs.«01_k».proof.Proof.Gen.SumVec
public import proofs.«01_k».proof.Proof.Gen.SumMaps
public import proofs.«01_k».proof.Proof.Gen.NormBwd
public import proofs.«01_k».proof.Proof.Gen.AdamOutLate
public import proofs.«01_k».proof.Proof.Gen.AdamOutEarly
public import proofs.«01_k».proof.Proof.Gen.AdamInLate
public import proofs.«01_k».proof.Proof.Gen.AdamInTop
public import proofs.«01_k».proof.Proof.Gen.AdamInLow
public import proofs.«01_k».proof.Proof.Gen.KernelIdeal
public import proofs.«01_k».proof.Proof.Gen.Kernel.Frame
public import proofs.«01_k».proof.Proof.Gen.AdamSmall.Frame
public import proofs.«01_k».proof.Proof.Gen.Norm.Frame
public import proofs.«01_k».proof.Proof.Gen.SumLate.Frame
public import proofs.«01_k».proof.Proof.Gen.SumVec.Frame
public import proofs.«01_k».proof.Proof.Gen.SumMaps.Frame
public import proofs.«01_k».proof.Proof.Gen.NormBwd.Frame
public import proofs.«01_k».proof.Proof.Gen.AdamOutLate.Frame
public import proofs.«01_k».proof.Proof.Gen.AdamOutEarly.Frame
public import proofs.«01_k».proof.Proof.Gen.AdamInLate.Frame
public import proofs.«01_k».proof.Proof.Gen.AdamInTop.Frame
public import proofs.«01_k».proof.Proof.Gen.AdamInLow.Frame
public import proofs.«01_k».proof.Proof.Gen.DyIdeal.Value
public import proofs.«01_k».proof.Proof.Gen.DyRefIdeal.Run
public import proofs.«01_k».proof.Proof.Gen.DyFirstIdeal.Value
public import proofs.«01_k».proof.Proof.Gen.DyFirstRefIdeal.Run
public import proofs.«01_k».proof.Proof.Gen.DwOutIdeal.Value
public import proofs.«01_k».proof.Proof.Gen.DwOutRefIdeal.Run
public import proofs.«01_k».proof.Proof.Gen.DwInIdeal.Value
public import proofs.«01_k».proof.Proof.Gen.DwInRefIdeal.Run
public import proofs.«01_k».proof.Proof.Gen.DwInTopIdeal.Value
public import proofs.«01_k».proof.Proof.Gen.DwInTopRefIdeal.Run
public import proofs.«01_k».proof.Proof.Gen.DwInLowIdeal.Value
public import proofs.«01_k».proof.Proof.Gen.DwInLowRefIdeal.Run
public import proofs.«01_k».proof.Proof.Gen.DhnIdeal.Value
public import proofs.«01_k».proof.Proof.Gen.DhnRefIdeal.Run
public import proofs.«01_k».proof.Proof.Gen.MmUIdeal.Value
public import proofs.«01_k».proof.Proof.Gen.MmURefIdeal.Run
public import proofs.«01_k».proof.Proof.Gen.MmOutIdeal.Value
public import proofs.«01_k».proof.Proof.Gen.MmOutRefIdeal.Run
public import proofs.«01_k».proof.Proof.Gen.AdamSmallIdeal.Value
public import proofs.«01_k».proof.Proof.Gen.AdamSmallRefIdeal.Run
public import proofs.«01_k».proof.Proof.Gen.NormIdeal.Value
public import proofs.«01_k».proof.Proof.Gen.NormRefIdeal.Run
public import proofs.«01_k».proof.Proof.Gen.SumLateIdeal.Value
public import proofs.«01_k».proof.Proof.Gen.SumLateRefIdeal.Run
public import proofs.«01_k».proof.Proof.Gen.SumVecIdeal.Value
public import proofs.«01_k».proof.Proof.Gen.SumVecRefIdeal.Run
public import proofs.«01_k».proof.Proof.Gen.SumMapsIdeal.Value
public import proofs.«01_k».proof.Proof.Gen.SumMapsRefIdeal.Run
public import proofs.«01_k».proof.Proof.Gen.NormBwdIdeal.Value
public import proofs.«01_k».proof.Proof.Gen.NormBwdRefIdeal.Run
public import proofs.«01_k».proof.Proof.Gen.AdamOutLateIdeal.Value
public import proofs.«01_k».proof.Proof.Gen.AdamOutLateRefIdeal.Run
public import proofs.«01_k».proof.Proof.Gen.AdamOutEarlyIdeal.Value
public import proofs.«01_k».proof.Proof.Gen.AdamOutEarlyRefIdeal.Run
public import proofs.«01_k».proof.Proof.Gen.AdamInLateIdeal.Value
public import proofs.«01_k».proof.Proof.Gen.AdamInLateRefIdeal.Run
public import proofs.«01_k».proof.Proof.Gen.AdamInTopIdeal.Value
public import proofs.«01_k».proof.Proof.Gen.AdamInTopRefIdeal.Run
public import proofs.«01_k».proof.Proof.Gen.AdamInLowIdeal.Value
public import proofs.«01_k».proof.Proof.Gen.AdamInLowRefIdeal.Run
public import Idealize.ShloMosaic.Lib.Pipeline.ValueKit
public import Idealize.ShloMosaic.Adequacy
public import Idealize.ShloMosaic.Init

@[expose] public section

set_option maxRecDepth 16384

noncomputable section

open Idealize.ShloMosaic Idealize.SL.Sem Idealize.ShloMosaic.TcCoe

/-! ## Dy: the gradient of the layer's output product towards its left factor: cotangent row by weight row. -/

namespace Cert.Proof.Dy

open Cert.DyIdeal Cert.DyIdeal.Gen

/-- The gradient of the layer's output product towards its left factor: cotangent row by weight row. -/
def prod (a : Vec Ideal S4224x2048 .bf16) (b : Vec Ideal S2048x2048 .bf16) : Vec Ideal S4224x2048 .f32 :=
  fun j => ∑ k : Fin 2048, a (ix2 (j 0) k) * b (ix2 (j 1) k)

theorem idx : ∀ t : Fin cfg0.N, (win0_0.index t 0 = win0_2.index t 0 ∧ win0_0.index t 1 = 0)
      ∧ win0_1.index t 0 = win0_2.index t 1 ∧ win0_1.index t 1 = 0 :=
  (by decide +kernel : ∀ t : Fin grid0.N, _)

theorem algebraic : Cert.algebraic_DyIdeal_DyRefIdeal := by
  pair_intro
  · run_from Value.run_blocks m g
  · hlo_run
    symm
    refine (Pipeline.Dat.arrAt_eq_of_covers _ 2
      (prod (m ((c : Thread nD τ).loc main_arg0)) (m ((c : Thread nD τ).loc main_arg1)))
      (by decide +kernel) fun t hf y => ?_).trans ?_
    · refine (congrFun (Value.flushed2_A m c t) y).trans ?_
      unfold Pipeline.Window.cut
      blk_simp
      frame_out
      pointwise [k0_pay1, prod]
      blk_point [iblk, V, idx t]
    · funext j
      pointwise [prod]

end Cert.Proof.Dy

/-! ## DyFirst: the same call in the first layer, which reads one more operand for its order alone. -/

namespace Cert.Proof.DyFirst

open Cert.DyFirstIdeal Cert.DyFirstIdeal.Gen

/-- The same call in the first layer, which reads one more operand for its order alone. -/
def prod (a : Vec Ideal S4224x2048 .bf16) (b : Vec Ideal S2048x2048 .bf16) : Vec Ideal S4224x2048 .f32 :=
  fun j => ∑ k : Fin 2048, a (ix2 (j 0) k) * b (ix2 (j 1) k)

theorem idx : ∀ t : Fin cfg0.N, (win0_0.index t 0 = win0_3.index t 0 ∧ win0_0.index t 1 = 0)
      ∧ win0_1.index t 0 = win0_3.index t 1 ∧ win0_1.index t 1 = 0 :=
  (by decide +kernel : ∀ t : Fin grid0.N, _)

theorem algebraic : Cert.algebraic_DyFirstIdeal_DyFirstRefIdeal := by
  pair_intro
  · run_from Value.run_blocks m g
  · hlo_run
    symm
    refine (Pipeline.Dat.arrAt_eq_of_covers _ 3
      (prod (m ((c : Thread nD τ).loc main_arg0)) (m ((c : Thread nD τ).loc main_arg1)))
      (by decide +kernel) fun t hf y => ?_).trans ?_
    · refine (congrFun (Value.flushed3_A m c t) y).trans ?_
      unfold Pipeline.Window.cut
      blk_simp
      frame_out
      pointwise [k0_pay1, prod]
      blk_point [iblk, V, idx t]
    · funext j
      pointwise [prod]

end Cert.Proof.DyFirst

/-! ## DwOut: the gradient of the output weights: a sum over the tokens. -/

namespace Cert.Proof.DwOut

open Cert.DwOutIdeal Cert.DwOutIdeal.Gen

/-- The gradient of the output weights: a sum over the tokens. -/
def prod (a : Vec Ideal S4224x2048 .bf16) (b : Vec Ideal S4224x2048 .bf16) : Vec Ideal S2048x2048 .bf16 :=
  fun j => ∑ k : Fin 4224, a (ix2 k (j 0)) * b (ix2 k (j 1))

theorem idx : ∀ t : Fin cfg0.N, (win0_0.index t 0 = 0 ∧ win0_0.index t 1 = win0_2.index t 0)
      ∧ win0_1.index t 0 = 0 ∧ win0_1.index t 1 = win0_2.index t 1 :=
  (by decide +kernel : ∀ t : Fin grid0.N, _)

theorem algebraic : Cert.algebraic_DwOutIdeal_DwOutRefIdeal := by
  pair_intro
  · run_from Value.run_blocks m g
  · hlo_run
    symm
    refine (Pipeline.Dat.arrAt_eq_of_covers _ 2
      (prod (m ((c : Thread nD τ).loc main_arg0)) (m ((c : Thread nD τ).loc main_arg1)))
      (by decide +kernel) fun t hf y => ?_).trans ?_
    · refine (congrFun (Value.flushed2_A m c t) y).trans ?_
      unfold Pipeline.Window.cut
      blk_simp
      frame_out
      pointwise [k0_pay1, prod]
      blk_point [iblk, V, idx t]
    · funext j
      pointwise [prod]
      exact Finset.sum_congr rfl fun k _ => mul_comm _ _

end Cert.Proof.DwOut

/-! ## DwIn: the gradient of the input weights: a sum over the tokens. -/

namespace Cert.Proof.DwIn

open Cert.DwInIdeal Cert.DwInIdeal.Gen

/-- The gradient of the input weights: a sum over the tokens. -/
def prod (a : Vec Ideal S4224x2048 .bf16) (b : Vec Ideal S4224x6144 .bf16) : Vec Ideal S2048x6144 .bf16 :=
  fun j => ∑ k : Fin 4224, a (ix2 k (j 0)) * b (ix2 k (j 1))

theorem idx : ∀ t : Fin cfg0.N, (win0_0.index t 0 = 0 ∧ win0_0.index t 1 = win0_2.index t 0)
      ∧ win0_1.index t 0 = 0 ∧ win0_1.index t 1 = win0_2.index t 1 :=
  (by decide +kernel : ∀ t : Fin grid0.N, _)

theorem algebraic : Cert.algebraic_DwInIdeal_DwInRefIdeal := by
  pair_intro
  · run_from Value.run_blocks m g
  · hlo_run
    symm
    refine (Pipeline.Dat.arrAt_eq_of_covers _ 2
      (prod (m ((c : Thread nD τ).loc main_arg0)) (m ((c : Thread nD τ).loc main_arg1)))
      (by decide +kernel) fun t hf y => ?_).trans ?_
    · refine (congrFun (Value.flushed2_A m c t) y).trans ?_
      unfold Pipeline.Window.cut
      blk_simp
      frame_out
      pointwise [k0_pay1, prod]
      blk_point [iblk, V, idx t]
    · funext j
      pointwise [prod]
      exact Finset.sum_congr rfl fun k _ => mul_comm _ _

end Cert.Proof.DwIn

/-! ## DwInTop: the first half of the rows of the same gradient in the first layer. -/

namespace Cert.Proof.DwInTop

open Cert.DwInTopIdeal Cert.DwInTopIdeal.Gen

/-- The first half of the rows of the same gradient in the first layer. -/
def prod (a : Vec Ideal S4224x2048 .bf16) (b : Vec Ideal S4224x6144 .bf16) : Vec Ideal S1024x6144 .bf16 :=
  fun j => ∑ k : Fin 4224, a (ix2 k ⟨(j 0).val, lt_of_lt_of_le (j 0).isLt (by decide)⟩) * b (ix2 k (j 1))

theorem idx : ∀ t : Fin cfg0.N, (win0_0.index t 0 = 0 ∧ win0_0.index t 1 = win0_3.index t 0)
      ∧ win0_1.index t 0 = 0 ∧ win0_1.index t 1 = win0_3.index t 1 :=
  (by decide +kernel : ∀ t : Fin grid0.N, _)

theorem algebraic : Cert.algebraic_DwInTopIdeal_DwInTopRefIdeal := by
  pair_intro
  · run_from Value.run_blocks m g
  · hlo_run
    symm
    refine (Pipeline.Dat.arrAt_eq_of_covers _ 3
      (prod (m ((c : Thread nD τ).loc main_arg0)) (m ((c : Thread nD τ).loc main_arg1)))
      (by decide +kernel) fun t hf y => ?_).trans ?_
    · refine (congrFun (Value.flushed3_A m c t) y).trans ?_
      unfold Pipeline.Window.cut
      blk_simp
      frame_out
      pointwise [k0_pay1, prod]
      blk_point [iblk, V, idx t]
    · funext j
      pointwise [prod]
      exact Finset.sum_congr rfl fun k _ => mul_comm _ _

end Cert.Proof.DwInTop

/-! ## DwInLow: the second half of those rows: the blocks lie 1024 columns further in the left factor. -/

namespace Cert.Proof.DwInLow

open Cert.DwInLowIdeal Cert.DwInLowIdeal.Gen

/-- The second half of those rows: the blocks lie 1024 columns further in the left factor. -/
def prod (a : Vec Ideal S4224x2048 .bf16) (b : Vec Ideal S4224x6144 .bf16) : Vec Ideal S1024x6144 .bf16 :=
  fun j => ∑ k : Fin 4224, a (ix2 k ⟨1024 + (j 0).val, Nat.add_lt_add_left (j 0).isLt 1024⟩) * b (ix2 k (j 1))

theorem idx : ∀ t : Fin cfg0.N, (win0_0.index t 0 = 0 ∧ win0_0.index t 1 = win0_3.index t 0 + 2)
      ∧ win0_1.index t 0 = 0 ∧ win0_1.index t 1 = win0_3.index t 1 :=
  (by decide +kernel : ∀ t : Fin grid0.N, _)

theorem algebraic : Cert.algebraic_DwInLowIdeal_DwInLowRefIdeal := by
  pair_intro
  · run_from Value.run_blocks m g
  · hlo_run
    symm
    refine (Pipeline.Dat.arrAt_eq_of_covers _ 3
      (prod (m ((c : Thread nD τ).loc main_arg0)) (m ((c : Thread nD τ).loc main_arg1)))
      (by decide +kernel) fun t hf y => ?_).trans ?_
    · refine (congrFun (Value.flushed3_A m c t) y).trans ?_
      unfold Pipeline.Window.cut
      blk_simp
      frame_out
      pointwise [k0_pay1, prod]
      blk_point [iblk, V, idx t]
    · funext j
      pointwise [prod]
      exact Finset.sum_congr rfl fun k _ => mul_comm _ _

end Cert.Proof.DwInLow

/-! ## Dhn: the gradient of the normalised activations. -/

namespace Cert.Proof.Dhn

open Cert.DhnIdeal Cert.DhnIdeal.Gen

/-- The gradient of the normalised activations. -/
def prod (a : Vec Ideal S4224x6144 .bf16) (b : Vec Ideal S2048x6144 .bf16) : Vec Ideal S4224x2048 .f32 :=
  fun j => ∑ k : Fin 6144, a (ix2 (j 0) k) * b (ix2 (j 1) k)

theorem idx : ∀ t : Fin cfg0.N, (win0_0.index t 0 = win0_3.index t 0 ∧ win0_0.index t 1 = 0)
      ∧ win0_1.index t 0 = win0_3.index t 1 ∧ win0_1.index t 1 = 0 :=
  (by decide +kernel : ∀ t : Fin grid0.N, _)

theorem algebraic : Cert.algebraic_DhnIdeal_DhnRefIdeal := by
  pair_intro
  · run_from Value.run_blocks m g
  · hlo_run
    symm
    refine (Pipeline.Dat.arrAt_eq_of_covers _ 3
      (prod (m ((c : Thread nD τ).loc main_arg0)) (m ((c : Thread nD τ).loc main_arg1)))
      (by decide +kernel) fun t hf y => ?_).trans ?_
    · refine (congrFun (Value.flushed3_A m c t) y).trans ?_
      unfold Pipeline.Window.cut
      blk_simp
      frame_out
      pointwise [k0_pay1, prod]
      blk_point [iblk, V, idx t]
    · funext j
      pointwise [prod]

end Cert.Proof.Dhn

/-! ## MmU: the layer's input product. -/

namespace Cert.Proof.MmU

open Cert.MmUIdeal Cert.MmUIdeal.Gen

/-- The layer's input product. -/
def prod (a : Vec Ideal S4224x2048 .bf16) (b : Vec Ideal S2048x6144 .bf16) : Vec Ideal S4224x6144 .f32 :=
  fun j => ∑ k : Fin 2048, a (ix2 (j 0) k) * b (ix2 k (j 1))

theorem idx : ∀ t : Fin cfg0.N, (win0_0.index t 0 = win0_2.index t 0 ∧ win0_0.index t 1 = 0)
      ∧ win0_1.index t 0 = 0 ∧ win0_1.index t 1 = win0_2.index t 1 :=
  (by decide +kernel : ∀ t : Fin grid0.N, _)

theorem algebraic : Cert.algebraic_MmUIdeal_MmURefIdeal := by
  pair_intro
  · run_from Value.run_blocks m g
  · hlo_run
    symm
    refine (Pipeline.Dat.arrAt_eq_of_covers _ 2
      (prod (m ((c : Thread nD τ).loc main_arg0)) (m ((c : Thread nD τ).loc main_arg1)))
      (by decide +kernel) fun t hf y => ?_).trans ?_
    · refine (congrFun (Value.flushed2_A m c t) y).trans ?_
      unfold Pipeline.Window.cut
      blk_simp
      frame_out
      pointwise [k0_pay1, prod]
      blk_point [iblk, V, idx t]
    · funext j
      pointwise [prod]

end Cert.Proof.MmU

/-! ## MmOut: the layer's output product, the residual added. -/

namespace Cert.Proof.MmOut

open Cert.MmOutIdeal Cert.MmOutIdeal.Gen

/-- The layer's output product, the residual added. -/
def prod (a : Vec Ideal S4224x2048 .bf16) (b : Vec Ideal S2048x2048 .bf16) (r : Vec Ideal S4224x2048 .f32) : Vec Ideal S4224x2048 .f32 :=
  fun j => (∑ k : Fin 2048, a (ix2 (j 0) k) * b (ix2 k (j 1))) + r j

theorem idx : ∀ t : Fin cfg0.N, (win0_0.index t 0 = win0_3.index t 0 ∧ win0_0.index t 1 = 0)
      ∧ win0_1.index t 0 = 0 ∧ win0_1.index t 1 = win0_3.index t 1
      ∧ win0_2.index t 0 = win0_3.index t 0 ∧ win0_2.index t 1 = win0_3.index t 1 :=
  (by decide +kernel : ∀ t : Fin grid0.N, _)

theorem algebraic : Cert.algebraic_MmOutIdeal_MmOutRefIdeal := by
  pair_intro
  · run_from Value.run_blocks m g
  · hlo_run
    symm
    refine (Pipeline.Dat.arrAt_eq_of_covers _ 3
      (prod (m ((c : Thread nD τ).loc main_arg0)) (m ((c : Thread nD τ).loc main_arg1)) (m ((c : Thread nD τ).loc main_arg2)))
      (by decide +kernel) fun t hf y => ?_).trans ?_
    · refine (congrFun (Value.flushed3_A m c t) y).trans ?_
      unfold Pipeline.Window.cut
      blk_simp
      frame_out
      pointwise [k0_pay1, prod]
      blk_point [iblk, V, idx t]
    · funext j
      pointwise [prod]
      exact add_comm _ _

end Cert.Proof.MmOut

/-! ## The optimiser's call over the small parameters

Eleven parameters, their gradients and their two moments are each laid row-major one after another in a buffer of rows,
filled up with zeros, and one AdamW step is taken element by element over the four buffers. `pack_zip` says that a step
element by element of packed arrays packs the steps of the arrays. -/

namespace Cert.Proof.AdamSmall

open Cert.AdamSmallIdeal Cert.AdamSmallIdeal.Gen

/-- A function applied to every element commutes with laying pieces one after another. -/
theorem concat_comp {α β : Type} (g : α → β) (t : Shape) (a : Fin t.rank) (xs : List ((s : Shape) × (s.Idx → α)))
    (h : Shape.Concatenates (xs.map (·.1)) t a)
    (h' : Shape.Concatenates ((xs.map fun p => (⟨p.1, g ∘ p.2⟩ : (s : Shape) × (s.Idx → β))).map (·.1)) t a)
    (j : t.Idx) :
    concatenate t a (xs.map fun p => ⟨p.1, g ∘ p.2⟩) h' j = g (concatenate t a xs h j) := by
  rw [concatenate_apply, concatenate_apply]
  suffices H : ∀ (ys : List ((s : Shape) × (s.Idx → α))) (hs : ∀ s ∈ ys.map (·.1), s.FitsOff t a)
      (hs' : ∀ s ∈ (ys.map fun p => (⟨p.1, g ∘ p.2⟩ : (s : Shape) × (s.Idx → β))).map (·.1), s.FitsOff t a) (c : Nat)
      (hc : c < (axisSizes t a ys).sum) (hc' : c < (axisSizes t a (ys.map fun p => ⟨p.1, g ∘ p.2⟩)).sum),
      concatenateAt t a j (ys.map fun p => ⟨p.1, g ∘ p.2⟩) hs' c hc' = g (concatenateAt t a j ys hs c hc) from H ..
  intro ys
  induction ys with
  | nil => intro _ _ c hc; exact absurd hc (Nat.not_lt_zero _)
  | cons p ys ih =>
    cases ys with
    | nil => intros; rfl
    | cons q ys =>
      intro hs hs' c hc hc'
      simp only [List.map_cons] at hs' hc' ⊢
      rw [concatenateAt_cons, concatenateAt_cons]
      split
      · rfl
      · exact ih ..

/-- The eleven small parameters' arrays. -/
structure Params (α : Type) where
  a0 : S2x2048.Idx → α
  a1 : S2x1024.Idx → α
  a2 : S2x16x64x64.Idx → α
  a3 : S2x1024.Idx → α
  a4 : S2x16x64x64.Idx → α
  a5 : S2x1024.Idx → α
  a6 : S2x1024.Idx → α
  a7 : S2048.Idx → α
  a8 : S16x256.Idx → α
  a9 : S2x4x128.Idx → α
  a10 : S2x3x128.Idx → α

/-- The eleven arrays row-major, one after another. -/
def Params.pieces {α : Type} (p : Params α) : List ((s : Shape) × (s.Idx → α)) :=
  [⟨S4096, shapeCast _ p.a0 shapeCasts_S2x2048_S4096⟩, ⟨S2048, shapeCast _ p.a1 shapeCasts_S2x1024_S2048⟩,
    ⟨S131072, shapeCast _ p.a2 shapeCasts_S2x16x64x64_S131072⟩, ⟨S2048, shapeCast _ p.a3 shapeCasts_S2x1024_S2048⟩,
    ⟨S131072, shapeCast _ p.a4 shapeCasts_S2x16x64x64_S131072⟩, ⟨S2048, shapeCast _ p.a5 shapeCasts_S2x1024_S2048⟩,
    ⟨S2048, shapeCast _ p.a6 shapeCasts_S2x1024_S2048⟩, ⟨S2048, p.a7⟩,
    ⟨S4096, shapeCast _ p.a8 shapeCasts_S16x256_S4096⟩, ⟨S1024, shapeCast _ p.a9 shapeCasts_S2x4x128_S1024⟩,
    ⟨S768, shapeCast _ p.a10 shapeCasts_S2x3x128_S768⟩]

/-- The pieces with a constant tail that fills the last rows. -/
abbrev Params.filled {α : Type} (p : Params α) (z : α) : List ((s : Shape) × (s.Idx → α)) :=
  p.pieces ++ [⟨⟨1, ![256]⟩, fun _ => z⟩]

theorem fits {α : Type} (p : Params α) (z : α) : Shape.Concatenates ((p.filled z).map (·.1)) S282624 0 :=
  (by decide : Shape.Concatenates
    [S4096, S2048, S131072, S2048, S131072, S2048, S2048, S2048, S4096, S1024, S768, ⟨1, ![256]⟩] S282624 0)

/-- The pieces and a constant tail as one array of 2208 rows of 128. -/
def Params.pack {α : Type} (p : Params α) (z : α) : S2208x128.Idx → α :=
  shapeCast _ (concatenate S282624 0 (p.filled z) (fits p z)) shapeCasts_S282624_S2208x128

/-- A function of four arrays' elements, parameter by parameter. -/
def zip {α β : Type} (f : α → α → α → α → β) (w g m v : Params α) : Params β :=
  ⟨fun i => f (w.a0 i) (g.a0 i) (m.a0 i) (v.a0 i), fun i => f (w.a1 i) (g.a1 i) (m.a1 i) (v.a1 i),
    fun i => f (w.a2 i) (g.a2 i) (m.a2 i) (v.a2 i), fun i => f (w.a3 i) (g.a3 i) (m.a3 i) (v.a3 i),
    fun i => f (w.a4 i) (g.a4 i) (m.a4 i) (v.a4 i), fun i => f (w.a5 i) (g.a5 i) (m.a5 i) (v.a5 i),
    fun i => f (w.a6 i) (g.a6 i) (m.a6 i) (v.a6 i), fun i => f (w.a7 i) (g.a7 i) (m.a7 i) (v.a7 i),
    fun i => f (w.a8 i) (g.a8 i) (m.a8 i) (v.a8 i), fun i => f (w.a9 i) (g.a9 i) (m.a9 i) (v.a9 i),
    fun i => f (w.a10 i) (g.a10 i) (m.a10 i) (v.a10 i)⟩

/-- Element by element on the packed arrays is element by element on the parameters. -/
theorem pack_zip {α β : Type} (f : α → α → α → α → β) (w g m v : Params α) (z : α) (j : S2208x128.Idx) :
    (zip f w g m v).pack (f z z z z) j = f (w.pack z j) (g.pack z j) (m.pack z j) (v.pack z j) := by
  have e : ∀ {γ : Type} (k : α × α × α × α → γ), (zip (fun a b c d => k (a, b, c, d)) w g m v).pack (k (z, z, z, z)) j
      = k ((zip (fun a b c d => (a, b, c, d)) w g m v).pack (z, z, z, z) j) := fun k =>
    concat_comp k S282624 0 ((zip (fun a b c d => (a, b, c, d)) w g m v).filled (z, z, z, z)) (fits _ _)
      (fits (zip (fun a b c d => k (a, b, c, d)) w g m v) (k (z, z, z, z))) _
  refine (e fun q => f q.1 q.2.1 q.2.2.1 q.2.2.2).trans ?_
  rw [show w.pack z j = _ from e fun q => q.1, show g.pack z j = _ from e fun q => q.2.1,
    show m.pack z j = _ from e fun q => q.2.2.1, show v.pack z j = _ from e fun q => q.2.2.2]

/-- A position inside the first pieces is read from them, whatever piece comes last. -/
theorem read_init {α : Type} {n n' : Nat} (j : (⟨1, ![n]⟩ : Shape).Idx) (j' : (⟨1, ![n']⟩ : Shape).Idx)
    (z : (s : Shape) × (s.Idx → α)) : ∀ (xs : List ((s : Shape) × (s.Idx → α)))
      (hs : ∀ s ∈ (xs ++ [z]).map (·.1), s.FitsOff ⟨1, ![n]⟩ 0) (hs' : ∀ s ∈ xs.map (·.1), s.FitsOff ⟨1, ![n']⟩ 0) (c : Nat)
      (hc : c < (axisSizes ⟨1, ![n]⟩ 0 (xs ++ [z])).sum) (hc' : c < (axisSizes ⟨1, ![n']⟩ 0 xs).sum),
      concatenateAt ⟨1, ![n]⟩ 0 j (xs ++ [z]) hs c hc = concatenateAt ⟨1, ![n']⟩ 0 j' xs hs' c hc'
  | [], _, _, _, _, hc' => absurd hc' (Nat.not_lt_zero _)
  | [⟨s, x⟩], hs, hs', c, hc, hc' => by
    have hr : s.rank = 1 := (hs' s List.mem_cons_self).rank_eq
    have h1 : c < s.size ((0 : Fin 1).cast hr.symm) := by
      rw [axisSizes_cons _ _ _ _ (hs' s List.mem_cons_self)] at hc'; simpa using hc'
    refine (concatenateAt_cons (t := ⟨1, ![n]⟩) 0 j x z [] hs c hc).trans ?_
    rw [dif_pos h1, concatenateAt_singleton]
    refine congrArg x (funext fun b => Fin.ext ?_)
    have hb : b.val = 0 := by have := b.isLt; omega
    exact (if_pos hb).trans (if_pos hb).symm
  | ⟨s, x⟩ :: q :: xs, hs, hs', c, hc, hc' => by
    have hr : s.rank = 1 := (hs' s List.mem_cons_self).rank_eq
    refine (concatenateAt_cons (t := ⟨1, ![n]⟩) 0 j x q (xs ++ [z]) hs c hc).trans ?_
    rw [concatenateAt_cons]
    split
    · refine congrArg x (funext fun b => Fin.ext ?_)
      have hb : b.val = 0 := by have := b.isLt; omega
      exact (if_pos hb).trans (if_pos hb).symm
    · exact read_init j j' z (q :: xs) ..

/-- A position behind the first pieces is read from the last, here a constant. -/
theorem read_last {α : Type} {n : Nat} (j : (⟨1, ![n]⟩ : Shape).Idx) (l : Shape) (z : α) :
    ∀ (xs : List ((s : Shape) × (s.Idx → α)))
      (hs : ∀ s ∈ (xs ++ [(⟨l, fun _ => z⟩ : (s : Shape) × (s.Idx → α))]).map (·.1), s.FitsOff ⟨1, ![n]⟩ 0) (c : Nat)
      (hc : c < (axisSizes ⟨1, ![n]⟩ 0 (xs ++ [(⟨l, fun _ => z⟩ : (s : Shape) × (s.Idx → α))])).sum)
      (_ : (axisSizes ⟨1, ![n]⟩ 0 xs).sum ≤ c),
      concatenateAt ⟨1, ![n]⟩ 0 j (xs ++ [⟨l, fun _ => z⟩]) hs c hc = z
  | [], _, _, _, _ => concatenateAt_singleton ..
  | [⟨s, x⟩], hs, c, hc, hc' => by
    rw [axisSizes_cons _ _ _ _ (hs s List.mem_cons_self), List.sum_cons] at hc'
    refine (concatenateAt_cons (t := ⟨1, ![n]⟩) 0 j x _ [] hs c hc).trans ?_
    rw [dif_neg (by dsimp only at hc' ⊢; omega)]
    exact read_last j l z [] _ _ _ (Nat.zero_le _)
  | ⟨s, x⟩ :: q :: xs, hs, c, hc, hc' => by
    rw [axisSizes_cons _ _ _ _ (hs s List.mem_cons_self), List.sum_cons] at hc'
    refine (concatenateAt_cons (t := ⟨1, ![n]⟩) 0 j x q (xs ++ [(⟨l, fun _ => z⟩ : (s : Shape) × (s.Idx → α))]) hs c hc).trans ?_
    rw [dif_neg (by dsimp only at hc' ⊢; omega)]
    exact read_last j l z (q :: xs) _ _ _ (by dsimp only at hc' ⊢; omega)

/-- Padding the pieces at the end is one more piece. -/
theorem pack_eq_pad {α : Type} (p : Params α) (v : S_.Idx → α)
    (h : Shape.Concatenates (p.pieces.map (·.1)) S282368 0) :
    shapeCast S2208x128 (pad S282624 ![0] ![256] ![0] (concatenate S282368 0 p.pieces h) v pads_S282368_S282624_02560 h_S_)
      shapeCasts_S282624_S2208x128 = p.pack (v (Shape.Idx.first h_S_)) := by
  funext j
  unfold Params.pack shapeCast
  generalize Shape.reshapeEquiv shapeCasts_S282624_S2208x128 j = k
  have hsum : (axisSizes ⟨1, ![282624]⟩ 0 p.pieces).sum = 282368 := h.2.2
  rw [pad_apply]
  by_cases hc : (k 0).val < 282368
  · have e : ∀ i : S282368.Idx, (i 0).val = (k 0).val → concatenate S282368 0 p.pieces h i
        = concatenate S282624 0 (p.filled (v (Shape.Idx.first h_S_))) (fits _ _) k := by
      intro i hi
      rw [concatenate_apply, concatenate_apply]
      simp only [hi]
      exact (read_init k i _ p.pieces ..).symm
    rw [dif_pos (by intro a; fin_cases a; exact ⟨Nat.zero_le _, Nat.mod_one _, by simpa using hc⟩)]
    exact e _ (by rw [Shape.Idx.norm_def]; simp)
  · rw [dif_neg (by intro H; have := (H 0).2.2; simp at this; omega), concatenate_apply]
    exact (read_last k _ _ p.pieces _ _ _ (by rw [hsum]; omega)).symm

theorem pack_of_pieces {α : Type} (p : Params α) (v : S_.Idx → α) (ys : List ((s : Shape) × (s.Idx → α)))
    (e : ys = p.pieces) (h : Shape.Concatenates (ys.map (·.1)) S282368 0) :
    (fun i => shapeCast S2208x128 (pad S282624 ![0] ![256] ![0] (concatenate S282368 0 ys h) v
      pads_S282368_S282624_02560 h_S_) shapeCasts_S282624_S2208x128 i) = p.pack (v (Shape.Idx.first h_S_)) := by
  subst e
  exact pack_eq_pad p v h

theorem piece {α : Type} {s : Shape} {x y : s.Idx → α} {xs ys : List ((s : Shape) × (s.Idx → α))} (e : x = y) (h : xs = ys) :
    ((⟨s, x⟩ :: xs : List ((s : Shape) × (s.Idx → α))) = ⟨s, y⟩ :: ys) := by
  rw [e, h]

/-- The first moment after the step. -/
def mom (g m : Ideal .f32) : Ideal .f32 :=
  Scalar.ofBits .f32 0x3F666666#32 * m + Scalar.ofBits .f32 0x3DCCCCCD#32 * g

/-- The second moment after the step. -/
def vel (g v : Ideal .f32) : Ideal .f32 :=
  Scalar.ofBits .f32 0x3F7FBE77#32 * v + Scalar.ofBits .f32 0x3A83126F#32 * (g * g)

/-- The quotient of two numbers. -/
def quot (x y : Ideal .f32) : Ideal .f32 := Ideal.div x y

/-- The parameter's change. -/
def delta (w g m v : Ideal .f32) : Ideal .f32 :=
  Scalar.ofBits .f32 0xBA83126F#32 * (quot (quot (mom g m) (Scalar.ofBits .f32 0x3F26BD02#32))
    (FloatOps.sqrt (quot (vel g v) (Scalar.ofBits .f32 0x3C231ACC#32)) + Scalar.ofBits .f32 0x322BCC77#32)
    + Scalar.ofBits .f32 0x3C23D70A#32 * w)

/-- The reference's line for a parameter's change, element by element. -/
theorem delta_line {s : Shape} (h : Shape.BroadcastsInDim Cert.AdamSmallRefIdeal.S_ s ![]) (w g m v : s.Idx → Ideal .f32) :
    (let all (b : BitVec 32) : FVec Ideal s .f32 := broadcastInDim s ![] h (constant Cert.AdamSmallRefIdeal.S_ .f32 b)
    mulf (all 0xBA83126F#32) (addf (Host.divf (Host.divf (addf (mulf (all 0x3F666666#32) m) (mulf (all 0x3DCCCCCD#32) g))
      (all 0x3F26BD02#32)) (addf (Host.sqrt (Host.divf (addf (mulf (all 0x3F7FBE77#32) v) (mulf (all 0x3A83126F#32)
      (mulf g g))) (all 0x3C231ACC#32))) (all 0x322BCC77#32))) (mulf (all 0x3C23D70A#32) w)))
      = fun i => delta (w i) (g i) (m i) (v i) := by
  funext i
  pointwise [delta, quot, mom, vel]

/-- Twelve pieces, the last a constant, read as the packed array. -/
theorem pack_of_filled {α : Type} (p : Params α) (z : α) (ys : List ((s : Shape) × (s.Idx → α))) (e : ys = p.filled z)
    (h : Shape.Concatenates (ys.map (·.1)) S282624 0) :
    (fun i => shapeCast S2208x128 (concatenate S282624 0 ys h) shapeCasts_S282624_S2208x128 i) = p.pack z := by
  subst e
  rfl

/-- Every window takes the same block of its array at a point. -/
theorem idx : ∀ t : Fin cfg0.N, ∀ a : Fin 2,
    (win0_1.index t a = win0_0.index t a ∧ win0_2.index t a = win0_0.index t a ∧ win0_3.index t a = win0_0.index t a)
      ∧ (win0_4.index t a = win0_0.index t a ∧ win0_5.index t a = win0_0.index t a)
      ∧ win0_6.index t a = win0_0.index t a ∧ win0_7.index t a = win0_0.index t a :=
  (by decide +kernel : ∀ t : Fin grid0.N, _)

section Given

variable (m : (ℓ : Loc nD τ sig) → Buf (Elt Ideal) ℓ) (c : Dev nD)

/-- The parameters. -/
abbrev weights : Params (Ideal .f32) :=
  ⟨m ((c.tc : Thread nD τ).loc main_arg0), m ((c.tc : Thread nD τ).loc main_arg1),
    m ((c.tc : Thread nD τ).loc main_arg2), m ((c.tc : Thread nD τ).loc main_arg3),
    m ((c.tc : Thread nD τ).loc main_arg4), m ((c.tc : Thread nD τ).loc main_arg5),
    m ((c.tc : Thread nD τ).loc main_arg6), m ((c.tc : Thread nD τ).loc main_arg7),
    m ((c.tc : Thread nD τ).loc main_arg8), m ((c.tc : Thread nD τ).loc main_arg9),
    m ((c.tc : Thread nD τ).loc main_arg10)⟩

/-- Their gradients. -/
abbrev grads : Params (Ideal .f32) :=
  ⟨m ((c.tc : Thread nD τ).loc main_arg11), m ((c.tc : Thread nD τ).loc main_arg12),
    m ((c.tc : Thread nD τ).loc main_arg13), m ((c.tc : Thread nD τ).loc main_arg14),
    m ((c.tc : Thread nD τ).loc main_arg15), m ((c.tc : Thread nD τ).loc main_arg16),
    m ((c.tc : Thread nD τ).loc main_arg17), m ((c.tc : Thread nD τ).loc main_arg18),
    m ((c.tc : Thread nD τ).loc main_arg19), m ((c.tc : Thread nD τ).loc main_arg20),
    m ((c.tc : Thread nD τ).loc main_arg21)⟩

/-- Their first moments. -/
abbrev firsts : Params (Ideal .f32) :=
  ⟨m ((c.tc : Thread nD τ).loc main_arg22), m ((c.tc : Thread nD τ).loc main_arg23),
    m ((c.tc : Thread nD τ).loc main_arg24), m ((c.tc : Thread nD τ).loc main_arg25),
    m ((c.tc : Thread nD τ).loc main_arg26), m ((c.tc : Thread nD τ).loc main_arg27),
    m ((c.tc : Thread nD τ).loc main_arg28), m ((c.tc : Thread nD τ).loc main_arg29),
    m ((c.tc : Thread nD τ).loc main_arg30), m ((c.tc : Thread nD τ).loc main_arg31),
    m ((c.tc : Thread nD τ).loc main_arg32)⟩

/-- Their second moments. -/
abbrev seconds : Params (Ideal .f32) :=
  ⟨m ((c.tc : Thread nD τ).loc main_arg33), m ((c.tc : Thread nD τ).loc main_arg34),
    m ((c.tc : Thread nD τ).loc main_arg35), m ((c.tc : Thread nD τ).loc main_arg36),
    m ((c.tc : Thread nD τ).loc main_arg37), m ((c.tc : Thread nD τ).loc main_arg38),
    m ((c.tc : Thread nD τ).loc main_arg39), m ((c.tc : Thread nD τ).loc main_arg40),
    m ((c.tc : Thread nD τ).loc main_arg41), m ((c.tc : Thread nD τ).loc main_arg42),
    m ((c.tc : Thread nD τ).loc main_arg43)⟩

theorem zero_eq : (FloatOps.sitofp .f32 0#32 : Ideal .f32) = (0 : EReal) := by
  show (((0#32 : BitVec 32).toInt : ℝ) : EReal) = 0
  simp

theorem zero_bits : (Scalar.ofBits .f32 0x00000000#32 : Ideal .f32) = (0 : EReal) := by
  simp [Scalar.ofBits]

/-- What the call finds in its buffer of the parameters. -/
theorem entry_weights : V m c main_v12 = (weights m c).pack (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  simp -implicitDefEqProofs only [StableHlo.TRef.toBuf, StableHlo.TRef.ofBuf, cast_cast, cast_eq]
  refine (pack_of_pieces (weights m c) _ _ ?_ _).trans (congrArg _ zero_eq)
  iterate 11 refine piece rfl ?_
  rfl

/-- What the call finds in its buffer of the gradients. -/
theorem entry_grads : V m c main_v25 = (grads m c).pack (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  simp -implicitDefEqProofs only [StableHlo.TRef.toBuf, StableHlo.TRef.ofBuf, cast_cast, cast_eq]
  refine (pack_of_pieces (grads m c) _ _ ?_ _).trans (congrArg _ zero_eq)
  iterate 11 refine piece rfl ?_
  rfl

/-- What the call finds in its buffer of the first moments. -/
theorem entry_firsts : V m c main_v38 = (firsts m c).pack (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  simp -implicitDefEqProofs only [StableHlo.TRef.toBuf, StableHlo.TRef.ofBuf, cast_cast, cast_eq]
  refine (pack_of_pieces (firsts m c) _ _ ?_ _).trans (congrArg _ zero_eq)
  iterate 11 refine piece rfl ?_
  rfl

/-- What the call finds in its buffer of the second moments. -/
theorem entry_seconds : V m c main_v51 = (seconds m c).pack (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  simp -implicitDefEqProofs only [StableHlo.TRef.toBuf, StableHlo.TRef.ofBuf, cast_cast, cast_eq]
  refine (pack_of_pieces (seconds m c) _ _ ?_ _).trans (congrArg _ zero_eq)
  iterate 11 refine piece rfl ?_
  rfl

end Given

section Reference

variable (m : (ℓ : Loc AdamSmallRefIdeal.nD AdamSmallRefIdeal.τ AdamSmallRefIdeal.sig) → Buf (Elt Ideal) ℓ)
  (c : Dev AdamSmallRefIdeal.nD)

/-- The parameters, as the reference is given them. -/
abbrev ref_weights : Params (Ideal .f32) :=
  ⟨m ((c.tc : Thread AdamSmallRefIdeal.nD AdamSmallRefIdeal.τ).loc AdamSmallRefIdeal.main_arg0),
    m ((c.tc : Thread AdamSmallRefIdeal.nD AdamSmallRefIdeal.τ).loc AdamSmallRefIdeal.main_arg1),
    m ((c.tc : Thread AdamSmallRefIdeal.nD AdamSmallRefIdeal.τ).loc AdamSmallRefIdeal.main_arg2),
    m ((c.tc : Thread AdamSmallRefIdeal.nD AdamSmallRefIdeal.τ).loc AdamSmallRefIdeal.main_arg3),
    m ((c.tc : Thread AdamSmallRefIdeal.nD AdamSmallRefIdeal.τ).loc AdamSmallRefIdeal.main_arg4),
    m ((c.tc : Thread AdamSmallRefIdeal.nD AdamSmallRefIdeal.τ).loc AdamSmallRefIdeal.main_arg5),
    m ((c.tc : Thread AdamSmallRefIdeal.nD AdamSmallRefIdeal.τ).loc AdamSmallRefIdeal.main_arg6),
    m ((c.tc : Thread AdamSmallRefIdeal.nD AdamSmallRefIdeal.τ).loc AdamSmallRefIdeal.main_arg7),
    m ((c.tc : Thread AdamSmallRefIdeal.nD AdamSmallRefIdeal.τ).loc AdamSmallRefIdeal.main_arg8),
    m ((c.tc : Thread AdamSmallRefIdeal.nD AdamSmallRefIdeal.τ).loc AdamSmallRefIdeal.main_arg9),
    m ((c.tc : Thread AdamSmallRefIdeal.nD AdamSmallRefIdeal.τ).loc AdamSmallRefIdeal.main_arg10)⟩

/-- Their gradients, as the reference is given them. -/
abbrev ref_grads : Params (Ideal .f32) :=
  ⟨m ((c.tc : Thread AdamSmallRefIdeal.nD AdamSmallRefIdeal.τ).loc AdamSmallRefIdeal.main_arg11),
    m ((c.tc : Thread AdamSmallRefIdeal.nD AdamSmallRefIdeal.τ).loc AdamSmallRefIdeal.main_arg12),
    m ((c.tc : Thread AdamSmallRefIdeal.nD AdamSmallRefIdeal.τ).loc AdamSmallRefIdeal.main_arg13),
    m ((c.tc : Thread AdamSmallRefIdeal.nD AdamSmallRefIdeal.τ).loc AdamSmallRefIdeal.main_arg14),
    m ((c.tc : Thread AdamSmallRefIdeal.nD AdamSmallRefIdeal.τ).loc AdamSmallRefIdeal.main_arg15),
    m ((c.tc : Thread AdamSmallRefIdeal.nD AdamSmallRefIdeal.τ).loc AdamSmallRefIdeal.main_arg16),
    m ((c.tc : Thread AdamSmallRefIdeal.nD AdamSmallRefIdeal.τ).loc AdamSmallRefIdeal.main_arg17),
    m ((c.tc : Thread AdamSmallRefIdeal.nD AdamSmallRefIdeal.τ).loc AdamSmallRefIdeal.main_arg18),
    m ((c.tc : Thread AdamSmallRefIdeal.nD AdamSmallRefIdeal.τ).loc AdamSmallRefIdeal.main_arg19),
    m ((c.tc : Thread AdamSmallRefIdeal.nD AdamSmallRefIdeal.τ).loc AdamSmallRefIdeal.main_arg20),
    m ((c.tc : Thread AdamSmallRefIdeal.nD AdamSmallRefIdeal.τ).loc AdamSmallRefIdeal.main_arg21)⟩

/-- Their first moments, as the reference is given them. -/
abbrev ref_firsts : Params (Ideal .f32) :=
  ⟨m ((c.tc : Thread AdamSmallRefIdeal.nD AdamSmallRefIdeal.τ).loc AdamSmallRefIdeal.main_arg22),
    m ((c.tc : Thread AdamSmallRefIdeal.nD AdamSmallRefIdeal.τ).loc AdamSmallRefIdeal.main_arg23),
    m ((c.tc : Thread AdamSmallRefIdeal.nD AdamSmallRefIdeal.τ).loc AdamSmallRefIdeal.main_arg24),
    m ((c.tc : Thread AdamSmallRefIdeal.nD AdamSmallRefIdeal.τ).loc AdamSmallRefIdeal.main_arg25),
    m ((c.tc : Thread AdamSmallRefIdeal.nD AdamSmallRefIdeal.τ).loc AdamSmallRefIdeal.main_arg26),
    m ((c.tc : Thread AdamSmallRefIdeal.nD AdamSmallRefIdeal.τ).loc AdamSmallRefIdeal.main_arg27),
    m ((c.tc : Thread AdamSmallRefIdeal.nD AdamSmallRefIdeal.τ).loc AdamSmallRefIdeal.main_arg28),
    m ((c.tc : Thread AdamSmallRefIdeal.nD AdamSmallRefIdeal.τ).loc AdamSmallRefIdeal.main_arg29),
    m ((c.tc : Thread AdamSmallRefIdeal.nD AdamSmallRefIdeal.τ).loc AdamSmallRefIdeal.main_arg30),
    m ((c.tc : Thread AdamSmallRefIdeal.nD AdamSmallRefIdeal.τ).loc AdamSmallRefIdeal.main_arg31),
    m ((c.tc : Thread AdamSmallRefIdeal.nD AdamSmallRefIdeal.τ).loc AdamSmallRefIdeal.main_arg32)⟩

/-- Their second moments, as the reference is given them. -/
abbrev ref_seconds : Params (Ideal .f32) :=
  ⟨m ((c.tc : Thread AdamSmallRefIdeal.nD AdamSmallRefIdeal.τ).loc AdamSmallRefIdeal.main_arg33),
    m ((c.tc : Thread AdamSmallRefIdeal.nD AdamSmallRefIdeal.τ).loc AdamSmallRefIdeal.main_arg34),
    m ((c.tc : Thread AdamSmallRefIdeal.nD AdamSmallRefIdeal.τ).loc AdamSmallRefIdeal.main_arg35),
    m ((c.tc : Thread AdamSmallRefIdeal.nD AdamSmallRefIdeal.τ).loc AdamSmallRefIdeal.main_arg36),
    m ((c.tc : Thread AdamSmallRefIdeal.nD AdamSmallRefIdeal.τ).loc AdamSmallRefIdeal.main_arg37),
    m ((c.tc : Thread AdamSmallRefIdeal.nD AdamSmallRefIdeal.τ).loc AdamSmallRefIdeal.main_arg38),
    m ((c.tc : Thread AdamSmallRefIdeal.nD AdamSmallRefIdeal.τ).loc AdamSmallRefIdeal.main_arg39),
    m ((c.tc : Thread AdamSmallRefIdeal.nD AdamSmallRefIdeal.τ).loc AdamSmallRefIdeal.main_arg40),
    m ((c.tc : Thread AdamSmallRefIdeal.nD AdamSmallRefIdeal.τ).loc AdamSmallRefIdeal.main_arg41),
    m ((c.tc : Thread AdamSmallRefIdeal.nD AdamSmallRefIdeal.τ).loc AdamSmallRefIdeal.main_arg42),
    m ((c.tc : Thread AdamSmallRefIdeal.nD AdamSmallRefIdeal.τ).loc AdamSmallRefIdeal.main_arg43)⟩

theorem tail (f : Ideal .f32 → Ideal .f32 → Ideal .f32 → Ideal .f32 → Ideal .f32) :
    (fun _ : Cert.AdamSmallRefIdeal.S256.Idx => f (Scalar.ofBits .f32 0x00000000#32) (Scalar.ofBits .f32 0x00000000#32)
      (Scalar.ofBits .f32 0x00000000#32) (Scalar.ofBits .f32 0x00000000#32)) = fun _ => f 0 0 0 0 := by
  rw [zero_bits]

/-- The reference's packed changes. -/
theorem delta_packed :
    (fun i => shapeCast S2208x128 (Cert.AdamSmallRefIdeal.Value.res_main_v311 (StableHlo.launchContents m c))
      shapeCasts_S282624_S2208x128 i)
      = (zip delta (ref_weights m c) (ref_grads m c) (ref_firsts m c) (ref_seconds m c)).pack (delta 0 0 0 0) := by
  refine pack_of_filled _ _ _ ?_ _
  iterate 7
    refine piece (congrArg (shapeCast _ · _) ?_) ?_
    · exact delta_line ..
  refine piece (delta_line ..) ?_
  iterate 3
    refine piece (congrArg (shapeCast _ · _) ?_) ?_
    · exact delta_line ..
  exact piece ((delta_line ..).trans (tail delta)) rfl

end Reference

set_option maxHeartbeats 8000000 in
/-- The claim: the gradients, changes and moments the call leaves are the reference's. -/
theorem algebraic : Cert.algebraic_AdamSmallIdeal_AdamSmallRefIdeal := by
  pair_intro
  · run_from Value.run_blocks m g
  · refine θ_run_mono (Cert.AdamSmallRefIdeal.Value.run m' g') fun r hr c => ?_
    have hc := hr c
    clear hr
    have agree : ref_weights m' c = weights m c ∧ ref_grads m' c = grads m c ∧ ref_firsts m' c = firsts m c
        ∧ ref_seconds m' c = seconds m c := by
      obtain ⟨h0, h1, h2, h3, h4, h5, h6, h7, h8, h9, h10, h11, h12, h13, h14, h15, h16, h17, h18, h19, h20,
        h21, h22, h23, h24, h25, h26, h27, h28, h29, h30, h31, h32, h33, h34, h35, h36, h37, h38, h39, h40, h41,
        h42, h43⟩ := hagree c
      unfold ref_weights ref_grads ref_firsts ref_seconds
      rw [h0, h1, h2, h3, h4, h5, h6, h7, h8, h9, h10, h11, h12, h13, h14, h15, h16, h17, h18, h19, h20, h21,
        h22, h23, h24, h25, h26, h27, h28, h29, h30, h31, h32, h33, h34, h35, h36, h37, h38, h39, h40, h41, h42,
        h43]
      exact ⟨rfl, rfl, rfl, rfl⟩
    obtain ⟨ew, eg, em, ev⟩ := agree
    have packed : ∀ f : Ideal .f32 → Ideal .f32 → Ideal .f32 → Ideal .f32 → Ideal .f32,
        (zip f (ref_weights m' c) (ref_grads m' c) (ref_firsts m' c) (ref_seconds m' c)).pack (f 0 0 0 0)
          = fun j => f (V m c main_v12 j) (V m c main_v25 j) (V m c main_v38 j) (V m c main_v51 j) := by
      intro f
      rw [ew, eg, em, ev, entry_weights, entry_grads, entry_firsts, entry_seconds]
      exact funext fun j => pack_zip f ..
    refine ⟨hc.1.trans ?_, hc.2.1.trans ?_, hc.2.2.1.trans ?_, hc.2.2.2.1.trans ?_, hc.2.2.2.2⟩
    all_goals clear hc hagree ew eg em ev
    · symm
      refine (Pipeline.Dat.arrAt_eq_of_covers _ 4 (V m c main_v25) (by decide +kernel) fun t hf y => ?_).trans ?_
      · refine (congrFun (Value.flushed4 m c t) y).trans ?_
        unfold Pipeline.Window.cut
        blk_simp
        frame_out
        pointwise [k0_pay1]
        blk_point [iblk, V, idx t 0, idx t 1]
      · refine (packed fun _ g _ _ => g).symm.trans (Eq.symm ?_)
        refine pack_of_filled _ _ _ ?_ _
        iterate 11 refine piece rfl ?_
        exact piece (tail fun _ g _ _ => g) rfl
    · symm
      refine (Pipeline.Dat.arrAt_eq_of_covers _ 5 (fun j => delta (V m c main_v12 j) (V m c main_v25 j) (V m c main_v38 j)
          (V m c main_v51 j)) (by decide +kernel) fun t hf y => ?_).trans ?_
      · refine (congrFun (Value.flushed5 m c t) y).trans ?_
        unfold Pipeline.Window.cut
        blk_simp
        frame_out
        pointwise [k0_pay1, k0_pay4, k0_pay2, k0_pay3, delta, quot, mom, vel]
        blk_point [iblk, V, idx t 0, idx t 1]
      · exact (packed delta).symm.trans (delta_packed m' c).symm
    · symm
      refine (Pipeline.Dat.arrAt_eq_of_covers _ 6 (fun j => mom (V m c main_v25 j) (V m c main_v38 j))
          (by decide +kernel) fun t hf y => ?_).trans ?_
      · refine (congrFun (Value.flushed6 m c t) y).trans ?_
        unfold Pipeline.Window.cut
        blk_simp
        frame_out
        pointwise [k0_pay1, k0_pay2, mom]
        blk_point [iblk, V, idx t 0, idx t 1]
      · refine (packed fun _ g m _ => mom g m).symm.trans (Eq.symm ?_)
        refine pack_of_filled _ _ _ ?_ _
        iterate 11 refine piece rfl ?_
        exact piece (tail fun _ g m _ => mom g m) rfl
    · symm
      refine (Pipeline.Dat.arrAt_eq_of_covers _ 7 (fun j => vel (V m c main_v25 j) (V m c main_v51 j))
          (by decide +kernel) fun t hf y => ?_).trans ?_
      · refine (congrFun (Value.flushed7 m c t) y).trans ?_
        unfold Pipeline.Window.cut
        blk_simp
        frame_out
        pointwise [k0_pay1, k0_pay3, vel]
        blk_point [iblk, V, idx t 0, idx t 1]
      · refine (packed fun _ g _ v => vel g v).symm.trans (Eq.symm ?_)
        refine pack_of_filled _ _ _ ?_ _
        iterate 11 refine piece rfl ?_
        exact piece (tail fun _ g _ v => vel g v) rfl

end Cert.Proof.AdamSmall

/-! ## Norm: the normalised activations of the second layer -/

namespace Cert.Proof.Norm

open Cert.NormIdeal Cert.NormIdeal.Gen

/-- Division as the reference divides. -/
def quot (x y : Ideal .f32) : Ideal .f32 := Ideal.div x y

/-- A row over the root of its mean square, the gains multiplied in. -/
def normed (h : Vec Ideal S4224x2048 .f32) (g : Vec Ideal S1x2048 .f32) : Vec Ideal S4224x2048 .bf16 := fun j =>
  ((h j : EReal) * Ideal.rsqrt ((quot (∑ k : Fin 2048, (h (ix2 (j 0) k) : EReal) * h (ix2 (j 0) k))
    (Scalar.ofBits .f32 0x45000000#32) : EReal) + (Scalar.ofBits .f32 0x358637BD#32 : Ideal .f32)) : EReal) * g (ix2 0 (j 1))

theorem entry (m : (ℓ : Loc nD τ sig) → Buf (Elt Ideal) ℓ) (c : Dev nD) (k : Fin 2048) :
    V m c main_v0 (ix2 0 k) = m ((c : Thread nD τ).loc main_arg1) (ix1 k) := by
  simp only [V, hostOps0]
  after_results
  pointwise []

theorem idx : ∀ t : Fin cfg0.N, win0_0.index t 0 = win0_2.index t 0 ∧ win0_0.index t 1 = 0
      ∧ win0_1.index t 0 = 0 ∧ win0_1.index t 1 = 0 ∧ win0_2.index t 1 = 0 :=
  (by decide +kernel : ∀ t : Fin grid0.N, _)

theorem algebraic : Cert.algebraic_NormIdeal_NormRefIdeal := by
  pair_intro
  · run_from Value.run_blocks m g
  · hlo_run
    symm
    refine (Pipeline.Dat.arrAt_eq_of_covers _ 2 (normed (m ((c : Thread nD τ).loc main_arg0)) (V m c main_v0))
      (by decide +kernel) fun t hf y => ?_).trans ?_
    · refine (congrFun (Value.flushed2 m c t) y).trans ?_
      unfold Pipeline.Window.cut
      blk_simp
      frame_out
      pointwise [k0_pay1, normed, quot]
      blk_point [iblk, V, idx t]
    · funext j
      pointwise [normed, quot]
      exact congrArg (_ * ·) (entry m c (j 1))

end Cert.Proof.Norm

namespace Cert.Proof

/-- Eight slots added one after another are their sum. -/
theorem eight (f : Fin 8 → EReal) : f 0 + f 1 + f 2 + f 3 + f 4 + f 5 + f 6 + f 7 = ∑ k, f k :=
  (Fin.sum_univ_eight f).symm

end Cert.Proof

/-! ## SumLate: the sum over the devices of the last gathered gradients -/

namespace Cert.Proof.SumLate

open Cert.SumLateIdeal Cert.SumLateIdeal.Gen

/-- Each element summed over the eight slots, a slot per device. -/
def total (g : Vec Ideal S8x288x128 .f32) : Vec Ideal S288x128 .f32 := fun j =>
  (((((((g (ix3 0 (j 0) (j 1)) : EReal) + g (ix3 1 (j 0) (j 1))) + g (ix3 2 (j 0) (j 1))) + g (ix3 3 (j 0) (j 1)))
    + g (ix3 4 (j 0) (j 1))) + g (ix3 5 (j 0) (j 1))) + g (ix3 6 (j 0) (j 1))) + g (ix3 7 (j 0) (j 1))

theorem idx : ∀ t : Fin cfg0.N, win0_0.index t 0 = 0 ∧ win0_0.index t 1 = win0_1.index t 0
      ∧ win0_0.index t 2 = win0_1.index t 1 :=
  (by decide +kernel : ∀ t : Fin grid0.N, _)

theorem algebraic : Cert.algebraic_SumLateIdeal_SumLateRefIdeal := by
  pair_intro
  · run_from Value.run_blocks m g
  · hlo_run
    symm
    refine (Pipeline.Dat.arrAt_eq_of_covers _ 1 (total (m ((c : Thread nD τ).loc main_arg0)))
      (by decide +kernel) fun t hf y => ?_).trans ?_
    · refine (congrFun (Value.flushed1 m c t) y).trans ?_
      unfold Pipeline.Window.cut
      blk_simp
      frame_out
      pointwise [k0_pay1, total]
      blk_point [iblk, V, idx t]
    · funext j
      pointwise [total]
      exact eight fun k => m ((c : Thread nD τ).loc main_arg0) (ix3 k (j 0) (j 1))

end Cert.Proof.SumLate

/-! ## SumVec: the sum over the devices of the gathered vectors -/

namespace Cert.Proof.SumVec

open Cert.SumVecIdeal Cert.SumVecIdeal.Gen

/-- Each element summed over the eight slots, a slot per device. -/
def total (g : Vec Ideal S8x208x128 .f32) : Vec Ideal S208x128 .f32 := fun j =>
  (((((((g (ix3 0 (j 0) (j 1)) : EReal) + g (ix3 1 (j 0) (j 1))) + g (ix3 2 (j 0) (j 1))) + g (ix3 3 (j 0) (j 1)))
    + g (ix3 4 (j 0) (j 1))) + g (ix3 5 (j 0) (j 1))) + g (ix3 6 (j 0) (j 1))) + g (ix3 7 (j 0) (j 1))

theorem idx : ∀ t : Fin cfg0.N, win0_0.index t 0 = 0 ∧ win0_0.index t 1 = win0_1.index t 0
      ∧ win0_0.index t 2 = win0_1.index t 1 :=
  (by decide +kernel : ∀ t : Fin grid0.N, _)

theorem algebraic : Cert.algebraic_SumVecIdeal_SumVecRefIdeal := by
  pair_intro
  · run_from Value.run_blocks m g
  · hlo_run
    symm
    refine (Pipeline.Dat.arrAt_eq_of_covers _ 1 (total (m ((c : Thread nD τ).loc main_arg0)))
      (by decide +kernel) fun t hf y => ?_).trans ?_
    · refine (congrFun (Value.flushed1 m c t) y).trans ?_
      unfold Pipeline.Window.cut
      blk_simp
      frame_out
      pointwise [k0_pay1, total]
      blk_point [iblk, V, idx t]
    · funext j
      pointwise [total]
      exact eight fun k => m ((c : Thread nD τ).loc main_arg0) (ix3 k (j 0) (j 1))

end Cert.Proof.SumVec

/-! ## SumMaps: the sum over the devices of the gathered gate maps -/

namespace Cert.Proof.SumMaps

open Cert.SumMapsIdeal Cert.SumMapsIdeal.Gen

/-- Each element summed over the eight slots, a slot per device. -/
def total (g : Vec Ideal S8x2048x128 .bf16) : Vec Ideal S2048x128 .f32 := fun j =>
  (((((((g (ix3 0 (j 0) (j 1)) : EReal) + g (ix3 1 (j 0) (j 1))) + g (ix3 2 (j 0) (j 1))) + g (ix3 3 (j 0) (j 1)))
    + g (ix3 4 (j 0) (j 1))) + g (ix3 5 (j 0) (j 1))) + g (ix3 6 (j 0) (j 1))) + g (ix3 7 (j 0) (j 1))

theorem idx : ∀ t : Fin cfg0.N, win0_0.index t 0 = 0 ∧ win0_0.index t 1 = win0_1.index t 0
      ∧ win0_0.index t 2 = win0_1.index t 1 :=
  (by decide +kernel : ∀ t : Fin grid0.N, _)

theorem algebraic : Cert.algebraic_SumMapsIdeal_SumMapsRefIdeal := by
  pair_intro
  · run_from Value.run_blocks m g
  · hlo_run
    symm
    refine (Pipeline.Dat.arrAt_eq_of_covers _ 1 (total (m ((c : Thread nD τ).loc main_arg0)))
      (by decide +kernel) fun t hf y => ?_).trans ?_
    · refine (congrFun (Value.flushed1 m c t) y).trans ?_
      unfold Pipeline.Window.cut
      blk_simp
      frame_out
      pointwise [k0_pay1, total]
      blk_point [iblk, V, idx t]
    · funext j
      pointwise [total]
      exact eight fun k => m ((c : Thread nD τ).loc main_arg0) (ix3 k (j 0) (j 1))

end Cert.Proof.SumMaps

/-! ## The gradient of a row over the root of its mean square, over the extended reals -/

namespace Cert.Proof.NormRow

/-- The row's length, as the programs hold it. -/
theorem length_bits : Ideal.ofBits .f32 0x45000000#32 = ((2048 : ℝ) : EReal) := by
  simp [Ideal.ofBits, Ideal.ieee, -EReal.coe_mul]; norm_num

theorem half_bits : Ideal.ofBits .f32 0xBF000000#32 = ((-(1 / 2) : ℝ) : EReal) := by
  simp [Ideal.ofBits, Ideal.ieee, -EReal.coe_mul]; norm_num

theorem eps_bits : ∃ e : ℝ, 0 < e ∧ Ideal.ofBits .f32 0x358637BD#32 = (e : EReal) :=
  ⟨8796093 * 2 ^ (-43 : Int), by positivity, by simp [Ideal.ofBits, Ideal.ieee, -EReal.coe_mul]⟩

theorem sq_nonneg (x : EReal) : 0 ≤ x * x := by
  induction x with
  | bot => simp
  | top => simp
  | coe r => exact_mod_cast mul_self_nonneg r

theorem sq_top (x : EReal) (h : x = ⊤ ∨ x = ⊥) : x * x = ⊤ := by rcases h with rfl | rfl <;> simp

/-- A row holds an infinity, and its squares' sum is infinite, or it is a row of reals. -/
theorem row_cases {n : Nat} (h : Fin n → EReal) :
    ∑ k, h k * h k = ⊤ ∨ ∃ r : Fin n → ℝ, h = fun k => (r k : EReal) := by
  by_cases H : ∃ k, h k = ⊤ ∨ h k = ⊥
  · obtain ⟨k, hk⟩ := H
    left
    refine top_le_iff.1 ((sq_top _ hk).symm.le.trans ?_)
    exact Finset.single_le_sum (f := fun k => h k * h k) (fun i _ => sq_nonneg _) (Finset.mem_univ k)
  · right
    simp only [not_exists, not_or] at H
    exact ⟨fun k => (h k).toReal, funext fun k => (EReal.coe_toReal (H k).1 (H k).2).symm⟩

/-- A real factor goes into a sum of extended reals, when it is not negative. -/
theorem real_mul_add (r : ℝ) (hr : 0 ≤ r) (x y : EReal) : (r : EReal) * (x + y) = r * x + r * y :=
  EReal.left_distrib_of_nonneg_of_ne_top (by exact_mod_cast hr) (EReal.coe_ne_top r) x y

theorem real_mul_sum (r : ℝ) (hr : 0 ≤ r) {n : Nat} (f : Fin n → EReal) : (r : EReal) * ∑ k, f k = ∑ k, (r : EReal) * f k := by
  induction n with
  | zero => simp
  | succ n ih => rw [Fin.sum_univ_succ, Fin.sum_univ_succ, real_mul_add r hr, ih]

/-- Twice a value is its product with two. -/
theorem twice (x : EReal) : x + x = ((2 : ℝ) : EReal) * x := by
  induction x with
  | bot => rw [EReal.coe_mul_bot_of_pos (by norm_num)]; rfl
  | top => rw [EReal.coe_mul_top_of_pos (by norm_num)]; rfl
  | coe r => rw [← EReal.coe_mul, ← EReal.coe_add, two_mul]

/-- The gradient at one element of a row `h` of activations, from the cotangents of the activations, `d`, and of the
    normalised row with the gains in, `w`: the derivative through the square, the mean and the root on the left, the
    shorter form with one sum on the right. No row is left out: where one holds an infinity the root's reciprocal is zero. -/
theorem grad_eq {n : Nat} (h w : Fin n → EReal) (i : Fin n) (d : EReal) (N e : ℝ) (hN : 0 < N) (he : 0 < e)
    (s r S : EReal) (hs : s = Ideal.div (∑ k, h k * h k) N + e) (hr : r = Ideal.rsqrt s) (hS : S = ∑ k, h k * w k) :
    d + w i * r + h i * Ideal.div (S * (((-(1 / 2) : ℝ) : EReal) * Ideal.div r s)) N
        + Ideal.div (S * (((-(1 / 2) : ℝ) : EReal) * Ideal.div r s)) N * h i
      = d + r * (w i - h i * r * Ideal.div (∑ k, w k * (h k * r)) N) := by
  rcases row_cases h with ht | ⟨q, rfl⟩
  · have st : s = ⊤ := by
      rw [hs, ht, Ideal.div_coe hN.ne', EReal.top_mul_coe_of_pos (by positivity), EReal.top_add_coe]
    have r0 : r = 0 := by rw [hr, st, Ideal.rsqrt_top]
    have z : Ideal.div (0 : EReal) (N : EReal) = 0 := by rw [Ideal.div_coe hN.ne', zero_mul]
    have z' : Ideal.div (0 : EReal) ⊤ = 0 := by simp [Ideal.div]
    rw [r0, st]
    simp only [z, z', mul_zero, zero_mul, add_zero]
  · have sq : ∑ k, ((q k : ℝ) : EReal) * (q k : EReal) = ((∑ k, q k * q k : ℝ) : EReal) := by
      exact (map_sum (⟨⟨Real.toEReal, rfl⟩, fun _ _ => rfl⟩ : ℝ →+ EReal) _ _).symm
    set σ : ℝ := (∑ k, q k * q k) * (1 / N) + e with hσ
    have σpos : 0 < σ := add_pos_of_nonneg_of_pos
      (mul_nonneg (Finset.sum_nonneg fun k _ => mul_self_nonneg _) (by positivity)) he
    have sσ : s = (σ : EReal) := by
      rw [hs, sq, Ideal.div_coe hN.ne', ← EReal.coe_mul, ← EReal.coe_add]
    set ρ : ℝ := (Real.sqrt σ)⁻¹ with hρ
    have ρpos : 0 < ρ := inv_pos.2 (Real.sqrt_pos.2 σpos)
    have rρ : r = (ρ : EReal) := by
      rw [hr, sσ, Ideal.rsqrt_coe, if_neg σpos.not_gt, if_neg σpos.ne']
    have cube : ρ * (1 / σ) = ρ * ρ * ρ := by
      have : ρ * ρ = 1 / σ := by
        rw [hρ, ← mul_inv, Real.mul_self_sqrt σpos.le, one_div]
      rw [← this, mul_assoc]
    have sum : ∑ k, w k * ((q k : EReal) * r) = (ρ : EReal) * S := by
      rw [hS, real_mul_sum ρ ρpos.le, rρ]
      exact Finset.sum_congr rfl fun k _ => show w k * ((q k : EReal) * (ρ : EReal)) = (ρ : EReal) * ((q k : EReal) * w k) by ac_rfl
    rw [sum, mul_comm (Ideal.div (S * _) _) (q i : EReal), add_assoc (d + _), twice, rρ, sσ]
    rw [Ideal.div_coe hN.ne', Ideal.div_coe hN.ne', Ideal.div_coe σpos.ne', sub_eq_add_neg, real_mul_add ρ ρpos.le, ← add_assoc d,
      mul_comm (w i)]
    congr 1
    rw [← EReal.coe_mul ρ, cube]
    have e1 : ((2 : ℝ) : EReal) * ((q i : EReal) * (S * (((-(1 / 2) : ℝ) : EReal) * ((ρ * ρ * ρ : ℝ) : EReal)) * ((1 / N : ℝ) : EReal)))
        = S * ((2 * (q i * (-(1 / 2) * (ρ * ρ * ρ) * (1 / N))) : ℝ) : EReal) := by
      push_cast
      ac_rfl
    have e2 : (ρ : EReal) * -((q i : EReal) * (ρ : EReal) * ((ρ : EReal) * S * ((1 / N : ℝ) : EReal)))
        = S * ((-(ρ * (q i * ρ * (ρ * (1 / N)))) : ℝ) : EReal) := by
      rw [EReal.coe_neg, mul_neg, mul_neg]
      push_cast
      congr 1
      ac_rfl
    rw [e1, e2]
    congr 2
    ring

end Cert.Proof.NormRow

/-! ## NormBwd: the gradient of the second layer's norm and of its gains -/

namespace Cert.Proof.NormBwd

open Cert.NormBwdIdeal Cert.NormBwdIdeal.Gen

/-- Division as the reference divides. -/
def quot (x y : Ideal .f32) : Ideal .f32 := Ideal.div x y

/-- The reciprocal root of a row's mean square. -/
def rstd (h : Vec Ideal S4224x2048 .f32) (i : Fin 4224) : EReal :=
  Ideal.rsqrt ((quot (∑ k : Fin 2048, (h (ix2 i k) : EReal) * h (ix2 i k)) (Scalar.ofBits .f32 0x45000000#32) : EReal)
    + (Scalar.ofBits .f32 0x358637BD#32 : Ideal .f32))

/-- The norm's gradient, a row's sums taken once, as the call computes it. -/
def grad (h dn d : Vec Ideal S4224x2048 .f32) (g : Vec Ideal S1x2048 .f32) : Vec Ideal S4224x2048 .f32 := fun j =>
  (d j : EReal) + rstd h (j 0) * (((dn j : EReal) * g (ix2 0 (j 1))) - ((h j : EReal) * rstd h (j 0))
    * (quot (∑ k : Fin 2048, ((dn (ix2 (j 0) k) : EReal) * g (ix2 0 k)) * ((h (ix2 (j 0) k) : EReal) * rstd h (j 0)))
      (Scalar.ofBits .f32 0x45000000#32) : EReal))

/-- The derivative through the mean square, once for each of the two factors of a square. -/
def slope (h dn : Vec Ideal S4224x2048 .f32) (g : Vec Ideal S1x2048 .f32) (i : Fin 4224) : EReal :=
  quot ((∑ k : Fin 2048, (h (ix2 i k) : EReal) * ((dn (ix2 i k) : EReal) * g (ix2 0 k)) : EReal)
    * ((Scalar.ofBits .f32 0xBF000000#32 : Ideal .f32) * (quot (rstd h i)
      ((quot (∑ k : Fin 2048, (h (ix2 i k) : EReal) * h (ix2 i k)) (Scalar.ofBits .f32 0x45000000#32) : EReal)
        + (Scalar.ofBits .f32 0x358637BD#32 : Ideal .f32)) : EReal))) (Scalar.ofBits .f32 0x45000000#32)

theorem idx : ∀ t : Fin cfg0.N, (t.val % 8 = 0 → ¬ 1 ≤ t.val) ∧ (¬ t.val % 8 = 0 → 1 ≤ t.val)
      ∧ win0_0.index t 0 = win0_4.index t 0 ∧ win0_0.index t 1 = 0
      ∧ win0_1.index t 0 = win0_4.index t 0 ∧ win0_1.index t 1 = 0
      ∧ win0_2.index t 0 = win0_4.index t 0 ∧ win0_2.index t 1 = 0
      ∧ win0_3.index t 0 = 0 ∧ win0_3.index t 1 = 0 ∧ win0_4.index t 1 = 0
      ∧ win0_5.index t 0 = win0_4.index t 0 ∧ win0_5.index t 1 = 0 :=
  (by decide +kernel : ∀ t : Fin grid0.N, _)

/-- The gains as one row. -/
def gains (g : Vec Ideal S2048 .f32) : Vec Ideal S1x2048 .f32 := fun k => g (ix1 (k 1))

theorem entry (m : (ℓ : Loc nD τ sig) → Buf (Elt Ideal) ℓ) (c : Dev nD) :
    V m c main_v0 = gains (m ((c : Thread nD τ).loc main_arg3)) := by
  funext k
  simp only [V, hostOps0]
  after_results
  pointwise [gains]

/-- The derivative through the norm's lines is the call's shorter form. -/
theorem shorter (h dn d : Vec Ideal S4224x2048 .f32) (g : Vec Ideal S1x2048 .f32) (a : Fin 4224)
    (b : Fin 2048) :
    (d (ix2 a b) : EReal) + ((dn (ix2 a b) : EReal) * g (ix2 0 b)) * rstd h a
        + h (ix2 a b) * slope h dn g a + slope h dn g a * h (ix2 a b) = grad h dn d g (ix2 a b) := by
  obtain ⟨e, epos, he⟩ := NormRow.eps_bits
  have key := NormRow.grad_eq (fun k => h (ix2 a k)) (fun k => (dn (ix2 a k) : EReal) * g (ix2 0 k)) b (d (ix2 a b))
    2048 e (by norm_num) epos _ _ _ rfl rfl rfl
  rw [← NormRow.length_bits, ← NormRow.half_bits, ← he] at key
  exact key

/-- The rows that a point adds up: the products of the cotangents and the normalised activations, down a column. -/
def part (h dn : Vec Ideal S4224x2048 .f32) (t : Fin cfg0.N) : Vec Ideal S1x2048 .f32 := fun j =>
  ∑ k : Fin 528, (dn (ix2 ⟨528 * t.val + k.val, by have := t.isLt; have := k.isLt; have : cfg0.N = 8 := N_0; omega⟩ (j 1)) : EReal)
    * ((h (ix2 ⟨528 * t.val + k.val, by have := t.isLt; have := k.isLt; have : cfg0.N = 8 := N_0; omega⟩ (j 1)) : EReal)
      * rstd h ⟨528 * t.val + k.val, by have := t.isLt; have := k.isLt; have : cfg0.N = 8 := N_0; omega⟩)

/-- Their sum down a whole column. -/
def columns (h dn : Vec Ideal S4224x2048 .f32) : Vec Ideal S1x2048 .f32 := fun j =>
  ∑ i : Fin 4224, (dn (ix2 i (j 1)) : EReal) * ((h (ix2 i (j 1)) : EReal) * rstd h i)

/-- A column's rows, 528 to a point. -/
theorem rows_split (f : Fin 4224 → EReal) : ∑ i, f i
    = ∑ s : Fin 8, ∑ k : Fin 528, f ⟨528 * s.val + k.val, by have := s.isLt; have := k.isLt; omega⟩ := by
  rw [← Fintype.sum_prod_type']
  exact (Fintype.sum_equiv (finProdFinEquiv (m := 8) (n := 528)) _ f fun p =>
    congrArg f (Fin.ext ((add_comm _ _).trans (finProdFinEquiv_apply_val p).symm))).symm

theorem columns_parts (h dn : Vec Ideal S4224x2048 .f32) (j : S1x2048.Idx) : columns h dn j = ∑ s, part h dn s j :=
  rows_split fun i => (dn (ix2 i (j 1)) : EReal) * ((h (ix2 i (j 1)) : EReal) * rstd h i)

theorem row : ∀ t : Fin cfg0.N, win0_0.index t 0 = t.val ∧ win0_0.index t 1 = 0
      ∧ win0_1.index t 0 = t.val ∧ win0_1.index t 1 = 0 ∧ win0_6.index t 0 = 0 ∧ win0_6.index t 1 = 0 :=
  (by decide +kernel : ∀ t : Fin grid0.N, _)

theorem accumulated {a : (t : Fin cfg0.N) → ((cfg0.win 6).xblock (cfg0.grid.coords t)).Idx → EReal}
    {x : (t : Fin cfg0.N) → S1x2048.Idx → EReal}
    (h : ∀ t, a t = (cfg0.win 6).cut (grid0.coords t) (x t)) (part : Fin cfg0.N → S1x2048.Idx → EReal)
    (first : ∀ t, t.val % 8 = 0 → a t = (cfg0.win 6).cut (grid0.coords t) (part t))
    (next : ∀ t : Fin cfg0.N, ¬ t.val % 8 = 0 → a t = (cfg0.win 6).cut (grid0.coords t)
      fun j => x ⟨t.val - 1, Nat.lt_of_le_of_lt (Nat.sub_le _ _) t.isLt⟩ j + part t j) (t : Fin cfg0.N) :
    a t = (cfg0.win 6).cut (grid0.coords t) fun j => ∑ s ∈ Finset.univ.filter (· ≤ t), part s j := by
  have whole : ∀ (t : Fin cfg0.N) (u v : S1x2048.Idx → EReal),
      (cfg0.win 6).cut (grid0.coords t) u = (cfg0.win 6).cut (grid0.coords t) v → u = v := fun t u v e =>
    funext fun j => congrFun e j
  rw [h]
  congr 1
  obtain ⟨n, hn⟩ := t
  induction n with
  | zero =>
    rw [whole _ _ _ ((h ⟨0, hn⟩).symm.trans (first ⟨0, hn⟩ rfl))]
    funext j
    rw [show Finset.univ.filter (· ≤ (⟨0, hn⟩ : Fin cfg0.N)) = {⟨0, hn⟩} by
      ext s
      simp only [Finset.mem_filter, Finset.mem_univ, true_and, Finset.mem_singleton, Fin.ext_iff, Fin.le_def]
      exact Nat.le_zero, Finset.sum_singleton]
  | succ n ih =>
    have h0 : ¬ (⟨n + 1, hn⟩ : Fin cfg0.N).val % 8 = 0 := by
      have : cfg0.N = 8 := N_0
      show ¬ (n + 1) % 8 = 0
      omega
    have w := whole _ _ _ ((h ⟨n + 1, hn⟩).symm.trans (next ⟨n + 1, hn⟩ h0))
    rw [w]
    funext j
    have i := congrFun (ih (Nat.lt_of_succ_lt hn)) j
    refine (congrArg (· + part ⟨n + 1, hn⟩ j) i).trans ?_
    rw [show Finset.univ.filter (· ≤ (⟨n + 1, hn⟩ : Fin cfg0.N))
        = insert ⟨n + 1, hn⟩ (Finset.univ.filter (· ≤ (⟨n, Nat.lt_of_succ_lt hn⟩ : Fin cfg0.N))) by
      ext s; simp [Fin.ext_iff, Fin.le_def]; omega, Finset.sum_insert (by simp [Fin.le_def]), add_comm]

theorem pair (j : S4224x2048.Idx) : ∃ (a : Fin 4224) (b : Fin 2048), j = ix2 a b :=
  ⟨j 0, j 1, funext fun k => match k with | ⟨0, _⟩ => rfl | ⟨1, _⟩ => rfl⟩

theorem algebraic : Cert.algebraic_NormBwdIdeal_NormBwdRefIdeal := by
  pair_intro
  · run_from Value.run_blocks m g
  · hlo_run
    · symm
      refine (Pipeline.Dat.arrAt_eq_of_covers _ 4 (grad (m ((c : Thread nD τ).loc main_arg0))
        (m ((c : Thread nD τ).loc main_arg1)) (m ((c : Thread nD τ).loc main_arg2)) (V m c main_v0))
        (by decide +kernel) fun t hf y => ?_).trans ?_
      · by_cases h0 : t.val % 8 = 0
        · refine (congrFun (Value.flushed4_A m c t h0 ((idx t).1 h0)) y).trans ?_
          unfold Pipeline.Window.cut
          blk_simp
          frame_out
          pointwise [k0_pay4, k0_pay3, k0_pay2, grad, rstd, quot]
          blk_point [iblk, V, idx t]
        · refine (congrFun (Value.flushed4_B m c t h0 ((idx t).2.1 h0)) y).trans ?_
          unfold Pipeline.Window.cut
          blk_simp
          frame_out
          pointwise [k0_pay4, k0_pay3, k0_pay2, grad, rstd, quot]
          blk_point [iblk, V, idx t]
      · funext j
        obtain ⟨a, b, rfl⟩ := pair j
        refine (shorter _ _ _ _ a b).symm.trans ?_
        rw [entry]
        pointwise [slope, rstd, quot, gains]
        simp only [Finset.univ_unique, Finset.sum_singleton]
    · symm
      refine (Pipeline.Dat.arrAt_eq_of_covers _ 5 (show Vec Ideal S4224x2048 .bf16 from fun j => grad (m ((c : Thread nD τ).loc main_arg0))
        (m ((c : Thread nD τ).loc main_arg1)) (m ((c : Thread nD τ).loc main_arg2)) (V m c main_v0) j)
        (by decide +kernel) fun t hf y => ?_).trans ?_
      · by_cases h0 : t.val % 8 = 0
        · refine (congrFun (Value.flushed5_A m c t h0 ((idx t).1 h0)) y).trans ?_
          unfold Pipeline.Window.cut
          blk_simp
          frame_out
          pointwise [k0_pay5, k0_pay4, k0_pay3, k0_pay2, grad, rstd, quot]
          blk_point [iblk, V, idx t]
        · refine (congrFun (Value.flushed5_B m c t h0 ((idx t).2.1 h0)) y).trans ?_
          unfold Pipeline.Window.cut
          blk_simp
          frame_out
          pointwise [k0_pay5, k0_pay4, k0_pay3, k0_pay2, grad, rstd, quot]
          blk_point [iblk, V, idx t]
      · funext j
        obtain ⟨a, b, rfl⟩ := pair j
        refine (shorter _ _ _ _ a b).symm.trans ?_
        rw [entry]
        pointwise [slope, rstd, quot, gains]
        simp only [Finset.univ_unique, Finset.sum_singleton]
    · symm
      have acc := accumulated (Value.flushed6 m c)
        (part (m ((c : Thread nD τ).loc main_arg0)) (m ((c : Thread nD τ).loc main_arg1))) ?_ ?_
      · refine (Pipeline.Dat.arrAt_eq_of_covers _ 6 (columns (m ((c : Thread nD τ).loc main_arg0))
          (m ((c : Thread nD τ).loc main_arg1))) (by decide +kernel) fun t hf y => ?_).trans ?_
        · refine (congrFun (acc t) y).trans ?_
          have last : ∀ t : Fin cfg0.N, (cfg0.win 6).flush t = true → t.val = 7 :=
            (by decide +kernel : ∀ t : Fin grid0.N, _)
          unfold Pipeline.Window.cut
          blk_simp
          rw [Finset.filter_true_of_mem fun s _ => Fin.le_def.2 (by rw [last t hf]; have := s.isLt; have : cfg0.N = 8 := N_0; omega),
            ← columns_parts]
          pointwise [columns]
          blk_point [row t]
        · funext j
          pointwise [columns, rstd, quot]
          simp only [Finset.univ_unique, Finset.sum_singleton]
          exact Finset.sum_congr rfl fun k _ => mul_comm _ _
      · intro t h0
        refine (Value.flushed6_A m c t h0 ((idx t).1 h0)).trans ?_
        funext y
        unfold Pipeline.Window.cut
        blk_simp
        frame_out
        pointwise [k0_pay6, k0_pay3, k0_pay2, part, rstd, quot]
        blk_point [iblk, V, row t]
      · intro t h0
        refine (Value.flushed6_B m c t h0 ((idx t).2.1 h0)).trans ?_
        funext y
        unfold Pipeline.Window.cut
        blk_simp
        frame_out
        pointwise [k0_pay1, k0_pay6, k0_pay3, k0_pay2, part, rstd, quot]
        refine congrArg (_ + ·) ?_
        blk_point [iblk, V, row t]

end Cert.Proof.NormBwd

/-! ## The step over the two weight matrices -/

namespace Cert.Proof

/-- A device's own part and the seven received, added one after another. -/
def eightParts (own : EReal) (f : Fin 7 → EReal) : EReal :=
  own + f 0 + f 1 + f 2 + f 3 + f 4 + f 5 + f 6

theorem eightParts_eq (own : EReal) (f : Fin 7 → EReal) : eightParts own f = own + ∑ k, f k := by
  rw [Fin.sum_univ_seven, eightParts]
  simp only [add_assoc]

/-- Rows `p` to `p + q` of layer `k` after the step, every other element the old one. `f` is the quantity of the step
    that is kept: of the parameter, its gradient, its first and its second moment. -/
def stepped {r n q : Nat} (k p : Nat) (f : Ideal .f32 → Ideal .f32 → Ideal .f32 → Ideal .f32 → Ideal .f32)
    (w m v : Vec Ideal ⟨3, ![2, r, n]⟩ .f32) (own : Vec Ideal ⟨2, ![q, n]⟩ .bf16) (landed : Vec Ideal ⟨3, ![7, q, n]⟩ .bf16)
    (old : Vec Ideal ⟨3, ![2, r, n]⟩ .f32) : Vec Ideal ⟨3, ![2, r, n]⟩ .f32 := fun j =>
  if h : (j 0).val = k ∧ p ≤ (j 1).val ∧ (j 1).val < p + q then
    f (w j) (eightParts (own (ix2 ⟨(j 1).val - p, by omega⟩ (j 2))) fun i => landed (ix3 i ⟨(j 1).val - p, by omega⟩ (j 2)))
      (m j) (v j)
  else old j

/-- An element outside the rows of the step is the old one. -/
theorem stepped_kept {r n q : Nat} (k p : Nat) (f : Ideal .f32 → Ideal .f32 → Ideal .f32 → Ideal .f32 → Ideal .f32)
    (w m v : Vec Ideal ⟨3, ![2, r, n]⟩ .f32) (own : Vec Ideal ⟨2, ![q, n]⟩ .bf16) (landed : Vec Ideal ⟨3, ![7, q, n]⟩ .bf16)
    (old : Vec Ideal ⟨3, ![2, r, n]⟩ .f32) (j : (⟨3, ![2, r, n]⟩ : Shape).Idx)
    (h : ¬((j 0).val = k ∧ p ≤ (j 1).val ∧ (j 1).val < p + q)) : old j = stepped k p f w m v own landed old j := by
  unfold stepped
  rw [dif_neg h]

theorem triple {n0 n1 n2 : Nat} (j : (⟨3, ![n0, n1, n2]⟩ : Shape).Idx) : ∃ a b d, j = ix3 a b d :=
  ⟨j 0, j 1, j 2, funext fun a => by fin_cases a <;> rfl⟩

end Cert.Proof

/-! ## AdamOutLate: the step over the output weights of the second layer -/

namespace Cert.Proof.AdamOutLate

open Cert.AdamOutLateIdeal Cert.AdamOutLateIdeal.Gen
open AdamSmall (delta mom vel quot)

/-- One point of the grid, and every window takes the same layer. -/
theorem idx : ∀ t : Fin cfg0.N, (win0_5.index t 0 = 1)
      ∧ (∀ a : Fin 3, win0_0.index t a = win0_5.index t a ∧ win0_3.index t a = win0_5.index t a
        ∧ win0_4.index t a = win0_5.index t a ∧ win0_6.index t a = win0_5.index t a
        ∧ win0_7.index t a = win0_5.index t a ∧ win0_8.index t a = win0_5.index t a)
      ∧ (win0_1.index t 0 = win0_5.index t 1 ∧ win0_1.index t 1 = win0_5.index t 2)
      ∧ win0_2.index t 0 = 0 ∧ win0_2.index t 1 = win0_1.index t 0 ∧ win0_2.index t 2 = win0_5.index t 2 :=
  (by decide +kernel : ∀ t : Fin grid0.N, _)

set_option maxHeartbeats 4000000 in
theorem algebraic : Cert.algebraic_AdamOutLateIdeal_AdamOutLateRefIdeal := by
  pair_intro
  · run_from Value.run_blocks m g
  · hlo_run
    · symm
      refine (Pipeline.Dat.arrAt_eq_of_coversWhere_of_agree _ 5 (stepped 1 0 (fun _ g _ _ => g) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)))
        (fun β => β (0 : Fin _) = 1) (by decide +kernel) (fun t hf y => ?_) (fun j hj => ?_)).trans ?_
      · refine (congrFun (Value.flushed5_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact (idx t).1
      · blk_simp [Pipeline.Window.cell_apply] at hj
        refine (congrFun (A_eq m c 5) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 6 (stepped 1 0 (delta) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg6)))
        (fun β => β (0 : Fin _) = 1) (by decide +kernel) (fun t hf y => ?_) (fun j hj => ?_)).trans ?_
      · refine (congrFun (Value.flushed6_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.1.trans (idx t).1
      · blk_simp [Pipeline.Window.cell_apply] at hj
        refine (congrFun (A_eq m c 6) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 7 (stepped 1 0 (fun _ g m _ => mom g m) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg7)))
        (fun β => β (0 : Fin _) = 1) (by decide +kernel) (fun t hf y => ?_) (fun j hj => ?_)).trans ?_
      · refine (congrFun (Value.flushed7_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.2.1.trans (idx t).1
      · blk_simp [Pipeline.Window.cell_apply] at hj
        refine (congrFun (A_eq m c 7) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 8 (stepped 1 0 (fun _ g _ v => vel g v) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg8)))
        (fun β => β (0 : Fin _) = 1) (by decide +kernel) (fun t hf y => ?_) (fun j hj => ?_)).trans ?_
      · refine (congrFun (Value.flushed8_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.2.2.trans (idx t).1
      · blk_simp [Pipeline.Window.cell_apply] at hj
        refine (congrFun (A_eq m c 8) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]

end Cert.Proof.AdamOutLate

/-! ## AdamOutEarly: the step over the output weights of the first layer -/

namespace Cert.Proof.AdamOutEarly

open Cert.AdamOutEarlyIdeal Cert.AdamOutEarlyIdeal.Gen
open AdamSmall (delta mom vel quot)

/-- One point of the grid, and every window takes the same layer. -/
theorem idx : ∀ t : Fin cfg0.N, (win0_5.index t 0 = 0)
      ∧ (∀ a : Fin 3, win0_0.index t a = win0_5.index t a ∧ win0_3.index t a = win0_5.index t a
        ∧ win0_4.index t a = win0_5.index t a ∧ win0_6.index t a = win0_5.index t a
        ∧ win0_7.index t a = win0_5.index t a ∧ win0_8.index t a = win0_5.index t a)
      ∧ (win0_1.index t 0 = win0_5.index t 1 ∧ win0_1.index t 1 = win0_5.index t 2)
      ∧ win0_2.index t 0 = 0 ∧ win0_2.index t 1 = win0_1.index t 0 ∧ win0_2.index t 2 = win0_5.index t 2 :=
  (by decide +kernel : ∀ t : Fin grid0.N, _)

set_option maxHeartbeats 4000000 in
theorem algebraic : Cert.algebraic_AdamOutEarlyIdeal_AdamOutEarlyRefIdeal := by
  pair_intro
  · run_from Value.run_blocks m g
  · hlo_run
    · symm
      refine (Pipeline.Dat.arrAt_eq_of_coversWhere_of_agree _ 5 (stepped 0 0 (fun _ g _ _ => g) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)))
        (fun β => β (0 : Fin _) = 0) (by decide +kernel) (fun t hf y => ?_) (fun j hj => ?_)).trans ?_
      · refine (congrFun (Value.flushed5_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact (idx t).1
      · blk_simp [Pipeline.Window.cell_apply] at hj
        refine (congrFun (A_eq m c 5) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 6 (stepped 0 0 (delta) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg6)))
        (fun β => β (0 : Fin _) = 0) (by decide +kernel) (fun t hf y => ?_) (fun j hj => ?_)).trans ?_
      · refine (congrFun (Value.flushed6_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.1.trans (idx t).1
      · blk_simp [Pipeline.Window.cell_apply] at hj
        refine (congrFun (A_eq m c 6) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 7 (stepped 0 0 (fun _ g m _ => mom g m) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg7)))
        (fun β => β (0 : Fin _) = 0) (by decide +kernel) (fun t hf y => ?_) (fun j hj => ?_)).trans ?_
      · refine (congrFun (Value.flushed7_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.2.1.trans (idx t).1
      · blk_simp [Pipeline.Window.cell_apply] at hj
        refine (congrFun (A_eq m c 7) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 8 (stepped 0 0 (fun _ g _ v => vel g v) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg8)))
        (fun β => β (0 : Fin _) = 0) (by decide +kernel) (fun t hf y => ?_) (fun j hj => ?_)).trans ?_
      · refine (congrFun (Value.flushed8_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.2.2.trans (idx t).1
      · blk_simp [Pipeline.Window.cell_apply] at hj
        refine (congrFun (A_eq m c 8) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]

end Cert.Proof.AdamOutEarly

/-! ## AdamInLate: the step over the input weights of the second layer -/

namespace Cert.Proof.AdamInLate

open Cert.AdamInLateIdeal Cert.AdamInLateIdeal.Gen
open AdamSmall (delta mom vel quot)

/-- A block of rows at a point, of the second layer, the same rows in every window. -/
theorem idx : ∀ t : Fin cfg0.N, (win0_5.index t 0 = 1)
      ∧ (∀ a : Fin 3, win0_0.index t a = win0_5.index t a ∧ win0_3.index t a = win0_5.index t a
        ∧ win0_4.index t a = win0_5.index t a ∧ win0_6.index t a = win0_5.index t a
        ∧ win0_7.index t a = win0_5.index t a ∧ win0_8.index t a = win0_5.index t a)
      ∧ (win0_1.index t 0 = win0_5.index t 1 ∧ win0_1.index t 1 = win0_5.index t 2)
      ∧ win0_2.index t 0 = 0 ∧ win0_2.index t 1 = win0_1.index t 0 ∧ win0_2.index t 2 = win0_5.index t 2 :=
  (by decide +kernel : ∀ t : Fin grid0.N, _)

set_option maxHeartbeats 4000000 in
theorem algebraic : Cert.algebraic_AdamInLateIdeal_AdamInLateRefIdeal := by
  pair_intro
  · run_from Value.run_blocks m g
  · hlo_run
    · symm
      refine (Pipeline.Dat.arrAt_eq_of_coversWhere_of_agree _ 5 (stepped 1 0 (fun _ g _ _ => g) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)))
        (fun β => β (0 : Fin _) = 1) (by decide +kernel) (fun t hf y => ?_) (fun j hj => ?_)).trans ?_
      · refine (congrFun (Value.flushed5_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact (idx t).1
      · blk_simp [Pipeline.Window.cell_apply] at hj
        refine (congrFun (A_eq m c 5) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 6 (stepped 1 0 (delta) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg6)))
        (fun β => β (0 : Fin _) = 1) (by decide +kernel) (fun t hf y => ?_) (fun j hj => ?_)).trans ?_
      · refine (congrFun (Value.flushed6_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.1.trans (idx t).1
      · blk_simp [Pipeline.Window.cell_apply] at hj
        refine (congrFun (A_eq m c 6) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 7 (stepped 1 0 (fun _ g m _ => mom g m) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg7)))
        (fun β => β (0 : Fin _) = 1) (by decide +kernel) (fun t hf y => ?_) (fun j hj => ?_)).trans ?_
      · refine (congrFun (Value.flushed7_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.2.1.trans (idx t).1
      · blk_simp [Pipeline.Window.cell_apply] at hj
        refine (congrFun (A_eq m c 7) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]
    · symm
      refine (Pipeline.Dat.arrAt_eq_of_coversWhere_of_agree _ 8 (stepped 1 0 (fun _ g _ v => vel g v) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg8)))
        (fun β => β (0 : Fin _) = 1) (by decide +kernel) (fun t hf y => ?_) (fun j hj => ?_)).trans ?_
      · refine (congrFun (Value.flushed8_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          exact ((idx t).2.1 0).2.2.2.2.2.trans (idx t).1
      · blk_simp [Pipeline.Window.cell_apply] at hj
        refine (congrFun (A_eq m c 8) _).trans ?_
        simp only [V, hostOps0]
        after_results
        exact stepped_kept _ _ _ _ _ _ _ _ _ j fun h => hj ((Nat.div_one _).trans h.1)
      · funext j
        obtain ⟨a, b, d, rfl⟩ := triple j
        obtain ⟨h0, h1, h2, h3, h4, h5, h6, h7, h8⟩ := hagree c
        obtain rfl | rfl : a = 0 ∨ a = 1 := by omega
        all_goals
          pointwise [stepped, eightParts_eq, delta, quot, mom, vel]
          try simp only [h0, h1, h2, h3, h4, h5, h6, h7, h8]

end Cert.Proof.AdamInLate

/-! ## AdamInTop: the step over the upper rows of the input weights of the first layer -/

namespace Cert.Proof.AdamInTop

open Cert.AdamInTopIdeal Cert.AdamInTopIdeal.Gen
open AdamSmall (delta mom vel quot)

/-- A block of the upper rows at a point, the same rows in every window. -/
theorem idx : ∀ t : Fin cfg0.N, (win0_5.index t 0 = 0 ∧ win0_5.index t 1 < 2)
      ∧ (∀ a : Fin 3, win0_0.index t a = win0_5.index t a ∧ win0_3.index t a = win0_5.index t a
        ∧ win0_4.index t a = win0_5.index t a ∧ win0_6.index t a = win0_5.index t a
        ∧ win0_7.index t a = win0_5.index t a ∧ win0_8.index t a = win0_5.index t a)
      ∧ (win0_1.index t 0 = win0_5.index t 1 ∧ win0_1.index t 1 = win0_5.index t 2)
      ∧ win0_2.index t 0 = 0 ∧ win0_2.index t 1 = win0_1.index t 0 ∧ win0_2.index t 2 = win0_5.index t 2 :=
  (by decide +kernel : ∀ t : Fin grid0.N, _)

set_option maxHeartbeats 4000000 in
theorem algebraic : Cert.algebraic_AdamInTopIdeal_AdamInTopRefIdeal := by
  pair_intro
  · run_from Value.run_blocks m g
  · hlo_run
    · symm
      refine (Pipeline.Dat.arrAt_eq_of_coversWhere_of_agree _ 5 (stepped 0 0 (fun _ g _ _ => g) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)))
        (fun β => β (0 : Fin _) = 0 ∧ β (1 : Fin _) < 2) (by decide +kernel) (fun t hf y => ?_) (fun j hj => ?_)).trans ?_
      · refine (congrFun (Value.flushed5_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          have b := (y 1).isLt
          blk_simp at b
          obtain ⟨h0, ha, -⟩ := idx t
          omega
      · blk_simp [Pipeline.Window.cell_apply] at hj
        refine (congrFun (A_eq m c 5) _).trans ?_
        simp only [V, hostOps0]
        after_results
        exact stepped_kept _ _ _ _ _ _ _ _ _ j fun h => hj ⟨(Nat.div_one _).trans h.1, Nat.div_lt_of_lt_mul h.2.2⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)
    · symm
      refine (Pipeline.Dat.arrAt_eq_of_coversWhere_of_agree _ 6 (stepped 0 0 (delta) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg6)))
        (fun β => β (0 : Fin _) = 0 ∧ β (1 : Fin _) < 2) (by decide +kernel) (fun t hf y => ?_) (fun j hj => ?_)).trans ?_
      · refine (congrFun (Value.flushed6_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          have b := (y 1).isLt
          blk_simp at b
          obtain ⟨h0, ha, -⟩ := idx t
          obtain ⟨-, -, -, h6, h7, h8⟩ := ha 0
          obtain ⟨-, -, -, g6, g7, g8⟩ := ha 1
          omega
      · blk_simp [Pipeline.Window.cell_apply] at hj
        refine (congrFun (A_eq m c 6) _).trans ?_
        simp only [V, hostOps0]
        after_results
        exact stepped_kept _ _ _ _ _ _ _ _ _ j fun h => hj ⟨(Nat.div_one _).trans h.1, Nat.div_lt_of_lt_mul h.2.2⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)
    · symm
      refine (Pipeline.Dat.arrAt_eq_of_coversWhere_of_agree _ 7 (stepped 0 0 (fun _ g m _ => mom g m) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg7)))
        (fun β => β (0 : Fin _) = 0 ∧ β (1 : Fin _) < 2) (by decide +kernel) (fun t hf y => ?_) (fun j hj => ?_)).trans ?_
      · refine (congrFun (Value.flushed7_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          have b := (y 1).isLt
          blk_simp at b
          obtain ⟨h0, ha, -⟩ := idx t
          obtain ⟨-, -, -, h6, h7, h8⟩ := ha 0
          obtain ⟨-, -, -, g6, g7, g8⟩ := ha 1
          omega
      · blk_simp [Pipeline.Window.cell_apply] at hj
        refine (congrFun (A_eq m c 7) _).trans ?_
        simp only [V, hostOps0]
        after_results
        exact stepped_kept _ _ _ _ _ _ _ _ _ j fun h => hj ⟨(Nat.div_one _).trans h.1, Nat.div_lt_of_lt_mul h.2.2⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)
    · symm
      refine (Pipeline.Dat.arrAt_eq_of_coversWhere_of_agree _ 8 (stepped 0 0 (fun _ g _ v => vel g v) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg8)))
        (fun β => β (0 : Fin _) = 0 ∧ β (1 : Fin _) < 2) (by decide +kernel) (fun t hf y => ?_) (fun j hj => ?_)).trans ?_
      · refine (congrFun (Value.flushed8_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
        · blk_simp
          have b := (y 1).isLt
          blk_simp at b
          obtain ⟨h0, ha, -⟩ := idx t
          obtain ⟨-, -, -, h6, h7, h8⟩ := ha 0
          obtain ⟨-, -, -, g6, g7, g8⟩ := ha 1
          omega
      · blk_simp [Pipeline.Window.cell_apply] at hj
        refine (congrFun (A_eq m c 8) _).trans ?_
        simp only [V, hostOps0]
        after_results
        exact stepped_kept _ _ _ _ _ _ _ _ _ j fun h => hj ⟨(Nat.div_one _).trans h.1, Nat.div_lt_of_lt_mul h.2.2⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)

end Cert.Proof.AdamInTop

/-! ## AdamInLow: the step over the lower rows of the input weights of the first layer -/

namespace Cert.Proof.AdamInLow

open Cert.AdamInLowIdeal Cert.AdamInLowIdeal.Gen
open AdamSmall (delta mom vel quot)

/-- A block of the lower rows at a point; the gradient's rows are counted from the first of them. -/
theorem idx : ∀ t : Fin cfg0.N, (win0_5.index t 0 = 0 ∧ 2 ≤ win0_5.index t 1 ∧ win0_5.index t 1 < 4)
      ∧ (∀ a : Fin 3, win0_0.index t a = win0_5.index t a ∧ win0_3.index t a = win0_5.index t a
        ∧ win0_4.index t a = win0_5.index t a ∧ win0_6.index t a = win0_5.index t a
        ∧ win0_7.index t a = win0_5.index t a ∧ win0_8.index t a = win0_5.index t a)
      ∧ (win0_1.index t 0 + 2 = win0_5.index t 1 ∧ win0_1.index t 1 = win0_5.index t 2)
      ∧ win0_2.index t 0 = 0 ∧ win0_2.index t 1 = win0_1.index t 0 ∧ win0_2.index t 2 = win0_5.index t 2 :=
  (by decide +kernel : ∀ t : Fin grid0.N, _)

set_option maxHeartbeats 4000000 in
theorem algebraic : Cert.algebraic_AdamInLowIdeal_AdamInLowRefIdeal := by
  pair_intro
  · run_from Value.run_blocks m g
  · hlo_run
    · symm
      refine (Pipeline.Dat.arrAt_eq_of_coversWhere_of_agree _ 5 (stepped 0 1024 (fun _ g _ _ => g) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)))
        (fun β => β (0 : Fin _) = 0 ∧ 2 ≤ β (1 : Fin _)) (by decide +kernel) (fun t hf y => ?_) (fun j hj => ?_)).trans ?_
      · refine (congrFun (Value.flushed5_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
          all_goals
            have := (idx t).2.2.1.1
            omega
        · blk_simp
          have b := (y 1).isLt
          blk_simp at b
          obtain ⟨h0, ha, -⟩ := idx t
          omega
      · blk_simp [Pipeline.Window.cell_apply] at hj
        refine (congrFun (A_eq m c 5) _).trans ?_
        simp only [V, hostOps0]
        after_results
        exact stepped_kept _ _ _ _ _ _ _ _ _ j fun h => hj ⟨(Nat.div_one _).trans h.1, (Nat.le_div_iff_mul_le (by decide)).2 h.2.1⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)
    · symm
      refine (Pipeline.Dat.arrAt_eq_of_coversWhere_of_agree _ 6 (stepped 0 1024 (delta) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg6)))
        (fun β => β (0 : Fin _) = 0 ∧ 2 ≤ β (1 : Fin _)) (by decide +kernel) (fun t hf y => ?_) (fun j hj => ?_)).trans ?_
      · refine (congrFun (Value.flushed6_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
          all_goals
            have := (idx t).2.2.1.1
            omega
        · blk_simp
          have b := (y 1).isLt
          blk_simp at b
          obtain ⟨h0, ha, -⟩ := idx t
          obtain ⟨-, -, -, h6, h7, h8⟩ := ha 0
          obtain ⟨-, -, -, g6, g7, g8⟩ := ha 1
          omega
      · blk_simp [Pipeline.Window.cell_apply] at hj
        refine (congrFun (A_eq m c 6) _).trans ?_
        simp only [V, hostOps0]
        after_results
        exact stepped_kept _ _ _ _ _ _ _ _ _ j fun h => hj ⟨(Nat.div_one _).trans h.1, (Nat.le_div_iff_mul_le (by decide)).2 h.2.1⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)
    · symm
      refine (Pipeline.Dat.arrAt_eq_of_coversWhere_of_agree _ 7 (stepped 0 1024 (fun _ g m _ => mom g m) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg7)))
        (fun β => β (0 : Fin _) = 0 ∧ 2 ≤ β (1 : Fin _)) (by decide +kernel) (fun t hf y => ?_) (fun j hj => ?_)).trans ?_
      · refine (congrFun (Value.flushed7_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
          all_goals
            have := (idx t).2.2.1.1
            omega
        · blk_simp
          have b := (y 1).isLt
          blk_simp at b
          obtain ⟨h0, ha, -⟩ := idx t
          obtain ⟨-, -, -, h6, h7, h8⟩ := ha 0
          obtain ⟨-, -, -, g6, g7, g8⟩ := ha 1
          omega
      · blk_simp [Pipeline.Window.cell_apply] at hj
        refine (congrFun (A_eq m c 7) _).trans ?_
        simp only [V, hostOps0]
        after_results
        exact stepped_kept _ _ _ _ _ _ _ _ _ j fun h => hj ⟨(Nat.div_one _).trans h.1, (Nat.le_div_iff_mul_le (by decide)).2 h.2.1⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)
    · symm
      refine (Pipeline.Dat.arrAt_eq_of_coversWhere_of_agree _ 8 (stepped 0 1024 (fun _ g _ v => vel g v) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg8)))
        (fun β => β (0 : Fin _) = 0 ∧ 2 ≤ β (1 : Fin _)) (by decide +kernel) (fun t hf y => ?_) (fun j hj => ?_)).trans ?_
      · refine (congrFun (Value.flushed8_A m c t) y).trans ?_
        unfold Pipeline.Window.cut
        blk_simp
        frame_out
        pointwise [k0_pay1, k0_pay2, k0_pay3, k0_pay4, k0_pay5, k0_pay6, k0_pay7, k0_pay8, stepped, eightParts, delta, quot, mom, vel]
        rw [dif_pos ?_]
        · blk_point [iblk, V, idx t]
          all_goals
            have := (idx t).2.2.1.1
            omega
        · blk_simp
          have b := (y 1).isLt
          blk_simp at b
          obtain ⟨h0, ha, -⟩ := idx t
          obtain ⟨-, -, -, h6, h7, h8⟩ := ha 0
          obtain ⟨-, -, -, g6, g7, g8⟩ := ha 1
          omega
      · blk_simp [Pipeline.Window.cell_apply] at hj
        refine (congrFun (A_eq m c 8) _).trans ?_
        simp only [V, hostOps0]
        after_results
        exact stepped_kept _ _ _ _ _ _ _ _ _ j fun h => hj ⟨(Nat.div_one _).trans h.1, (Nat.le_div_iff_mul_le (by decide)).2 h.2.1⟩
      · funext j
        obtain ⟨a, b, d, rfl⟩ := triple j
        obtain ⟨h0, h1, h2, h3, h4, h5, h6, h7, h8⟩ := hagree c
        obtain rfl | rfl : a = 0 ∨ a = 1 := by omega
        all_goals
          by_cases hb : b.val < 1024
          all_goals
            pointwise [stepped, eightParts_eq, delta, quot, mom, vel, hb]
            try simp only [h0, h1, h2, h3, h4, h5, h6, h7, h8,
              show ¬b.val < 1024 → 1024 + (b.val - 1024) = b.val by omega, hb, not_false_eq_true]
            all_goals first | exact dif_neg (by omega) | exact dif_neg (by simp) | exact dif_pos (by omega)

end Cert.Proof.AdamInLow

/-! ## The frames

A program and its idealization are one text here, so one run serves both frames: it holds at every arithmetic, and the
two programs' loop bodies agree label by label. -/

namespace Cert.Proof

theorem defs_KernelIdeal : Cert.KernelIdeal.defs (F := Ideal) = Cert.Kernel.defs :=
  congrArg (Pipeline.defs _ <| Defs.onTc ·) (funext fun l => funext fun a => match l, a with | ⟨0, _⟩, _ => rfl)

theorem frame_KernelIdeal : Cert.quiescent_KernelIdeal := fun m ρ _ => by
  rw [defs_KernelIdeal]
  exact Cert.Kernel.Gen.frame m ρ

theorem defs_Dy : Cert.Dy.defs (F := Bits) = Cert.DyIdeal.defs :=
  congrArg (Pipeline.defs _ <| Defs.onTc ·) (funext fun l => funext fun a => match l, a with | ⟨0, _⟩, _ => rfl)

theorem frame_Dy : Cert.quiescent_Dy := fun m ρ _ => by
  rw [defs_Dy]
  exact Cert.DyIdeal.Gen.frame m ρ

theorem defs_DwOut : Cert.DwOut.defs (F := Bits) = Cert.DwOutIdeal.defs :=
  congrArg (Pipeline.defs _ <| Defs.onTc ·) (funext fun l => funext fun a => match l, a with | ⟨0, _⟩, _ => rfl)

theorem frame_DwOut : Cert.quiescent_DwOut := fun m ρ _ => by
  rw [defs_DwOut]
  exact Cert.DwOutIdeal.Gen.frame m ρ

theorem defs_DwIn : Cert.DwIn.defs (F := Bits) = Cert.DwInIdeal.defs :=
  congrArg (Pipeline.defs _ <| Defs.onTc ·) (funext fun l => funext fun a => match l, a with | ⟨0, _⟩, _ => rfl)

theorem frame_DwIn : Cert.quiescent_DwIn := fun m ρ _ => by
  rw [defs_DwIn]
  exact Cert.DwInIdeal.Gen.frame m ρ

theorem defs_Dhn : Cert.Dhn.defs (F := Bits) = Cert.DhnIdeal.defs :=
  congrArg (Pipeline.defs _ <| Defs.onTc ·) (funext fun l => funext fun a => match l, a with | ⟨0, _⟩, _ => rfl)

theorem frame_Dhn : Cert.quiescent_Dhn := fun m ρ _ => by
  rw [defs_Dhn]
  exact Cert.DhnIdeal.Gen.frame m ρ

theorem defs_MmU : Cert.MmU.defs (F := Bits) = Cert.MmUIdeal.defs :=
  congrArg (Pipeline.defs _ <| Defs.onTc ·) (funext fun l => funext fun a => match l, a with | ⟨0, _⟩, _ => rfl)

theorem frame_MmU : Cert.quiescent_MmU := fun m ρ _ => by
  rw [defs_MmU]
  exact Cert.MmUIdeal.Gen.frame m ρ

theorem defs_MmOut : Cert.MmOut.defs (F := Bits) = Cert.MmOutIdeal.defs :=
  congrArg (Pipeline.defs _ <| Defs.onTc ·) (funext fun l => funext fun a => match l, a with | ⟨0, _⟩, _ => rfl)

theorem frame_MmOut : Cert.quiescent_MmOut := fun m ρ _ => by
  rw [defs_MmOut]
  exact Cert.MmOutIdeal.Gen.frame m ρ

theorem defs_DyFirst : Cert.DyFirst.defs (F := Bits) = Cert.DyFirstIdeal.defs :=
  congrArg (Pipeline.defs _ <| Defs.onTc ·) (funext fun l => funext fun a => match l, a with | ⟨0, _⟩, _ => rfl)

theorem frame_DyFirst : Cert.quiescent_DyFirst := fun m ρ _ => by
  rw [defs_DyFirst]
  exact Cert.DyFirstIdeal.Gen.frame m ρ

theorem defs_DwInTop : Cert.DwInTop.defs (F := Bits) = Cert.DwInTopIdeal.defs :=
  congrArg (Pipeline.defs _ <| Defs.onTc ·) (funext fun l => funext fun a => match l, a with | ⟨0, _⟩, _ => rfl)

theorem frame_DwInTop : Cert.quiescent_DwInTop := fun m ρ _ => by
  rw [defs_DwInTop]
  exact Cert.DwInTopIdeal.Gen.frame m ρ

theorem defs_DwInLow : Cert.DwInLow.defs (F := Bits) = Cert.DwInLowIdeal.defs :=
  congrArg (Pipeline.defs _ <| Defs.onTc ·) (funext fun l => funext fun a => match l, a with | ⟨0, _⟩, _ => rfl)

theorem frame_DwInLow : Cert.quiescent_DwInLow := fun m ρ _ => by
  rw [defs_DwInLow]
  exact Cert.DwInLowIdeal.Gen.frame m ρ

theorem frame_DyRef : Cert.quiescent_DyRefIdeal := fun m ρ _ =>
  (θ_run Cert.DyRefIdeal.defs _ _).mono (fun r h => ⟨fun c => (h c).2, sem_eq_zero_of_no_sems (by decide) r.2⟩)
    (Cert.DyRefIdeal.Value.run (F := Ideal) m ρ)

theorem frame_DwOutRef : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem frame_DwInRef : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem frame_DhnRef : Cert.quiescent_DhnRefIdeal := fun m ρ _ =>
  (θ_run Cert.DhnRefIdeal.defs _ _).mono (fun r h => ⟨fun c => (h c).2, sem_eq_zero_of_no_sems (by decide) r.2⟩)
    (Cert.DhnRefIdeal.Value.run (F := Ideal) m ρ)

theorem frame_MmURef : Cert.quiescent_MmURefIdeal := fun m ρ _ =>
  (θ_run Cert.MmURefIdeal.defs _ _).mono (fun r h => ⟨fun c => (h c).2, sem_eq_zero_of_no_sems (by decide) r.2⟩)
    (Cert.MmURefIdeal.Value.run (F := Ideal) m ρ)

theorem frame_MmOutRef : Cert.quiescent_MmOutRefIdeal := fun m ρ _ =>
  (θ_run Cert.MmOutRefIdeal.defs _ _).mono (fun r h => ⟨fun c => (h c).2, sem_eq_zero_of_no_sems (by decide) r.2⟩)
    (Cert.MmOutRefIdeal.Value.run (F := Ideal) m ρ)

theorem frame_DyFirstRef : Cert.quiescent_DyFirstRefIdeal := fun m ρ _ =>
  (θ_run Cert.DyFirstRefIdeal.defs _ _).mono (fun r h => ⟨fun c => (h c).2, sem_eq_zero_of_no_sems (by decide) r.2⟩)
    (Cert.DyFirstRefIdeal.Value.run (F := Ideal) m ρ)

theorem frame_DwInTopRef : Cert.quiescent_DwInTopRefIdeal := fun m ρ _ =>
  (θ_run Cert.DwInTopRefIdeal.defs _ _).mono (fun r h => ⟨fun c => (h c).2, sem_eq_zero_of_no_sems (by decide) r.2⟩)
    (Cert.DwInTopRefIdeal.Value.run (F := Ideal) m ρ)

theorem frame_DwInLowRef : Cert.quiescent_DwInLowRefIdeal := fun m ρ _ =>
  (θ_run Cert.DwInLowRefIdeal.defs _ _).mono (fun r h => ⟨fun c => (h c).2, sem_eq_zero_of_no_sems (by decide) r.2⟩)
    (Cert.DwInLowRefIdeal.Value.run (F := Ideal) m ρ)

theorem frame_AdamSmallRef : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

theorem frame_NormRef : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem frame_SumLateRef : Cert.quiescent_SumLateRefIdeal := fun m ρ _ =>
  (θ_run Cert.SumLateRefIdeal.defs _ _).mono (fun r h => ⟨fun c => (h c).2, sem_eq_zero_of_no_sems (by decide) r.2⟩)
    (Cert.SumLateRefIdeal.Value.run (F := Ideal) m ρ)

theorem frame_SumVecRef : Cert.quiescent_SumVecRefIdeal := fun m ρ _ =>
  (θ_run Cert.SumVecRefIdeal.defs _ _).mono (fun r h => ⟨fun c => (h c).2, sem_eq_zero_of_no_sems (by decide) r.2⟩)
    (Cert.SumVecRefIdeal.Value.run (F := Ideal) m ρ)

theorem frame_SumMapsRef : Cert.quiescent_SumMapsRefIdeal := fun m ρ _ =>
  (θ_run Cert.SumMapsRefIdeal.defs _ _).mono (fun r h => ⟨fun c => (h c).2, sem_eq_zero_of_no_sems (by decide) r.2⟩)
    (Cert.SumMapsRefIdeal.Value.run (F := Ideal) m ρ)

theorem frame_NormBwdRef : Cert.quiescent_NormBwdRefIdeal := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

theorem frame_AdamOutLateRef : Cert.quiescent_AdamOutLateRefIdeal := fun m ρ _ =>
  (θ_run Cert.AdamOutLateRefIdeal.defs _ _).mono (fun r h => ⟨fun c => (h c).2.2.2.2, sem_eq_zero_of_no_sems (by decide) r.2⟩)
    (Cert.AdamOutLateRefIdeal.Value.run (F := Ideal) m ρ)

theorem frame_AdamOutEarlyRef : Cert.quiescent_AdamOutEarlyRefIdeal := fun m ρ _ =>
  (θ_run Cert.AdamOutEarlyRefIdeal.defs _ _).mono (fun r h => ⟨fun c => (h c).2.2.2.2, sem_eq_zero_of_no_sems (by decide) r.2⟩)
    (Cert.AdamOutEarlyRefIdeal.Value.run (F := Ideal) m ρ)

theorem frame_AdamInLateRef : Cert.quiescent_AdamInLateRefIdeal := fun m ρ _ =>
  (θ_run Cert.AdamInLateRefIdeal.defs _ _).mono (fun r h => ⟨fun c => (h c).2.2.2.2, sem_eq_zero_of_no_sems (by decide) r.2⟩)
    (Cert.AdamInLateRefIdeal.Value.run (F := Ideal) m ρ)

theorem frame_AdamInTopRef : Cert.quiescent_AdamInTopRefIdeal := fun m ρ _ =>
  (θ_run Cert.AdamInTopRefIdeal.defs _ _).mono (fun r h => ⟨fun c => (h c).2.2.2.2, sem_eq_zero_of_no_sems (by decide) r.2⟩)
    (Cert.AdamInTopRefIdeal.Value.run (F := Ideal) m ρ)

theorem frame_AdamInLowRef : Cert.quiescent_AdamInLowRefIdeal := fun m ρ _ =>
  (θ_run Cert.AdamInLowRefIdeal.defs _ _).mono (fun r h => ⟨fun c => (h c).2.2.2.2, sem_eq_zero_of_no_sems (by decide) r.2⟩)
    (Cert.AdamInLowRefIdeal.Value.run (F := Ideal) m ρ)

theorem claim : Cert.Claim :=
  ⟨Cert.Kernel.Gen.facts, Cert.KernelIdeal.Gen.facts,
    Cert.Dy.Gen.facts, Cert.DyIdeal.Gen.facts, Cert.DyRefIdeal.Gen.facts,
    Cert.DwOut.Gen.facts, Cert.DwOutIdeal.Gen.facts, Cert.DwOutRefIdeal.Gen.facts,
    Cert.DwIn.Gen.facts, Cert.DwInIdeal.Gen.facts, Cert.DwInRefIdeal.Gen.facts,
    Cert.Dhn.Gen.facts, Cert.DhnIdeal.Gen.facts, Cert.DhnRefIdeal.Gen.facts,
    Cert.MmU.Gen.facts, Cert.MmUIdeal.Gen.facts, Cert.MmURefIdeal.Gen.facts,
    Cert.MmOut.Gen.facts, Cert.MmOutIdeal.Gen.facts, Cert.MmOutRefIdeal.Gen.facts,
    Cert.DyFirst.Gen.facts, Cert.DyFirstIdeal.Gen.facts, Cert.DyFirstRefIdeal.Gen.facts,
    Cert.DwInTop.Gen.facts, Cert.DwInTopIdeal.Gen.facts, Cert.DwInTopRefIdeal.Gen.facts,
    Cert.DwInLow.Gen.facts, Cert.DwInLowIdeal.Gen.facts, Cert.DwInLowRefIdeal.Gen.facts,
    Cert.AdamSmall.Gen.facts, Cert.AdamSmallIdeal.Gen.facts, Cert.AdamSmallRefIdeal.Gen.facts,
    Cert.Norm.Gen.facts, Cert.NormIdeal.Gen.facts, Cert.NormRefIdeal.Gen.facts,
    Cert.SumLate.Gen.facts, Cert.SumLateIdeal.Gen.facts, Cert.SumLateRefIdeal.Gen.facts,
    Cert.SumVec.Gen.facts, Cert.SumVecIdeal.Gen.facts, Cert.SumVecRefIdeal.Gen.facts,
    Cert.SumMaps.Gen.facts, Cert.SumMapsIdeal.Gen.facts, Cert.SumMapsRefIdeal.Gen.facts,
    Cert.NormBwd.Gen.facts, Cert.NormBwdIdeal.Gen.facts, Cert.NormBwdRefIdeal.Gen.facts,
    Cert.AdamOutLate.Gen.facts, Cert.AdamOutLateIdeal.Gen.facts, Cert.AdamOutLateRefIdeal.Gen.facts,
    Cert.AdamOutEarly.Gen.facts, Cert.AdamOutEarlyIdeal.Gen.facts, Cert.AdamOutEarlyRefIdeal.Gen.facts,
    Cert.AdamInLate.Gen.facts, Cert.AdamInLateIdeal.Gen.facts, Cert.AdamInLateRefIdeal.Gen.facts,
    Cert.AdamInTop.Gen.facts, Cert.AdamInTopIdeal.Gen.facts, Cert.AdamInTopRefIdeal.Gen.facts,
    Cert.AdamInLow.Gen.facts, Cert.AdamInLowIdeal.Gen.facts, Cert.AdamInLowRefIdeal.Gen.facts,
    (fun m ρ _ => Cert.Kernel.Gen.frame m ρ), frame_KernelIdeal,
    frame_Dy, (fun m ρ _ => Cert.DyIdeal.Gen.frame m ρ), frame_DyRef,
    frame_DwOut, (fun m ρ _ => Cert.DwOutIdeal.Gen.frame m ρ), frame_DwOutRef,
    frame_DwIn, (fun m ρ _ => Cert.DwInIdeal.Gen.frame m ρ), frame_DwInRef,
    frame_Dhn, (fun m ρ _ => Cert.DhnIdeal.Gen.frame m ρ), frame_DhnRef,
    frame_MmU, (fun m ρ _ => Cert.MmUIdeal.Gen.frame m ρ), frame_MmURef,
    frame_MmOut, (fun m ρ _ => Cert.MmOutIdeal.Gen.frame m ρ), frame_MmOutRef,
    frame_DyFirst, (fun m ρ _ => Cert.DyFirstIdeal.Gen.frame m ρ), frame_DyFirstRef,
    frame_DwInTop, (fun m ρ _ => Cert.DwInTopIdeal.Gen.frame m ρ), frame_DwInTopRef,
    frame_DwInLow, (fun m ρ _ => Cert.DwInLowIdeal.Gen.frame m ρ), frame_DwInLowRef,
    (fun m ρ _ => Cert.AdamSmall.Gen.frame m ρ), (fun m ρ _ => Cert.AdamSmallIdeal.Gen.frame m ρ), frame_AdamSmallRef,
    (fun m ρ _ => Cert.Norm.Gen.frame m ρ), (fun m ρ _ => Cert.NormIdeal.Gen.frame m ρ), frame_NormRef,
    (fun m ρ _ => Cert.SumLate.Gen.frame m ρ), (fun m ρ _ => Cert.SumLateIdeal.Gen.frame m ρ), frame_SumLateRef,
    (fun m ρ _ => Cert.SumVec.Gen.frame m ρ), (fun m ρ _ => Cert.SumVecIdeal.Gen.frame m ρ), frame_SumVecRef,
    (fun m ρ _ => Cert.SumMaps.Gen.frame m ρ), (fun m ρ _ => Cert.SumMapsIdeal.Gen.frame m ρ), frame_SumMapsRef,
    (fun m ρ _ => Cert.NormBwd.Gen.frame m ρ), (fun m ρ _ => Cert.NormBwdIdeal.Gen.frame m ρ), frame_NormBwdRef,
    (fun m ρ _ => Cert.AdamOutLate.Gen.frame m ρ), (fun m ρ _ => Cert.AdamOutLateIdeal.Gen.frame m ρ), frame_AdamOutLateRef,
    (fun m ρ _ => Cert.AdamOutEarly.Gen.frame m ρ), (fun m ρ _ => Cert.AdamOutEarlyIdeal.Gen.frame m ρ), frame_AdamOutEarlyRef,
    (fun m ρ _ => Cert.AdamInLate.Gen.frame m ρ), (fun m ρ _ => Cert.AdamInLateIdeal.Gen.frame m ρ), frame_AdamInLateRef,
    (fun m ρ _ => Cert.AdamInTop.Gen.frame m ρ), (fun m ρ _ => Cert.AdamInTopIdeal.Gen.frame m ρ), frame_AdamInTopRef,
    (fun m ρ _ => Cert.AdamInLow.Gen.frame m ρ), (fun m ρ _ => Cert.AdamInLowIdeal.Gen.frame m ρ), frame_AdamInLowRef,
    trivial,
    trivial, Dy.algebraic,
    trivial, DwOut.algebraic,
    trivial, DwIn.algebraic,
    trivial, Dhn.algebraic,
    trivial, MmU.algebraic,
    trivial, MmOut.algebraic,
    trivial, DyFirst.algebraic,
    trivial, DwInTop.algebraic,
    trivial, DwInLow.algebraic,
    trivial, AdamSmall.algebraic,
    trivial, Norm.algebraic,
    trivial, SumLate.algebraic,
    trivial, SumVec.algebraic,
    trivial, SumMaps.algebraic,
    trivial, NormBwd.algebraic,
    trivial, AdamOutLate.algebraic,
    trivial, AdamOutEarly.algebraic,
    trivial, AdamInLate.algebraic,
    trivial, AdamInTop.algebraic,
    trivial, AdamInLow.algebraic⟩

end Cert.Proof

end
